-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_defined_inputs_KernelIdeal [hPre_defined_inputs_KernelIdeal : Cert.Pre_defined_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_defined_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_defined_inputs_ReferenceIdeal [hPre_defined_inputs_ReferenceIdeal : Cert.Pre_defined_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_defined_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_defined_inputs_KernelIdeal [hKernelIdeal : Cert.KernelIdeal.Facts] [hPre_defined_inputs_KernelIdeal : Cert.Pre_defined_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_defined_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_defined_inputs_ReferenceIdeal [hReferenceIdeal : Cert.ReferenceIdeal.Facts] [hPre_defined_inputs_ReferenceIdeal : Cert.Pre_defined_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_defined_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_defined_inputs_KernelIdeal [hKernelIdeal : Cert.KernelIdeal.Facts] [hReferenceIdeal : Cert.ReferenceIdeal.Facts] [hPre_defined_inputs_KernelIdeal : Cert.Pre_defined_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_defined_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![64, 16, 8, 64]⟩ ⟨4, ![256, 16, 8, 64]⟩ (Layout.meshBlock [2, 2, 4] ![[2], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![64, 16, 8, 64]⟩ ⟨4, ![256, 16, 8, 64]⟩ (Layout.meshBlock [2, 2, 4] ![[2], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_defined_inputs_KernelIdeal : Cert.Pre_defined_inputs_KernelIdeal.Facts) (hPre_defined_inputs_ReferenceIdeal : Cert.Pre_defined_inputs_ReferenceIdeal.Facts),
    quiescent_Kernel (hKernel := hKernel)
    ∧ quiescent_KernelIdeal (hKernelIdeal := hKernelIdeal)
    ∧ quiescent_KernelIdeal_pre_defined_inputs_KernelIdeal (hKernelIdeal := hKernelIdeal) (hPre_defined_inputs_KernelIdeal := hPre_defined_inputs_KernelIdeal)
    ∧ quiescent_ReferenceIdeal (hReferenceIdeal := hReferenceIdeal)
    ∧ quiescent_ReferenceIdeal_pre_defined_inputs_ReferenceIdeal (hReferenceIdeal := hReferenceIdeal) (hPre_defined_inputs_ReferenceIdeal := hPre_defined_inputs_ReferenceIdeal)
    ∧ preserves_Kernel_KernelIdeal
    ∧ algebraic_KernelIdeal_ReferenceIdeal_pre_defined_inputs_KernelIdeal (hKernelIdeal := hKernelIdeal) (hReferenceIdeal := hReferenceIdeal) (hPre_defined_inputs_KernelIdeal := hPre_defined_inputs_KernelIdeal)
-- ==== Pre_defined_inputs_KernelIdeal.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8 : Shape := ⟨1, ![8]⟩
abbrev S_ : Shape := ⟨0, ![]⟩

class Facts : Prop where
  bcast_S_S8x64 : S_.BroadcastsInDim S8x64 (![] : Fin 0 → Fin S8x64.rank)
  reducesTo_S8x64_S_d0_1 : S8x64.ReducesTo [0, 1] S_
  h_S_ : 0 < S_.numel
  bcast_S_S8 : S_.BroadcastsInDim S8 (![] : Fin 0 → Fin S8.rank)
  reducesTo_S8_S_d0 : S8.ReducesTo [0] S_
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  bcast_S_S64x16x8x64 : S_.BroadcastsInDim S64x16x8x64 (![] : Fin 0 → Fin S64x16x8x64.rank)
  reducesTo_S64x16x8x64_S_d0_1_2_3 : S64x16x8x64.ReducesTo [0, 1, 2, 3] S_

variable [Facts]

def fn_part1 {F : FTy → Type} [FloatOps F] (main_v14 : IVec S_ 1) (main_v15 : FVec F S64x16x8x64 .f32) (main_cst_5 : FVec F S_ .f32) : IVec S_ 1 :=
  let main_v16 : FVec F S64x16x8x64 .f32 := broadcastInDim S64x16x8x64 ![] bcast_S_S64x16x8x64 main_cst_5
  let main_v17 : IVec S64x16x8x64 1 := cmpf .olt main_v15 main_v16
  let main_c_6 : IVec S_ 1 := constantI S_ 1 1#1
  let main_v18 : IVec S_ 1 := (fun x v => Host.reduce IntOp.andi x v reducesTo_S64x16x8x64_S_d0_1_2_3 h_S_) main_v17 main_c_6
  let main_v19 : IVec S_ 1 := andi main_v14 main_v18
  main_v19

def fn {F : FTy → Type} [FloatOps F] (main_arg0 : FVec F S8x1x8x64 .f32) (main_arg1 : FVec F S64x16x8x64 .f32) (main_arg2 : FVec F S64x16x8x64 .f32) (main_arg3 : IVec S8x64 32) (main_arg4 : IVec S8 32) : IVec S_ 1 :=
  let main_c : IVec S_ 32 := constantI S_ 32 0#32
  let main_v0 : IVec S8x64 32 := broadcastInDim S8x64 ![] bcast_S_S8x64 main_c
  let main_v1 : IVec S8x64 1 := cmpi .sge main_arg3 main_v0
  let main_c_0 : IVec S_ 32 := constantI S_ 32 256#32
  let main_v2 : IVec S8x64 32 := broadcastInDim S8x64 ![] bcast_S_S8x64 main_c_0
  let main_v3 : IVec S8x64 1 := cmpi .slt main_arg3 main_v2
  let main_v4 : IVec S8x64 1 := andi main_v1 main_v3
  let main_c_1 : IVec S_ 1 := constantI S_ 1 1#1
  let main_v5 : IVec S_ 1 := (fun x v => Host.reduce IntOp.andi x v reducesTo_S8x64_S_d0_1 h_S_) main_v4 main_c_1
  let main_c_2 : IVec S_ 32 := constantI S_ 32 1#32
  let main_v6 : IVec S8 32 := broadcastInDim S8 ![] bcast_S_S8 main_c_2
  let main_v7 : IVec S8 1 := cmpi .sge main_arg4 main_v6
  let main_c_3 : IVec S_ 1 := constantI S_ 1 1#1
  let main_v8 : IVec S_ 1 := (fun x v => Host.reduce IntOp.andi x v reducesTo_S8_S_d0 h_S_) main_v7 main_c_3
  let main_v9 : IVec S_ 1 := andi main_v5 main_v8
  let main_v10 : FVec F S8x1x8x64 .f32 := Host.absf main_arg0
  let main_cst : FVec F S_ .f32 := constant S_ .f32 0x7F800000#32
  let main_v11 : FVec F S8x1x8x64 .f32 := broadcastInDim S8x1x8x64 ![] bcast_S_S8x1x8x64 main_cst
  let main_v12 : IVec S8x1x8x64 1 := cmpf .olt main_v10 main_v11
  let main_c_4 : IVec S_ 1 := constantI S_ 1 1#1
  let main_v13 : IVec S_ 1 := (fun x v => Host.reduce IntOp.andi x v reducesTo_S8x1x8x64_S_d0_1_2_3 h_S_) main_v12 main_c_4
  let main_v14 : IVec S_ 1 := andi main_v9 main_v13
  let main_v15 : FVec F S64x16x8x64 .f32 := Host.absf main_arg1
  let main_cst_5 : FVec F S_ .f32 := constant S_ .f32 0x7F800000#32
  fn_part1 (F := F) main_v14 main_v15 main_cst_5
-- ==== Pre_defined_inputs_ReferenceIdeal.lean ====
abbrev S8x1x8x64 : Shape := ⟨4, ![8, 1, 8, 64]⟩
abbrev S256x16x8x64 : Shape := ⟨4, ![256, 16, 8, 64]⟩
abbrev S8x64 : Shape := ⟨2, ![8, 64]⟩
abbrev S8 : Shape := ⟨1, ![8]⟩
abbrev S_ : Shape := ⟨0, ![]⟩

class Facts : Prop where
  bcast_S_S8x64 : S_.BroadcastsInDim S8x64 (![] : Fin 0 → Fin S8x64.rank)
  reducesTo_S8x64_S_d0_1 : S8x64.ReducesTo [0, 1] S_
  h_S_ : 0 < S_.numel
  bcast_S_S8 : S_.BroadcastsInDim S8 (![] : Fin 0 → Fin S8.rank)
  reducesTo_S8_S_d0 : S8.ReducesTo [0] S_
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  bcast_S_S256x16x8x64 : S_.BroadcastsInDim S256x16x8x64 (![] : Fin 0 → Fin S256x16x8x64.rank)
  reducesTo_S256x16x8x64_S_d0_1_2_3 : S256x16x8x64.ReducesTo [0, 1, 2, 3] S_

variable [Facts]

def fn_part1 {F : FTy → Type} [FloatOps F] (main_v14 : IVec S_ 1) (main_v15 : FVec F S256x16x8x64 .f32) (main_cst_5 : FVec F S_ .f32) : IVec S_ 1 :=
  let main_v16 : FVec F S256x16x8x64 .f32 := broadcastInDim S256x16x8x64 ![] bcast_S_S256x16x8x64 main_cst_5
  let main_v17 : IVec S256x16x8x64 1 := cmpf .olt main_v15 main_v16
  let main_c_6 : IVec S_ 1 := constantI S_ 1 1#1
  let main_v18 : IVec S_ 1 := (fun x v => Host.reduce IntOp.andi x v reducesTo_S256x16x8x64_S_d0_1_2_3 h_S_) main_v17 main_c_6
  let main_v19 : IVec S_ 1 := andi main_v14 main_v18
  main_v19

def fn {F : FTy → Type} [FloatOps F] (main_arg0 : FVec F S8x1x8x64 .f32) (main_arg1 : FVec F S256x16x8x64 .f32) (main_arg2 : FVec F S256x16x8x64 .f32) (main_arg3 : IVec S8x64 32) (main_arg4 : IVec S8 32) : IVec S_ 1 :=
  let main_c : IVec S_ 32 := constantI S_ 32 0#32
  let main_v0 : IVec S8x64 32 := broadcastInDim S8x64 ![] bcast_S_S8x64 main_c
  let main_v1 : IVec S8x64 1 := cmpi .sge main_arg3 main_v0
  let main_c_0 : IVec S_ 32 := constantI S_ 32 256#32
  let main_v2 : IVec S8x64 32 := broadcastInDim S8x64 ![] bcast_S_S8x64 main_c_0
  let main_v3 : IVec S8x64 1 := cmpi .slt main_arg3 main_v2
  let main_v4 : IVec S8x64 1 := andi main_v1 main_v3
  let main_c_1 : IVec S_ 1 := constantI S_ 1 1#1
  let main_v5 : IVec S_ 1 := (fun x v => Host.reduce IntOp.andi x v reducesTo_S8x64_S_d0_1 h_S_) main_v4 main_c_1
  let main_c_2 : IVec S_ 32 := constantI S_ 32 1#32
  let main_v6 : IVec S8 32 := broadcastInDim S8 ![] bcast_S_S8 main_c_2
  let main_v7 : IVec S8 1 := cmpi .sge main_arg4 main_v6
  let main_c_3 : IVec S_ 1 := constantI S_ 1 1#1
  let main_v8 : IVec S_ 1 := (fun x v => Host.reduce IntOp.andi x v reducesTo_S8_S_d0 h_S_) main_v7 main_c_3
  let main_v9 : IVec S_ 1 := andi main_v5 main_v8
  let main_v10 : FVec F S8x1x8x64 .f32 := Host.absf main_arg0
  let main_cst : FVec F S_ .f32 := constant S_ .f32 0x7F800000#32
  let main_v11 : FVec F S8x1x8x64 .f32 := broadcastInDim S8x1x8x64 ![] bcast_S_S8x1x8x64 main_cst
  let main_v12 : IVec S8x1x8x64 1 := cmpf .olt main_v10 main_v11
  let main_c_4 : IVec S_ 1 := constantI S_ 1 1#1
  let main_v13 : IVec S_ 1 := (fun x v => Host.reduce IntOp.andi x v reducesTo_S8x1x8x64_S_d0_1_2_3 h_S_) main_v12 main_c_4
  let main_v14 : IVec S_ 1 := andi main_v9 main_v13
  let main_v15 : FVec F S256x16x8x64 .f32 := Host.absf main_arg1
  let main_cst_5 : FVec F S_ .f32 := constant S_ .f32 0x7F800000#32
  fn_part1 (F := F) main_v14 main_v15 main_cst_5
-- ==== Kernel.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8 : Shape := ⟨1, ![8]⟩
abbrev S1024x8x64 : Shape := ⟨3, ![1024, 8, 64]⟩
abbrev S8x1024x64 : Shape := ⟨3, ![8, 1024, 64]⟩
abbrev S4x8x8x64 : Shape := ⟨4, ![4, 8, 8, 64]⟩
abbrev S4x2x8x8 : Shape := ⟨4, ![4, 2, 8, 8]⟩
abbrev S8x1024 : Shape := ⟨2, ![8, 1024]⟩
abbrev S2x3 : Shape := ⟨2, ![2, 3]⟩
abbrev S_ : Shape := ⟨0, ![]⟩
abbrev S64x1024 : Shape := ⟨2, ![64, 1024]⟩
abbrev S64x64 : Shape := ⟨2, ![64, 64]⟩
abbrev S64x8 : Shape := ⟨2, ![64, 8]⟩
abbrev S64x1 : Shape := ⟨2, ![64, 1]⟩
abbrev S1 : Shape := ⟨1, ![1]⟩
abbrev S1024 : Shape := ⟨1, ![1024]⟩
abbrev S1x1024 : Shape := ⟨2, ![1, 1024]⟩
abbrev S8x1x1x64 : Shape := ⟨4, ![8, 1, 1, 64]⟩
abbrev S1x1024x64 : Shape := ⟨3, ![1, 1024, 64]⟩
abbrev S1024x64 : Shape := ⟨2, ![1024, 64]⟩
abbrev S8x1 : Shape := ⟨2, ![8, 1]⟩
abbrev S1x8x1x64 : Shape := ⟨4, ![1, 8, 1, 64]⟩
abbrev S1x1x8x1 : Shape := ⟨4, ![1, 1, 8, 1]⟩
abbrev S1x1 : Shape := ⟨2, ![1, 1]⟩
abbrev S1x8x8x64 : Shape := ⟨4, ![1, 8, 8, 64]⟩
abbrev S8x8x64 : Shape := ⟨3, ![8, 8, 64]⟩
abbrev S1x2x8x8 : Shape := ⟨4, ![1, 2, 8, 8]⟩
abbrev S2x8x8 : Shape := ⟨3, ![2, 8, 8]⟩
abbrev S4x1x8x1 : Shape := ⟨4, ![4, 1, 8, 1]⟩
abbrev S4x8x1 : Shape := ⟨3, ![4, 8, 1]⟩
abbrev S1x8x1 : Shape := ⟨3, ![1, 8, 1]⟩
abbrev S4x8x1x64 : Shape := ⟨4, ![4, 8, 1, 64]⟩
abbrev S4x8x64 : Shape := ⟨3, ![4, 8, 64]⟩

abbrev nBuf : Space → Nat
  | .hbm => 10
  | .vmem => 8
  | .smem => 1
  | _ => 0

abbrev bufTy : (tb : Table) → Fin (tcTables nBuf tb) → BufTy
  | .hbm, ⟨0, _⟩ => ⟨S8x1x8x64, .f32⟩
  | .hbm, ⟨1, _⟩ => ⟨S64x16x8x64, .f32⟩
  | .hbm, ⟨2, _⟩ => ⟨S64x16x8x64, .f32⟩
  | .hbm, ⟨3, _⟩ => ⟨S8x64, .i32⟩
  | .hbm, ⟨4, _⟩ => ⟨S8, .i32⟩
  | .hbm, ⟨5, _⟩ => ⟨S1024x8x64, .f32⟩
  | .hbm, ⟨6, _⟩ => ⟨S8x1024x64, .f32⟩
  | .hbm, ⟨7, _⟩ => ⟨S1024x8x64, .f32⟩
  | .hbm, ⟨8, _⟩ => ⟨S8x1024x64, .f32⟩
  | .hbm, ⟨9, _⟩ => ⟨S8x1x8x64, .f32⟩
  | .local _ .vmem, ⟨0, _⟩ => ⟨S8x1x8x64, .f32⟩
  | .local _ .vmem, ⟨1, _⟩ => ⟨S8x1024x64, .f32⟩
  | .local _ .vmem, ⟨2, _⟩ => ⟨S8x1024x64, .f32⟩
  | .local _ .vmem, ⟨3, _⟩ => ⟨S8x64, .i32⟩
  | .local _ .vmem, ⟨4, _⟩ => ⟨S8x1x8x64, .f32⟩
  | .local _ .vmem, ⟨5, _⟩ => ⟨S4x8x8x64, .f32⟩
  | .local _ .vmem, ⟨6, _⟩ => ⟨S4x2x8x8, .f32⟩
  | .local _ .vmem, ⟨7, _⟩ => ⟨S8x1024, .f32⟩
  | .local _ .smem, ⟨0, _⟩ => ⟨S8, .i32⟩
  | _, _ => ⟨S8x1x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v21 : BitVec 32 := Scalar.muli v2 c8_i32_9
  let v22 : BitVec 32 := Scalar.addi c0_i32_10 v21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c1_i32_12 : BitVec 32 := 1#32
  let v25 : BitVec 32 := Scalar.muli v20 c1_i32_12
  let v26 : BitVec 32 := Scalar.addi v24 v25
  v26.toNat
def k0_dev2 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_21 : BitVec 32 := 8#32
  let v38 : BitVec 32 := Scalar.muli v2 c8_i32_21
  let v39 : BitVec 32 := Scalar.addi c0_i32_22 v38
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v27 : BitVec 32 := Scalar.addi v8 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c1_i32_24 : BitVec 32 := 1#32
  let v42 : BitVec 32 := Scalar.muli v37 c1_i32_24
  let v43 : BitVec 32 := Scalar.addi v41 v42
  v43.toNat
def k0_dev3 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v55 : BitVec 32 := Scalar.muli v2 c8_i32_32
  let v56 : BitVec 32 := Scalar.addi c0_i32_33 v55
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_34 : BitVec 32 := 4#32
  let v57 : BitVec 32 := Scalar.muli v5 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1_i32_35 : BitVec 32 := 1#32
  let v59 : BitVec 32 := Scalar.muli v54 c1_i32_35
  let v60 : BitVec 32 := Scalar.addi v58 v59
  v60.toNat
def k0_dev4 (d0 : Dev nD) : Nat :=
  let c0_i32_328 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_327 : BitVec 32 := 8#32
  let v467 : BitVec 32 := Scalar.muli v2 c8_i32_327
  let v468 : BitVec 32 := Scalar.addi c0_i32_328 v467
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_329 : BitVec 32 := 4#32
  let v469 : BitVec 32 := Scalar.muli v5 c4_i32_329
  let v470 : BitVec 32 := Scalar.addi v468 v469
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_314 : BitVec 32 := 1#32
  let v456 : BitVec 32 := Scalar.addi v8 c1_i32_314
  let c4_i32_315 : BitVec 32 := 4#32
  let c0_i32_316 : BitVec 32 := 0#32
  let v457 : BitVec 1 := Scalar.cmpi .eq c4_i32_315 c0_i32_316
  let c1_i32_317 : BitVec 32 := 1#32
  let v458 : BitVec 32 := Scalar.select v457 c1_i32_317 c4_i32_315
  let v459 : BitVec 32 := Scalar.remsi v456 v458
  let c0_i32_319 : BitVec 32 := 0#32
  let v461 : BitVec 1 := Scalar.cmpi .slt v459 c0_i32_319
  let c0_i32_320 : BitVec 32 := 0#32
  let v462 : BitVec 1 := Scalar.cmpi .slt v458 c0_i32_320
  let v463 : BitVec 1 := Scalar.xori v461 v462
  let c0_i32_318 : BitVec 32 := 0#32
  let v460 : BitVec 1 := Scalar.cmpi .ne v459 c0_i32_318
  let v464 : BitVec 1 := Scalar.andi v463 v460
  let v465 : BitVec 32 := Scalar.addi v459 v458
  let v466 : BitVec 32 := Scalar.select v464 v465 v459
  let c1_i32_330 : BitVec 32 := 1#32
  let v471 : BitVec 32 := Scalar.muli v466 c1_i32_330
  let v472 : BitVec 32 := Scalar.addi v470 v471
  v472.toNat
def k0_dev5 (d0 : Dev nD) : Nat :=
  let c0_i32_344 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_343 : BitVec 32 := 8#32
  let v481 : BitVec 32 := Scalar.muli v2 c8_i32_343
  let v482 : BitVec 32 := Scalar.addi c0_i32_344 v481
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_345 : BitVec 32 := 4#32
  let v483 : BitVec 32 := Scalar.muli v5 c4_i32_345
  let v484 : BitVec 32 := Scalar.addi v482 v483
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_314 : BitVec 32 := 1#32
  let v456 : BitVec 32 := Scalar.addi v8 c1_i32_314
  let c4_i32_315 : BitVec 32 := 4#32
  let c0_i32_316 : BitVec 32 := 0#32
  let v457 : BitVec 1 := Scalar.cmpi .eq c4_i32_315 c0_i32_316
  let c1_i32_317 : BitVec 32 := 1#32
  let v458 : BitVec 32 := Scalar.select v457 c1_i32_317 c4_i32_315
  let v459 : BitVec 32 := Scalar.remsi v456 v458
  let c0_i32_319 : BitVec 32 := 0#32
  let v461 : BitVec 1 := Scalar.cmpi .slt v459 c0_i32_319
  let c0_i32_320 : BitVec 32 := 0#32
  let v462 : BitVec 1 := Scalar.cmpi .slt v458 c0_i32_320
  let v463 : BitVec 1 := Scalar.xori v461 v462
  let c0_i32_318 : BitVec 32 := 0#32
  let v460 : BitVec 1 := Scalar.cmpi .ne v459 c0_i32_318
  let v464 : BitVec 1 := Scalar.andi v463 v460
  let v465 : BitVec 32 := Scalar.addi v459 v458
  let v466 : BitVec 32 := Scalar.select v464 v465 v459
  let c1_i32_346 : BitVec 32 := 1#32
  let v485 : BitVec 32 := Scalar.muli v466 c1_i32_346
  let v486 : BitVec 32 := Scalar.addi v484 v485
  v486.toNat
def k0_dev6 (d0 : Dev nD) : Nat :=
  let c0_i32_367 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_366 : BitVec 32 := 8#32
  let v506 : BitVec 32 := Scalar.muli v2 c8_i32_366
  let v507 : BitVec 32 := Scalar.addi c0_i32_367 v506
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_368 : BitVec 32 := 4#32
  let v508 : BitVec 32 := Scalar.muli v5 c4_i32_368
  let v509 : BitVec 32 := Scalar.addi v507 v508
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_353 : BitVec 32 := 2#32
  let v495 : BitVec 32 := Scalar.addi v8 c2_i32_353
  let c4_i32_354 : BitVec 32 := 4#32
  let c0_i32_355 : BitVec 32 := 0#32
  let v496 : BitVec 1 := Scalar.cmpi .eq c4_i32_354 c0_i32_355
  let c1_i32_356 : BitVec 32 := 1#32
  let v497 : BitVec 32 := Scalar.select v496 c1_i32_356 c4_i32_354
  let v498 : BitVec 32 := Scalar.remsi v495 v497
  let c0_i32_358 : BitVec 32 := 0#32
  let v500 : BitVec 1 := Scalar.cmpi .slt v498 c0_i32_358
  let c0_i32_359 : BitVec 32 := 0#32
  let v501 : BitVec 1 := Scalar.cmpi .slt v497 c0_i32_359
  let v502 : BitVec 1 := Scalar.xori v500 v501
  let c0_i32_357 : BitVec 32 := 0#32
  let v499 : BitVec 1 := Scalar.cmpi .ne v498 c0_i32_357
  let v503 : BitVec 1 := Scalar.andi v502 v499
  let v504 : BitVec 32 := Scalar.addi v498 v497
  let v505 : BitVec 32 := Scalar.select v503 v504 v498
  let c1_i32_369 : BitVec 32 := 1#32
  let v510 : BitVec 32 := Scalar.muli v505 c1_i32_369
  let v511 : BitVec 32 := Scalar.addi v509 v510
  v511.toNat
def k0_dev7 (d0 : Dev nD) : Nat :=
  let c0_i32_383 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_382 : BitVec 32 := 8#32
  let v520 : BitVec 32 := Scalar.muli v2 c8_i32_382
  let v521 : BitVec 32 := Scalar.addi c0_i32_383 v520
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_384 : BitVec 32 := 4#32
  let v522 : BitVec 32 := Scalar.muli v5 c4_i32_384
  let v523 : BitVec 32 := Scalar.addi v521 v522
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_353 : BitVec 32 := 2#32
  let v495 : BitVec 32 := Scalar.addi v8 c2_i32_353
  let c4_i32_354 : BitVec 32 := 4#32
  let c0_i32_355 : BitVec 32 := 0#32
  let v496 : BitVec 1 := Scalar.cmpi .eq c4_i32_354 c0_i32_355
  let c1_i32_356 : BitVec 32 := 1#32
  let v497 : BitVec 32 := Scalar.select v496 c1_i32_356 c4_i32_354
  let v498 : BitVec 32 := Scalar.remsi v495 v497
  let c0_i32_358 : BitVec 32 := 0#32
  let v500 : BitVec 1 := Scalar.cmpi .slt v498 c0_i32_358
  let c0_i32_359 : BitVec 32 := 0#32
  let v501 : BitVec 1 := Scalar.cmpi .slt v497 c0_i32_359
  let v502 : BitVec 1 := Scalar.xori v500 v501
  let c0_i32_357 : BitVec 32 := 0#32
  let v499 : BitVec 1 := Scalar.cmpi .ne v498 c0_i32_357
  let v503 : BitVec 1 := Scalar.andi v502 v499
  let v504 : BitVec 32 := Scalar.addi v498 v497
  let v505 : BitVec 32 := Scalar.select v503 v504 v498
  let c1_i32_385 : BitVec 32 := 1#32
  let v524 : BitVec 32 := Scalar.muli v505 c1_i32_385
  let v525 : BitVec 32 := Scalar.addi v523 v524
  v525.toNat
def k0_dev8 (d0 : Dev nD) : Nat :=
  let c0_i32_406 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_405 : BitVec 32 := 8#32
  let v545 : BitVec 32 := Scalar.muli v2 c8_i32_405
  let v546 : BitVec 32 := Scalar.addi c0_i32_406 v545
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_407 : BitVec 32 := 4#32
  let v547 : BitVec 32 := Scalar.muli v5 c4_i32_407
  let v548 : BitVec 32 := Scalar.addi v546 v547
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_392 : BitVec 32 := 3#32
  let v534 : BitVec 32 := Scalar.addi v8 c3_i32_392
  let c4_i32_393 : BitVec 32 := 4#32
  let c0_i32_394 : BitVec 32 := 0#32
  let v535 : BitVec 1 := Scalar.cmpi .eq c4_i32_393 c0_i32_394
  let c1_i32_395 : BitVec 32 := 1#32
  let v536 : BitVec 32 := Scalar.select v535 c1_i32_395 c4_i32_393
  let v537 : BitVec 32 := Scalar.remsi v534 v536
  let c0_i32_397 : BitVec 32 := 0#32
  let v539 : BitVec 1 := Scalar.cmpi .slt v537 c0_i32_397
  let c0_i32_398 : BitVec 32 := 0#32
  let v540 : BitVec 1 := Scalar.cmpi .slt v536 c0_i32_398
  let v541 : BitVec 1 := Scalar.xori v539 v540
  let c0_i32_396 : BitVec 32 := 0#32
  let v538 : BitVec 1 := Scalar.cmpi .ne v537 c0_i32_396
  let v542 : BitVec 1 := Scalar.andi v541 v538
  let v543 : BitVec 32 := Scalar.addi v537 v536
  let v544 : BitVec 32 := Scalar.select v542 v543 v537
  let c1_i32_408 : BitVec 32 := 1#32
  let v549 : BitVec 32 := Scalar.muli v544 c1_i32_408
  let v550 : BitVec 32 := Scalar.addi v548 v549
  v550.toNat
def k0_dev9 (d0 : Dev nD) : Nat :=
  let c0_i32_422 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_421 : BitVec 32 := 8#32
  let v559 : BitVec 32 := Scalar.muli v2 c8_i32_421
  let v560 : BitVec 32 := Scalar.addi c0_i32_422 v559
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_423 : BitVec 32 := 4#32
  let v561 : BitVec 32 := Scalar.muli v5 c4_i32_423
  let v562 : BitVec 32 := Scalar.addi v560 v561
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_392 : BitVec 32 := 3#32
  let v534 : BitVec 32 := Scalar.addi v8 c3_i32_392
  let c4_i32_393 : BitVec 32 := 4#32
  let c0_i32_394 : BitVec 32 := 0#32
  let v535 : BitVec 1 := Scalar.cmpi .eq c4_i32_393 c0_i32_394
  let c1_i32_395 : BitVec 32 := 1#32
  let v536 : BitVec 32 := Scalar.select v535 c1_i32_395 c4_i32_393
  let v537 : BitVec 32 := Scalar.remsi v534 v536
  let c0_i32_397 : BitVec 32 := 0#32
  let v539 : BitVec 1 := Scalar.cmpi .slt v537 c0_i32_397
  let c0_i32_398 : BitVec 32 := 0#32
  let v540 : BitVec 1 := Scalar.cmpi .slt v536 c0_i32_398
  let v541 : BitVec 1 := Scalar.xori v539 v540
  let c0_i32_396 : BitVec 32 := 0#32
  let v538 : BitVec 1 := Scalar.cmpi .ne v537 c0_i32_396
  let v542 : BitVec 1 := Scalar.andi v541 v538
  let v543 : BitVec 32 := Scalar.addi v537 v536
  let v544 : BitVec 32 := Scalar.select v542 v543 v537
  let c1_i32_424 : BitVec 32 := 1#32
  let v563 : BitVec 32 := Scalar.muli v544 c1_i32_424
  let v564 : BitVec 32 := Scalar.addi v562 v563
  v564.toNat
abbrev stage0_0 : Fin 1 → Memref sig .tc .vmem S8x1x8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x64 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S8 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8x1x8x64 : Shape := ⟨4, ![8, 1, 8, 64]⟩
abbrev S256x16x8x64 : Shape := ⟨4, ![256, 16, 8, 64]⟩
abbrev S8x64 : Shape := ⟨2, ![8, 64]⟩
abbrev S8 : Shape := ⟨1, ![8]⟩
abbrev S_ : Shape := ⟨0, ![]⟩
abbrev S8x64x1 : Shape := ⟨3, ![8, 64, 1]⟩
abbrev S8x64x16x8x64 : Shape := ⟨5, ![8, 64, 16, 8, 64]⟩
abbrev S8x1024x8x64 : Shape := ⟨4, ![8, 1024, 8, 64]⟩
abbrev S8x8x1x1024 : Shape := ⟨4, ![8, 8, 1, 1024]⟩
abbrev S1024 : Shape := ⟨1, ![1024]⟩
abbrev S1x1024 : Shape := ⟨2, ![1, 1024]⟩
abbrev S8x1 : Shape := ⟨2, ![8, 1]⟩
abbrev S8x1024 : Shape := ⟨2, ![8, 1024]⟩
abbrev S8x1x1x1024 : Shape := ⟨4, ![8, 1, 1, 1024]⟩
abbrev S8x8x1 : Shape := ⟨3, ![8, 8, 1]⟩
abbrev S8x8x1x1 : Shape := ⟨4, ![8, 8, 1, 1]⟩
abbrev S8x8x64x1 : Shape := ⟨4, ![8, 8, 64, 1]⟩

abbrev nBuf : Space → Nat
  | .hbm => 72
  | .vmem => 0
  | .smem => 0
  | _ => 0

abbrev bufTy : (tb : Table) → Fin (tcTables nBuf tb) → BufTy
  | .hbm, ⟨0, _⟩ => ⟨S8x1x8x64, .f32⟩
  | .hbm, ⟨1, _⟩ => ⟨S256x16x8x64, .f32⟩
  | .hbm, ⟨2, _⟩ => ⟨S256x16x8x64, .f32⟩
  | .hbm, ⟨3, _⟩ => ⟨S8x64, .i32⟩
  | .hbm, ⟨4, _⟩ => ⟨S8, .i32⟩
  | .hbm, ⟨5, _⟩ => ⟨S_, .i32⟩
  | .hbm, ⟨6, _⟩ => ⟨S8x64, .i32⟩
  | .hbm, ⟨7, _⟩ => ⟨S8x64, .i1⟩
  | .hbm, ⟨8, _⟩ => ⟨S_, .i32⟩
  | .hbm, ⟨9, _⟩ => ⟨S8x64, .i32⟩
  | .hbm, ⟨10, _⟩ => ⟨S8x64, .i32⟩
  | .hbm, ⟨11, _⟩ => ⟨S8x64, .i32⟩
  | .hbm, ⟨12, _⟩ => ⟨S8x64x1, .i32⟩
  | .hbm, ⟨13, _⟩ => ⟨S8x64x16x8x64, .f32⟩
  | .hbm, ⟨14, _⟩ => ⟨S8x1024x8x64, .f32⟩
  | .hbm, ⟨15, _⟩ => ⟨S_, .i32⟩
  | .hbm, ⟨16, _⟩ => ⟨S8x64, .i32⟩
  | .hbm, ⟨17, _⟩ => ⟨S8x64, .i1⟩
  | .hbm, ⟨18, _⟩ => ⟨S_, .i32⟩
  | .hbm, ⟨19, _⟩ => ⟨S8x64, .i32⟩
  | .hbm, ⟨20, _⟩ => ⟨S8x64, .i32⟩
  | .hbm, ⟨21, _⟩ => ⟨S8x64, .i32⟩
  | .hbm, ⟨22, _⟩ => ⟨S8x64x1, .i32⟩
  | .hbm, ⟨23, _⟩ => ⟨S8x64x16x8x64, .f32⟩
  | .hbm, ⟨24, _⟩ => ⟨S8x1024x8x64, .f32⟩
  | .hbm, ⟨25, _⟩ => ⟨S8x8x1x1024, .f32⟩
  | .hbm, ⟨26, _⟩ => ⟨S_, .f32⟩
  | .hbm, ⟨27, _⟩ => ⟨S8x8x1x1024, .f32⟩
  | .hbm, ⟨28, _⟩ => ⟨S8x8x1x1024, .f32⟩
  | .hbm, ⟨29, _⟩ => ⟨S1024, .i32⟩
  | .hbm, ⟨30, _⟩ => ⟨S1x1024, .i32⟩
  | .hbm, ⟨31, _⟩ => ⟨S_, .i32⟩
  | .hbm, ⟨32, _⟩ => ⟨S_, .i32⟩
  | .hbm, ⟨33, _⟩ => ⟨S1x1024, .i32⟩
  | .hbm, ⟨34, _⟩ => ⟨S1x1024, .i32⟩
  | .hbm, ⟨35, _⟩ => ⟨S1x1024, .i32⟩
  | .hbm, ⟨36, _⟩ => ⟨S_, .i32⟩
  | .hbm, ⟨37, _⟩ => ⟨S1x1024, .i32⟩
  | .hbm, ⟨38, _⟩ => ⟨S1x1024, .i1⟩
  | .hbm, ⟨39, _⟩ => ⟨S1x1024, .i32⟩
  | .hbm, ⟨40, _⟩ => ⟨S1x1024, .i32⟩
  | .hbm, ⟨41, _⟩ => ⟨S_, .i32⟩
  | .hbm, ⟨42, _⟩ => ⟨S1x1024, .i32⟩
  | .hbm, ⟨43, _⟩ => ⟨S1x1024, .i1⟩
  | .hbm, ⟨44, _⟩ => ⟨S1x1024, .i1⟩
  | .hbm, ⟨45, _⟩ => ⟨S_, .i32⟩
  | .hbm, ⟨46, _⟩ => ⟨S1x1024, .i32⟩
  | .hbm, ⟨47, _⟩ => ⟨S1x1024, .i32⟩
  | .hbm, ⟨48, _⟩ => ⟨S1x1024, .i32⟩
  | .hbm, ⟨49, _⟩ => ⟨S8x1, .i32⟩
  | .hbm, ⟨50, _⟩ => ⟨S8x1024, .i32⟩
  | .hbm, ⟨51, _⟩ => ⟨S8x1024, .i32⟩
  | .hbm, ⟨52, _⟩ => ⟨S8x1024, .i1⟩
  | .hbm, ⟨53, _⟩ => ⟨S8x1x1x1024, .i1⟩
  | .hbm, ⟨54, _⟩ => ⟨S_, .f32⟩
  | .hbm, ⟨55, _⟩ => ⟨S_, .f32⟩
  | .hbm, ⟨56, _⟩ => ⟨S8x8x1x1024, .i1⟩
  | .hbm, ⟨57, _⟩ => ⟨S8x8x1x1024, .f32⟩
  | .hbm, ⟨58, _⟩ => ⟨S8x8x1x1024, .f32⟩
  | .hbm, ⟨59, _⟩ => ⟨S_, .f32⟩
  | .hbm, ⟨60, _⟩ => ⟨S8x8x1, .f32⟩
  | .hbm, ⟨61, _⟩ => ⟨S8x8x1x1, .f32⟩
  | .hbm, ⟨62, _⟩ => ⟨S8x8x1x1024, .f32⟩
  | .hbm, ⟨63, _⟩ => ⟨S8x8x1x1024, .f32⟩
  | .hbm, ⟨64, _⟩ => ⟨S8x8x1x1024, .f32⟩
  | .hbm, ⟨65, _⟩ => ⟨S_, .f32⟩
  | .hbm, ⟨66, _⟩ => ⟨S8x8x1, .f32⟩
  | .hbm, ⟨67, _⟩ => ⟨S8x8x1x1, .f32⟩
  | .hbm, ⟨68, _⟩ => ⟨S8x8x1x1024, .f32⟩
  | .hbm, ⟨69, _⟩ => ⟨S8x8x1x1024, .f32⟩
  | .hbm, ⟨70, _⟩ => ⟨S8x8x64x1, .f32⟩
  | .hbm, ⟨71, _⟩ => ⟨S8x1x8x64, .f32⟩
  | _, _ => ⟨S8x1x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_4 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v27 : Ref sig .tc := ⟨.hbm, 58, rfl⟩
abbrev main_cst_5 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_6 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩

abbrev nD : Nat := 1
abbrev τ : Topo := Topo.v7x

variable {F : FTy → Type} [FloatOps F]
-- ==== Proof.Protocol.lean ====
/-
  The exchange between the four devices of one row of the mesh: the cells it counts on, what each
  of them hands over, what a device owes at the start, and in which order the waits may happen.

  Device `c` sits in a row of four.  `nb j c` is the device `j + 1` places further round the row
  and `rv` turns a distance into the distance back, so `nb (rv j) (nb j c) = c`.

  * Barrier cell: one round of three units, the unit `j` paid by the device `nb (rv j) c`.  It
    hands over that device's slot `j + 1` of both exchanged buffers and the fact that its two
    receive cells for that slot are open.
  * Send cells: one for each buffer and each of the three copies.  A landed copy gives back the
    share of slot 0 that was lent to it.
  * Receive cells: one for each buffer and each of the slots 1, 2, 3.  A landed copy hands over
    that slot, at the contents the finished exchange leaves there.

  Everything is stated over two families `A`, `B`: what the two buffers of each device hold when
  the exchange is over.
-/
module

public import proofs.«01_k».proof.Proof.Gen.KernelIdeal.Frame
public import proofs.«01_k».proof.Proof.Gen.KernelIdeal.Skeleton
public import Idealize.ShloMosaic.Lib.Pipeline.RegionTalk
public import Idealize.ShloMosaic.Lib.Rounds
public import Idealize.ShloMosaic.Lib.Ring.Trips

@[expose] public section

set_option maxRecDepth 16384

noncomputable section

namespace Cert.PagedMerge

open Idealize.ShloMosaic Idealize.ShloMosaic.TcCoe Idealize.ShloMosaic.Rounds
open Idealize.SL Idealize.SL.RA Idealize.SL.BI
open scoped Idealize.SL.BI
open Idealize.SL.BI.BIBase Idealize.SL.Sem
open Cert.KernelIdeal Cert.KernelIdeal.Gen

variable {F : FTy → Type} [FloatOps F]

/-! ## The row of four devices -/

/-- The device `j + 1` places further round `c`'s row of four. -/
def nb (j : Fin 3) (c : Dev nD) : Dev nD :=
  ⟨c.val - c.val % 4 + (c.val % 4 + (j.val + 1)) % 4, by have := c.isLt; simp only [nD] at this ⊢; omega⟩

/-- The distance back. -/
def rv (j : Fin 3) : Fin 3 := ⟨2 - j.val, by omega⟩

/-- Turned round twice a distance is itself. -/
theorem rv_rv (j : Fin 3) : rv (rv j) = j := by revert j; decide
/-- Going forward and then back ends where it began. -/
theorem nb_rv (j : Fin 3) (c : Dev nD) : nb (rv j) (nb j c) = c := by revert j c; decide +kernel
/-- Going back and then forward ends where it began. -/
theorem nb_nb_rv (j : Fin 3) (c : Dev nD) : nb j (nb (rv j) c) = c := by revert j c; decide +kernel

/-- The devices the body's three signals address. -/
theorem dev1_eq (c : Dev nD) : (⟨k0_dev1 c, k0_dev1_lt c⟩ : Dev nD) = nb 0 c := by revert c; decide +kernel
/-- The second signal. -/
theorem dev2_eq (c : Dev nD) : (⟨k0_dev2 c, k0_dev2_lt c⟩ : Dev nD) = nb 1 c := by revert c; decide +kernel
/-- The third signal. -/
theorem dev3_eq (c : Dev nD) : (⟨k0_dev3 c, k0_dev3_lt c⟩ : Dev nD) = nb 2 c := by revert c; decide +kernel
/-- The devices its six copies address. -/
theorem dev4_eq (c : Dev nD) : (⟨k0_dev4 c, k0_dev4_lt c⟩ : Dev nD) = nb 0 c := by revert c; decide +kernel
/-- The second copy. -/
theorem dev5_eq (c : Dev nD) : (⟨k0_dev5 c, k0_dev5_lt c⟩ : Dev nD) = nb 0 c := by revert c; decide +kernel
/-- The third copy. -/
theorem dev6_eq (c : Dev nD) : (⟨k0_dev6 c, k0_dev6_lt c⟩ : Dev nD) = nb 1 c := by revert c; decide +kernel
/-- The fourth copy. -/
theorem dev7_eq (c : Dev nD) : (⟨k0_dev7 c, k0_dev7_lt c⟩ : Dev nD) = nb 1 c := by revert c; decide +kernel
/-- The fifth copy. -/
theorem dev8_eq (c : Dev nD) : (⟨k0_dev8 c, k0_dev8_lt c⟩ : Dev nD) = nb 2 c := by revert c; decide +kernel
/-- The sixth copy. -/
theorem dev9_eq (c : Dev nD) : (⟨k0_dev9 c, k0_dev9_lt c⟩ : Dev nD) = nb 2 c := by revert c; decide +kernel

/-! ## Cells -/

/-- The DMA semaphore of the copy `j` of buffer `i` on its sending side. -/
def sendS (i : Fin 2) (j : Fin 3) : DmaSem sig := ⟨6 + 3 * i.val + j.val, by show _ < 18; omega⟩
/-- The DMA semaphore that counts what lands in slot `j + 1` of buffer `i`. -/
def recvS (i : Fin 2) (j : Fin 3) : DmaSem sig := ⟨12 + 3 * i.val + j.val, by show _ < 18; omega⟩

/-- The barrier cell of device `c`. -/
abbrev barCell (c : Dev nD) : GSem nD τ sig := ((c : Thread nD τ), .reg barrier0)
/-- The cell on which it waits until its own copy has been read. -/
abbrev sendCell (i : Fin 2) (j : Fin 3) (c : Dev nD) : GSem nD τ sig := ((c : Thread nD τ), .dma (sendS i j))
/-- The cell on which it waits until a copy has landed in its slot `j + 1`. -/
abbrev recvCell (i : Fin 2) (j : Fin 3) (c : Dev nD) : GSem nD τ sig := ((c : Thread nD τ), .dma (recvS i j))

/-! ## The exchanged windows -/

/-- A slot of the weighted sums lies inside the buffer. -/
theorem o_inb (k : Fin 4) : ∀ a, (![k.val, 0, 0, 0] : Fin 4 → Nat) a + S1x8x8x64.size a ≤ S4x8x8x64.size a := by
  revert k; decide
/-- A slot of the maxima and denominators lies inside its buffer. -/
theorem s_inb (k : Fin 4) : ∀ a, (![k.val, 0, 0, 0] : Fin 4 → Nat) a + S1x2x8x8.size a ≤ S4x2x8x8.size a := by
  revert k; decide

/-- Slot `k` of the buffer of weighted sums, as the copies name it. -/
abbrev oSlot (k : Fin 4) : Memref sig .tc .vmem S8x8x64 .f32 :=
  ((Memref.whole cc0_scratch0).slice (Rect.unit (s := S4x8x8x64) ![k.val, 0, 0, 0] S1x8x8x64.size (o_inb k)) (fun _ => rfl)).squeeze S8x8x64 squeezes_S1x8x8x64_S8x8x64
/-- Slot `k` of the buffer of maxima and sums, as the copies name it. -/
abbrev sSlot (k : Fin 4) : Memref sig .tc .vmem S2x8x8 .f32 :=
  ((Memref.whole cc0_scratch1).slice (Rect.unit (s := S4x2x8x8) ![k.val, 0, 0, 0] S1x2x8x8.size (s_inb k)) (fun _ => rfl)).squeeze S2x8x8 squeezes_S1x2x8x8_S2x8x8

/-- What one copy of a slot of either buffer counts. -/
abbrev NO : ℕ := (oSlot 0).view.dmaCredit
/-- The same for a slot of maxima and denominators. -/
abbrev NS : ℕ := (sSlot 0).view.dmaCredit
/-- A copy of weighted sums counts something. -/
theorem NO_pos : 0 < NO := View.dmaCredit_pos _ (by decide)
/-- So does a copy of maxima and denominators. -/
theorem NS_pos : 0 < NS := View.dmaCredit_pos _ (by decide)

/-! ## The resource algebra -/

/-- The ghost state of the staging rounds and of the exchange's rounds. -/
abbrev UU : Type := UR sig nD τ × URounds (GSem nD τ sig) (Fin 3)

local notation "𝕄" => MT nD τ sig Unit (Elt F) ℕ UU ℕ

/-- The staging rounds in the whole algebra. -/
abbrev EP : Emb (UR sig nD τ) (MT nD τ sig Unit (Elt F) ℕ UU ℕ) := embL
/-- The exchange's rounds in the whole algebra. -/
abbrev ER : Emb (URounds (GSem nD τ sig) (Fin 3)) (MT nD τ sig Unit (Elt F) ℕ UU ℕ) := embR

/-- Contents of the two exchanged buffers. -/
abbrev OBuf (F : FTy → Type) : Type := cc0_scratch0.ty.Contents (Elt F)
/-- The same for the maxima and denominators. -/
abbrev SBuf (F : FTy → Type) : Type := cc0_scratch1.ty.Contents (Elt F)

/-- Slot `k` of the buffer of weighted sums of device `c`, held at share `q` and contents `f`. -/
abbrev oW (c : Dev nD) (k : Fin 4) (q : PosShare TreeShare) (f : OBuf F) : sProp 𝕄 :=
  (oSlot k).view.loc (c : Thread nD τ) ↦[(oSlot k).view.set]{q} f
/-- Slot `k` of the buffer of maxima and sums of device `c`, likewise. -/
abbrev sW (c : Dev nD) (k : Fin 4) (q : PosShare TreeShare) (f : SBuf F) : sProp 𝕄 :=
  (sSlot k).view.loc (c : Thread nD τ) ↦[(sSlot k).view.set]{q} f

variable (A : Dev nD → OBuf F) (B : Dev nD → SBuf F)

/-- The share of slot 0 lent to the copy `j`. -/
abbrev sh (j : Fin 3) : PosShare TreeShare := Idealize.ShloMosaic.Ring.shares3 fullShare j

/-! ## The schedule -/

/-- Unit `j` paid to `c`'s barrier cell: the payer's slot `j + 1` of both buffers, its receive cells for it open. -/
def barPay (c : Dev nD) (j : Fin 3) : sProp 𝕄 :=
  iprop((∃ f, oW (F := F) (nb (rv j) c) j.succ fullShare f) ∗ (∃ f, sW (F := F) (nb (rv j) c) j.succ fullShare f)
    ∗ reached ER (recvCell 0 j (nb (rv j) c)) 0 ∗ reached ER (recvCell 1 j (nb (rv j) c)) 0)

/-- What a landed copy pays to the DMA cell `s` of device `c`. -/
def dmaPay (c : Dev nD) (s : DmaSem sig) : sProp 𝕄 :=
  if s.val < 6 then iprop(emp)
  else if s.val < 9 then oW c 0 (sh (Fin.ofNat 3 (s.val - 6))) (A c)
  else if s.val < 12 then sW c 0 (sh (Fin.ofNat 3 (s.val - 9))) (B c)
  else if s.val < 15 then oW c (Fin.ofNat 3 (s.val - 12)).succ fullShare (A c)
  else sW c (Fin.ofNat 3 (s.val - 15)).succ fullShare (B c)

/-- How much a landed copy counts on the DMA cell `s`. -/
def dmaAmt (s : DmaSem sig) : ℕ :=
  if s.val < 9 then NO else if s.val < 12 then NS else if s.val < 15 then NO else NS

/-- The duties of a cell in its one round. -/
def dut (s : SemLoc sig) : Finset (Fin 3) :=
  match s with
  | .reg _ => Finset.univ
  | .dma s => if 6 ≤ s.val then {0} else ∅

/-- The schedule: one round for each cell. -/
def rd : Rounds.Schedule (GSem nD τ sig) (Fin 3) 𝕄 where
  duties g r := if r = 0 ∧ g.1.2 = .tc then dut g.2 else ∅
  unitless _ := False
  amount g _ _ := match g.2 with | .reg _ => 1 | .dma s => dmaAmt s
  payload g _ d := match g.2 with | .reg _ => barPay g.1.1 d | .dma s => dmaPay A B g.1.1 s
  amount_pos g _ _ _ := by
    rcases g with ⟨_, (s | s)⟩
    · exact Nat.one_pos
    · show 0 < dmaAmt s
      unfold dmaAmt
      have h₁ := NO_pos; have h₂ := NS_pos
      split_ifs <;> assumption

/-- Every payload can be kept in an invariant. -/
instance rd_payload_storable (g : GSem nD τ sig) (r : ℕ) (d : Fin 3) :
    BI.Storable (upEmb : UEmb _ 𝕄) ((rd A B).payload g r d) := by
  rcases g with ⟨t, (s | s)⟩
  · show BI.Storable upEmb (barPay t.1 d)
    unfold barPay
    infer_instance
  · show BI.Storable upEmb (dmaPay A B t.1 s)
    unfold dmaPay
    (repeat' split) <;> infer_instance

section Sched

variable (c : Dev nD) (i : Fin 2) (j : Fin 3)

/-- A barrier cell has three duties, one for each distance. -/
theorem duties_bar : (rd A B).duties (barCell c) 0 = Finset.univ := by dsimp only [rd]; exact if_pos ⟨rfl, rfl⟩
/-- A send cell has one duty. -/
theorem duties_send : (rd A B).duties (sendCell i j c) 0 = {0} := by
  dsimp only [rd]; rw [if_pos ⟨rfl, rfl⟩]; exact if_pos (show 6 ≤ 6 + 3 * i.val + j.val by omega)
/-- A receive cell has one duty. -/
theorem duties_recv : (rd A B).duties (recvCell i j c) 0 = {0} := by
  dsimp only [rd]; rw [if_pos ⟨rfl, rfl⟩]; exact if_pos (show 6 ≤ 12 + 3 * i.val + j.val by omega)
/-- No cell has a second round. -/
theorem duties_later (g : GSem nD τ sig) : ∀ r, 1 ≤ r → (rd A B).duties g r = ∅ :=
  fun r hr => by dsimp only [rd]; rw [if_neg (fun h => by omega)]

/-- A signal counts one. -/
theorem amount_bar (u : Fin 3) : (rd A B).amount (barCell c) 0 u = 1 := rfl
/-- What a copy of weighted sums counts where it is read. -/
theorem amount_send0 (u : Fin 3) : (rd A B).amount (sendCell 0 j c) 0 u = NO := by fin_cases j <;> rfl
/-- What a copy of maxima and denominators counts where it is read. -/
theorem amount_send1 (u : Fin 3) : (rd A B).amount (sendCell 1 j c) 0 u = NS := by fin_cases j <;> rfl
/-- What a copy of weighted sums counts where it lands. -/
theorem amount_recv0 (u : Fin 3) : (rd A B).amount (recvCell 0 j c) 0 u = NO := by fin_cases j <;> rfl
/-- What a copy of maxima and denominators counts where it lands. -/
theorem amount_recv1 (u : Fin 3) : (rd A B).amount (recvCell 1 j c) 0 u = NS := by fin_cases j <;> rfl

/-- A barrier wait takes all three units. -/
theorem expect_bar : (rd A B).expect (barCell c) 0 = 3 := by
  unfold Schedule.expect Schedule.amountOf; rw [duties_bar]; rfl
/-- A wait for a read of weighted sums takes one slot. -/
theorem expect_send0 : (rd A B).expect (sendCell 0 j c) 0 = NO := by
  unfold Schedule.expect Schedule.amountOf; rw [duties_send, Finset.sum_singleton, amount_send0]
/-- A wait for a read of maxima and denominators takes one slot. -/
theorem expect_send1 : (rd A B).expect (sendCell 1 j c) 0 = NS := by
  unfold Schedule.expect Schedule.amountOf; rw [duties_send, Finset.sum_singleton, amount_send1]
/-- A wait for landed weighted sums takes one slot. -/
theorem expect_recv0 : (rd A B).expect (recvCell 0 j c) 0 = NO := by
  unfold Schedule.expect Schedule.amountOf; rw [duties_recv, Finset.sum_singleton, amount_recv0]
/-- A wait for landed maxima and denominators takes one slot. -/
theorem expect_recv1 : (rd A B).expect (recvCell 1 j c) 0 = NS := by
  unfold Schedule.expect Schedule.amountOf; rw [duties_recv, Finset.sum_singleton, amount_recv1]

/-- What a signal hands over. -/
theorem payload_bar (u : Fin 3) : (rd A B).payload (barCell c) 0 u = barPay c u := rfl
/-- A read copy of weighted sums hands back the lent share of slot 0. -/
theorem payload_send0 (u : Fin 3) : (rd A B).payload (sendCell 0 j c) 0 u = oW c 0 (sh j) (A c) := by fin_cases j <;> rfl
/-- A read copy of maxima and denominators hands back the lent share of slot 0. -/
theorem payload_send1 (u : Fin 3) : (rd A B).payload (sendCell 1 j c) 0 u = sW c 0 (sh j) (B c) := by fin_cases j <;> rfl
/-- A landed copy hands over the slot of weighted sums with its contents. -/
theorem payload_recv0 (u : Fin 3) : (rd A B).payload (recvCell 0 j c) 0 u = oW c j.succ fullShare (A c) := by fin_cases j <;> rfl
/-- A landed copy hands over the slot of maxima and denominators with its contents. -/
theorem payload_recv1 (u : Fin 3) : (rd A B).payload (recvCell 1 j c) 0 u = sW c j.succ fullShare (B c) := by fin_cases j <;> rfl

/-- All three units of a barrier cell together. -/
theorem rest_bar : bigSep ((rd A B).duties (barCell c) 0 \ ∅) (fun u => (rd A B).payload (barCell c) 0 u)
    = iprop(barPay (F := F) c 0 ∗ barPay (F := F) c 1 ∗ barPay (F := F) c 2) := by
  rw [Finset.sdiff_empty, duties_bar]
  exact bigSep_univ_eq_bigSepL [(0 : Fin 3), 1, 2] (by decide) (by decide) _
/-- The whole round of a send cell of weighted sums. -/
theorem rest_send0 : bigSep ((rd A B).duties (sendCell 0 j c) 0 \ ∅) (fun u => (rd A B).payload (sendCell 0 j c) 0 u) = oW c 0 (sh j) (A c) := by
  rw [Finset.sdiff_empty, duties_send, bigSep_singleton, payload_send0]
/-- The whole round of a send cell of maxima and denominators. -/
theorem rest_send1 : bigSep ((rd A B).duties (sendCell 1 j c) 0 \ ∅) (fun u => (rd A B).payload (sendCell 1 j c) 0 u) = sW c 0 (sh j) (B c) := by
  rw [Finset.sdiff_empty, duties_send, bigSep_singleton, payload_send1]
/-- The whole round of a receive cell of weighted sums. -/
theorem rest_recv0 : bigSep ((rd A B).duties (recvCell 0 j c) 0 \ ∅) (fun u => (rd A B).payload (recvCell 0 j c) 0 u) = oW c j.succ fullShare (A c) := by
  rw [Finset.sdiff_empty, duties_recv, bigSep_singleton, payload_recv0]
/-- The whole round of a receive cell of maxima and denominators. -/
theorem rest_recv1 : bigSep ((rd A B).duties (recvCell 1 j c) 0 \ ∅) (fun u => (rd A B).payload (recvCell 1 j c) 0 u) = sW c j.succ fullShare (B c) := by
  rw [Finset.sdiff_empty, duties_recv, bigSep_singleton, payload_recv1]

end Sched

/-! ## What a device owes at the start, and the levels -/

/-- What its copy `j` of either buffer pays on the receiving device. -/
abbrev dueO (j : Fin 3) (c : Dev nD) : CellTallies nD τ sig Unit := tallyAt (recvCell 0 (rv j) (nb j c)) () NO
/-- The same for the maxima and denominators. -/
abbrev dueS (j : Fin 3) (c : Dev nD) : CellTallies nD τ sig Unit := tallyAt (recvCell 1 (rv j) (nb j c)) () NS
/-- What its signal `j` pays. -/
abbrev dueB (j : Fin 3) (c : Dev nD) : CellTallies nD τ sig Unit := tallyAt (barCell (nb j c)) () 1

/-- What is left to pay once the signals are out: the six copies, the last first. -/
abbrev sends (c : Dev nD) : CellTallies nD τ sig Unit :=
  0 + dueS 2 c + dueO 2 c + dueS 1 c + dueO 1 c + dueS 0 c + dueO 0 c
/-- What a device owes at the start. -/
abbrev O₀ (c : Dev nD) : CellTallies nD τ sig Unit := sends c + dueB 2 c + dueB 1 c + dueB 0 c

/-- Every cell of a TensorCore has one label. -/
def L (g : GSem nD τ sig) : Finset Unit := if g.1.2 = .tc then {()} else ∅
/-- Barrier cells at 1, receive cells at 2, the rest at 0. -/
def lv (g : GSem nD τ sig) (_ : Unit) : ℕ := match g.2 with | .reg _ => 1 | .dma s => if 12 ≤ s.val then 2 else 0

/-- No other cell has one. -/
theorem L_of_ne (g : GSem nD τ sig) (h : g.1.2 ≠ .tc) : L g = ∅ := if_neg h
/-- The label of a cell of device `c`. -/
theorem L_tc (c : Dev nD) (sm : SemLoc sig) : L ((c : Thread nD τ), sm) = {()} := if_pos rfl

/-- A cell a device still owes a copy to is a receive cell. -/
theorem sends_recv (c : Dev nD) (g : GSem nD τ sig) (u : Unit) (h : 0 < sends c g u) :
    ∃ i j p, g = recvCell i j p := by
  simp only [sends, Pi.add_apply, Finsupp.add_apply, tallyAt_apply, Pi.zero_apply, Finsupp.zero_apply] at h
  by_contra hn
  simp only [not_exists] at hn
  simp only [hn, false_and, if_false] at h
  omega

/-- The barrier wait may happen while all six copies are owed: receive cells are at a higher level. -/
theorem mayWait_bar (c : Dev nD) :
    (levAts L lv : sProp 𝕄) ⊢ MayWait (c : Thread nD τ) (.reg barrier0) () (sends c) :=
  MayOwe.of_cut (L := L) (lev := lv) 1 (fun p hp => by rw [Finset.mem_singleton.mp hp, L_tc]; exact Finset.mem_singleton_self _)
    (fun g u hg => by
      obtain ⟨i, j, p, rfl⟩ := sends_recv c g u hg
      rw [L_tc]; exact Finset.mem_singleton_self _)
    (fun p hp => by rw [Finset.mem_singleton.mp hp]; rfl)
    (fun g u hg => by
      obtain ⟨i, j, p, rfl⟩ := sends_recv c g u hg
      show 1 < (if 12 ≤ 12 + 3 * i.val + j.val then 2 else 0)
      rw [if_pos (by omega)]; decide)

end Cert.PagedMerge

end
-- ==== Proof.Vals.lean ====
module

public import proofs.«01_k».proof.Proof.Gen.KernelIdeal.Skeleton
public import Idealize.ShloMosaic.Lib.Pointwise.Index

set_option maxRecDepth 16384

@[expose] public section

/-!
# What one device computes

The values a device holds on the way: the weights of its keys, the shifted
exponentials of each head's scores, and the merge of four devices' partial
results. Each is stated once for every head and every row; the printed terms
of the single heads and rows are the same terms.
-/

namespace Cert.PagedMerge

open Idealize.ShloMosaic
open Idealize.ShloMosaic.TcCoe
open Cert.KernelIdeal Cert.KernelIdeal.Gen

variable {F : FTy → Type} [FloatOps F]

/-- What one device reads: its queries, its keys and values laid out by head,
    the table of pages, the counts, and the number of its first page. -/
structure Ins (F : FTy → Type) where
  /-- the queries -/
  q : Vec F S8x1x8x64 .f32
  /-- the keys by head -/
  k : Vec F S8x1024x64 .f32
  /-- the values by head -/
  v : Vec F S8x1024x64 .f32
  /-- the table of pages -/
  bt : Vec F S8x64 .i32
  /-- how many pages of each row are in use -/
  ln : Vec F S8 .i32
  /-- the number of the device's first page -/
  base : BitVec 32

/-- A head's box of queries lies inside. -/
theorem q_inb (h : Fin 8) : ∀ a, (![0, 0, h.val, 0] : Fin 4 → ℕ) a + S8x1x1x64.size a ≤ S8x1x8x64.size a := by
  revert h; decide

/-- A head's box of keys lies inside. -/
theorem k_inb (h : Fin 8) : ∀ a, (![h.val, 0, 0] : Fin 3 → ℕ) a + S1x1024x64.size a ≤ S8x1024x64.size a := by
  revert h; decide

/-- A column of the table, transposed, lies inside. -/
theorem col_slices (b : Fin 8) : S64x8.Slices ![0, b.val] S64x1 := by
  revert b; decide

/-- The queries of head `h`. -/
def qh (x : Ins F) (h : Fin 8) : Vec F S8x1x1x64 .f32 :=
  fun y => x.q ((Rect.unit (s := S8x1x8x64) ![0, 0, h.val, 0] S8x1x1x64.size (q_inb h)).emb y)

/-- The keys of head `h`. -/
def kh (x : Ins F) (h : Fin 8) : Vec F S1x1024x64 .f32 :=
  fun y => x.k ((Rect.unit (s := S8x1024x64) ![h.val, 0, 0] S1x1024x64.size (k_inb h)).emb y)

/-- The values of head `h`. -/
def vh (x : Ins F) (h : Fin 8) : Vec F S1x1024x64 .f32 :=
  fun y => x.v ((Rect.unit (s := S8x1024x64) ![h.val, 0, 0] S1x1024x64.size (k_inb h)).emb y)

/-- The page of each key of the device, the same for every slot of the table. -/
noncomputable def pages (x : Ins F) : FVec F S64x1024 .f32 :=
  k0_pay5 (F := F) x.base (iota .tc S64x1024 32 [1] iota_S64x1024_d1_w32) 16#32 k0_pay2 k0_pay3 k0_pay4

/-- The number of each slot of the table. -/
noncomputable def slots : IVec S64x1024 32 := iota .tc S64x1024 32 [0] iota_S64x1024_d0_w32

/-- How often a key counts in row `b`: over the slots below the row's count, one
    for each that names the key's page. -/
noncomputable def rowOf (p : FVec F S64x1024 .f32) (s : IVec S64x1024 32) (t : FVec F S64x8 .f32) (b : Fin 8) (l : Elt F .i32) :
    FVec F S1x1024 .f32 :=
  shapeCast S1x1024 (shapeCast S1x1024 (multiReduction .add [0] S1024
    (select (andi (cmpf .oeq (broadcastTo S64x1024 (extractStridedSlice S64x1 ![0, b.val] t (col_slices b)) broadcasts_S64x1_S64x1024) p)
        (cmpi .slt s (broadcast S64x1024 l)))
      (broadcast S64x1024 (Scalar.ofBits .f32 0x3F800000#32 : F .f32)) (broadcast S64x1024 (Scalar.ofBits .f32 0x00000000#32 : F .f32)))
    0x00000000#32 reduces_S64x1024_S1024 (.inl rfl) rfl) shapeCasts_S1024_S1x1024) shapeCasts_S1x1024_S1x1024

/-- The weights of a device's keys, row by row. -/
noncomputable def wts (x : Ins F) : Vec F S8x1024 .f32 :=
  fun i => rowOf (pages x) slots (k0_pay6 x.bt) (i 0) (x.ln (ix1 (i 0))) (ix2 0 (i 1))

/-- A head's scaled scores. -/
noncomputable def score (x : Ins F) (h : Fin 8) : FVec F S8x1024 .f32 := k0_pay19 (qh x h) (kh x h)

/-- A head's sum of weighted exponentials times values. -/
noncomputable def headO (x : Ins F) (h : Fin 8) : FVec F S1x8x1x64 .f32 :=
  k0_pay24 (wts x) (k0_pay18 (wts x)) (score x h) k0_pay20 (vh x h)

/-- A head's largest score. -/
noncomputable def headM (x : Ins F) (h : Fin 8) : FVec F S1x1x8x1 .f32 :=
  k0_pay25 (k0_pay18 (wts x)) (score x h) k0_pay20

/-- A head's sum of weighted exponentials. -/
noncomputable def headL (x : Ins F) (h : Fin 8) : FVec F S1x1x8x1 .f32 :=
  k0_pay26 (wts x) (k0_pay18 (wts x)) (score x h) k0_pay20

/-- Where the first slot's sums of one device come from, over four devices. -/
noncomputable def oAll (xs : Fin 4 → Ins F) : Vec F S4x8x8x64 .f32 :=
  fun i => headO (xs (i 0)) (i 2) (ix4 0 (i 1) 0 (i 3))

/-- The statistics of four devices. -/
noncomputable def sAll (xs : Fin 4 → Ins F) : Vec F S4x2x8x8 .f32 :=
  fun i => if (i 1).val = 0 then headM (xs (i 0)) (i 3) (ix4 0 0 (i 2) 0) else headL (xs (i 0)) (i 3) (ix4 0 0 (i 2) 0)

/-- A head's box of the statistics lies inside. -/
theorem st_inb (a : Fin 2) (h : Fin 8) : ∀ d, (![0, a.val, 0, h.val] : Fin 4 → ℕ) d + S4x1x8x1.size d ≤ S4x2x8x8.size d := by
  revert a h; decide

/-- A head's box of the sums lies inside. -/
theorem ov_inb (h : Fin 8) : ∀ d, (![0, 0, h.val, 0] : Fin 4 → ℕ) d + S4x8x1x64.size d ≤ S4x8x8x64.size d := by
  revert h; decide

/-- The maxima (`a = 0`) or the sums of weights (`a = 1`) of head `h` on the four devices. -/
noncomputable def stAt (xs : Fin 4 → Ins F) (a : Fin 2) (h : Fin 8) : Vec F S4x1x8x1 .f32 :=
  fun y => sAll xs ((Rect.unit (s := S4x2x8x8) ![0, a.val, 0, h.val] S4x1x8x1.size (st_inb a h)).emb y)

/-- The weighted values of head `h` on the four devices. -/
noncomputable def ovAt (xs : Fin 4 → Ins F) (h : Fin 8) : Vec F S4x8x1x64 .f32 :=
  fun y => oAll xs ((Rect.unit (s := S4x8x8x64) ![0, 0, h.val, 0] S4x8x1x64.size (ov_inb h)).emb y)

/-- Head `h` of the result. -/
noncomputable def headOut (xs : Fin 4 → Ins F) (h : Fin 8) : FVec F S8x1x1x64 .f32 :=
  k0_pay86 (stAt xs 0 h) (stAt xs 1 h) (ovAt xs h)

/-- The result of a device. -/
noncomputable def outAll (xs : Fin 4 → Ins F) : Vec F S8x1x8x64 .f32 :=
  fun i => headOut xs (i 2) (ix4 (i 0) 0 0 (i 3))

/-! ## The printed terms are these -/

/-- The printed weights of row 1. -/
theorem pay9_eq (p s t l) : k0_pay9 (F := F) p s t l = rowOf p s t 1 l := rfl
/-- The printed weights of row 2. -/
theorem pay10_eq (p s t l) : k0_pay10 (F := F) p s t l = rowOf p s t 2 l := rfl
/-- The printed weights of row 3. -/
theorem pay12_eq (p s t l) : k0_pay12 (k0_pay11 (F := F) p s t l) = rowOf p s t 3 l := rfl
/-- The printed weights of row 4. -/
theorem pay13_eq (p s t l) : k0_pay13 (F := F) p s t l = rowOf p s t 4 l := rfl
/-- The printed weights of row 5. -/
theorem pay14_eq (p s t l) : k0_pay14 (F := F) p s t l = rowOf p s t 5 l := rfl
/-- The printed weights of row 6. -/
theorem pay16_eq (p s t l) : k0_pay16 (F := F) (k0_pay15 (F := F) p s t l) = rowOf p s t 6 l := rfl
/-- The printed weights of row 7. -/
theorem pay17_eq (p s t l) : k0_pay17 (F := F) p s t l = rowOf p s t 7 l := rfl
/-- The printed weights of row 0. -/
theorem pay8_eq (a b c d e g bt l) : k0_pay8 (k0_pay7 (F := F) a b c d e g bt l) = rowOf (k0_pay5 (F := F) a b c d e g) slots (k0_pay6 bt) 0 l := rfl

end Cert.PagedMerge
-- ==== Proof.Local.lean ====
module

public import proofs.«01_k».proof.Proof.Protocol
public import proofs.«01_k».proof.Proof.Vals

set_option maxRecDepth 16384

@[expose] public section

/-!
# A device's own computation, step by step

The rules for the loads and stores of the body, stated once for every row and
every head. A buffer that is filled piece by piece is held at contents that
agree, on the part written so far, with what it holds in the end.
-/

noncomputable section

namespace Cert.PagedMerge

open Idealize.ShloMosaic Idealize.ShloMosaic.TcCoe Idealize.ShloMosaic.Rounds
open Idealize.SL Idealize.SL.RA Idealize.SL.BI
open scoped Idealize.SL.BI
open Idealize.SL.BI.BIBase Idealize.SL.Sem
open Cert.KernelIdeal Cert.KernelIdeal.Gen

variable {F : FTy → Type} [FloatOps F]

local notation "𝕄" => MT nD τ sig Unit (Elt F) ℕ UU ℕ

/-- The variants a program without forks runs at. -/
abbrev 𝒱₀ : Variants := Variants.none

/-! ## Geometry -/

/-- A box of unit strides places its index at its offset. -/
theorem unit_emb_val {s : Shape} {off size : Fin s.rank → ℕ} {inb} (y : (Rect.unit (s := s) off size inb).shape.Idx) (a : Fin s.rank) :
    ((Rect.unit (s := s) off size inb).emb y a).val = off a + (y a).val := by
  rw [Rect.emb_apply]; simp only [Rect.off_unit, Rect.stride_unit, Nat.one_mul]

/-- The elements of slot `k` of the sums are those at leading coordinate `k`. -/
theorem mem_oSlot (k : Fin 4) (i : S4x8x8x64.Idx) : i ∈ (oSlot k).view.set ↔ (i 0).val = k.val := by
  rw [Memref.set_view_squeeze]
  erw [View.set_slice_whole]
  rw [Rect.mem_set_unit]
  constructor
  · intro h
    have h0 : k.val ≤ (i 0).val ∧ (i 0).val < k.val + 1 := h 0
    omega
  · intro h a
    have := (i a).isLt
    fin_cases a
    · show k.val ≤ (i 0).val ∧ (i 0).val < k.val + 1; omega
    · exact ⟨Nat.zero_le _, by simpa using this⟩
    · exact ⟨Nat.zero_le _, by simpa using this⟩
    · exact ⟨Nat.zero_le _, by simpa using this⟩

/-- The elements of slot `k` of the statistics are those at leading coordinate `k`. -/
theorem mem_sSlot (k : Fin 4) (i : S4x2x8x8.Idx) : i ∈ (sSlot k).view.set ↔ (i 0).val = k.val := by
  rw [Memref.set_view_squeeze]
  erw [View.set_slice_whole]
  rw [Rect.mem_set_unit]
  constructor
  · intro h
    have h0 : k.val ≤ (i 0).val ∧ (i 0).val < k.val + 1 := h 0
    omega
  · intro h a
    have := (i a).isLt
    fin_cases a
    · show k.val ≤ (i 0).val ∧ (i 0).val < k.val + 1; omega
    · exact ⟨Nat.zero_le _, by simpa using this⟩
    · exact ⟨Nat.zero_le _, by simpa using this⟩
    · exact ⟨Nat.zero_le _, by simpa using this⟩

/-- Reading a buffer through the box of all of it. -/
theorem readAt_full_whole {b : Ref sig .tc} {off : Fin b.ty.shape.rank → ℕ} {inb} (h0 : ∀ a, off a = 0) (f : b.ty.Contents (Elt F)) :
    (Memref.whole b).view.readAt (Elt F) (Rect.unit (s := b.ty.shape) off b.ty.shape.size inb).toLoadRect f = f := by
  funext y
  show f ((Rect.unit (s := b.ty.shape) off b.ty.shape.size inb).emb y) = f y
  congr 1
  funext a
  apply Fin.ext
  rw [unit_emb_val, h0 a, Nat.zero_add]

/-- Storing a whole box of a buffer: the contents agree with `G` where they did
    and on the box. -/
theorem write_agrees {b : Ref sig .tc} {r : Rect b.ty.shape} (f G : b.ty.Contents (Elt F)) (w : r.shape.Idx → Elt F b.ty.elt)
    {P P' : b.ty.Idx → Prop} (h : ∀ i, P i → f i = G i) (hw : ∀ y, w y = G (r.emb y)) (hP : ∀ i, P' i → P i ∨ i ∈ r.set) :
    ∀ i, P' i → ((Memref.whole b).access r).write (Elt F) f w Finset.univ i = G i := by
  intro i hi
  by_cases hr : i ∈ r.set
  · rw [← Rect.map_emb_univ, Finset.mem_map] at hr
    obtain ⟨y, -, rfl⟩ := hr
    have := ((Memref.whole b).access r).write_emb_of_mem (Val := Elt F) f w (M := Finset.univ) (x := y) (Finset.mem_univ y)
    exact this.trans (hw y)
  · have hn : i ∉ ((Memref.whole b).access r).setOn Finset.univ := by
      rw [View.setOn_univ]
      show i ∉ ((View.whole b).slice r).set
      rw [View.set_slice_whole]; exact hr
    refine (View.write_of_not_mem _ _ _ hn).trans ?_
    exact h i ((hP i hi).resolve_right hr)

variable (c : Dev nD) (x : Ins F)

/-! ## What is held -/

/-- The blocks the device reads, and what they hold. -/
def held : sProp 𝕄 :=
  iprop(((Memref.whole cc0_stg0_0).view.loc (c : Thread nD τ) ↦{fullShare} x.q) ∗ ((Memref.whole cc0_stg1_0).view.loc (c : Thread nD τ) ↦{fullShare} x.k)
    ∗ ((Memref.whole cc0_stg2_0).view.loc (c : Thread nD τ) ↦{fullShare} x.v) ∗ ((Memref.whole cc0_stg3_0).view.loc (c : Thread nD τ) ↦{fullShare} x.bt)
    ∗ ((Memref.whole cc0_stg4_0).view.loc (c : Thread nD τ) ↦{fullShare} x.ln))

/-- The buffer of weights with its first `n` rows written. -/
def wHeld (n : ℕ) : sProp 𝕄 :=
  iprop(∃ f : cc0_scratch2.ty.Contents (Elt F), ((Memref.whole cc0_scratch2).view.loc (c : Thread nD τ) ↦{fullShare} f)
    ∗ ⌜∀ i : S8x1024.Idx, (i 0).val < n → f i = wts x i⌝)

/-- Slot 0 of the sums with its first `n` heads written. -/
def oHeld (n : ℕ) : sProp 𝕄 :=
  iprop(∃ f : OBuf F, oW c 0 fullShare f
    ∗ ⌜∀ i : S4x8x8x64.Idx, ((i 0).val = 0 ∧ (i 2).val < n) → f i = headO x (i 2) (ix4 0 (i 1) 0 (i 3))⌝)

/-- Slot 0 of the statistics: the maxima of the first `n` heads and the sums of
    the first `n'` are written. -/
def sHeld (n n' : ℕ) : sProp 𝕄 :=
  iprop(∃ f : SBuf F, sW c 0 fullShare f
    ∗ ⌜∀ i : S4x2x8x8.Idx, ((i 0).val = 0 ∧ (i 3).val < if (i 1).val = 0 then n else n') →
        f i = if (i 1).val = 0 then headM x (i 3) (ix4 0 0 (i 2) 0) else headL x (i 3) (ix4 0 0 (i 2) 0)⌝)

/-- The weakest precondition of a part of the body on device `c`. -/
abbrev WP {α : Type} (c : Dev nD) (p : Prog (TpuEff nD τ sig (Elt F) Λ₀ .tc) α) (Q : α → sProp 𝕄) : sProp 𝕄 :=
  wp frame (wpE (defs₀ (F := F)) 𝒱₀ c none) Set.univ p Q

/-- Reading the queries of head `h`. -/
theorem wp_q {α : Type} {Q : α → sProp 𝕄} (h : Fin 8) {inb hl} {k : Vec F S8x1x1x64 .f32 → Prog (TpuEff nD τ sig (Elt F) Λ₀ .tc) α} :
    held c x ⊢ iprop((held c x -∗ WP c (k (qh x h)) Q)
      -∗ WP c (.op (.load (Memref.whole cc0_stg0_0) (Rect.unit (s := S8x1x8x64) ![0, 0, h.val, 0] S8x1x1x64.size inb).toLoadRect hl) k) Q) := by
  iintro H Hk
  unfold held
  icases H with ⟨H0, H1, H2, H3, H4⟩
  iapply (wp_load 𝒱₀ (c : Thread nD τ) none Set.univ (Finset.subset_univ _)) $$ H0
  iintro H0
  iapply Hk
  isplitl [H0]
  · iexact H0
  isplitl [H1]
  · iexact H1
  isplitl [H2]
  · iexact H2
  isplitl [H3]
  · iexact H3
  iexact H4

/-- Reading the keys of head `h`. -/
theorem wp_k {α : Type} {Q : α → sProp 𝕄} (h : Fin 8) {inb hl} {k : Vec F S1x1024x64 .f32 → Prog (TpuEff nD τ sig (Elt F) Λ₀ .tc) α} :
    held c x ⊢ iprop((held c x -∗ WP c (k (kh x h)) Q)
      -∗ WP c (.op (.load (Memref.whole cc0_stg1_0) (Rect.unit (s := S8x1024x64) ![h.val, 0, 0] S1x1024x64.size inb).toLoadRect hl) k) Q) := by
  iintro H Hk
  unfold held
  icases H with ⟨H0, H1, H2, H3, H4⟩
  iapply (wp_load 𝒱₀ (c : Thread nD τ) none Set.univ (Finset.subset_univ _)) $$ H1
  iintro H1
  iapply Hk
  isplitl [H0]
  · iexact H0
  isplitl [H1]
  · iexact H1
  isplitl [H2]
  · iexact H2
  isplitl [H3]
  · iexact H3
  iexact H4

/-- Reading the values of head `h`. -/
theorem wp_v {α : Type} {Q : α → sProp 𝕄} (h : Fin 8) {inb hl} {k : Vec F S1x1024x64 .f32 → Prog (TpuEff nD τ sig (Elt F) Λ₀ .tc) α} :
    held c x ⊢ iprop((held c x -∗ WP c (k (vh x h)) Q)
      -∗ WP c (.op (.load (Memref.whole cc0_stg2_0) (Rect.unit (s := S8x1024x64) ![h.val, 0, 0] S1x1024x64.size inb).toLoadRect hl) k) Q) := by
  iintro H Hk
  unfold held
  icases H with ⟨H0, H1, H2, H3, H4⟩
  iapply (wp_load 𝒱₀ (c : Thread nD τ) none Set.univ (Finset.subset_univ _)) $$ H2
  iintro H2
  iapply Hk
  isplitl [H0]
  · iexact H0
  isplitl [H1]
  · iexact H1
  isplitl [H2]
  · iexact H2
  isplitl [H3]
  · iexact H3
  iexact H4

/-- Reading the table of pages. -/
theorem wp_bt {α : Type} {Q : α → sProp 𝕄} {inb hl} {k : Vec F S8x64 .i32 → Prog (TpuEff nD τ sig (Elt F) Λ₀ .tc) α} :
    held c x ⊢ iprop((held c x -∗ WP c (k x.bt) Q)
      -∗ WP c (.op (.load (Memref.whole cc0_stg3_0) (Rect.unit (s := S8x64) ![0, 0] S8x64.size inb).toLoadRect hl) k) Q) := by
  iintro H Hk
  unfold held
  icases H with ⟨H0, H1, H2, H3, H4⟩
  iapply (wp_load 𝒱₀ (c : Thread nD τ) none Set.univ (Finset.subset_univ _)) $$ H3
  iintro H3
  rw [show (Memref.whole cc0_stg3_0).view.readAt (Elt F) (Rect.unit (s := S8x64) ![0, 0] S8x64.size inb).toLoadRect x.bt = x.bt from
    readAt_full_whole (b := cc0_stg3_0) (by intro a; fin_cases a <;> rfl) x.bt]
  iapply Hk
  isplitl [H0]
  · iexact H0
  isplitl [H1]
  · iexact H1
  isplitl [H2]
  · iexact H2
  isplitl [H3]
  · iexact H3
  iexact H4

/-- Reading the count of row `b`. -/
theorem wp_ln {α : Type} {Q : α → sProp 𝕄} (b : Fin 8) {inb hl} {k : (S1.Idx → Elt F .i32) → Prog (TpuEff nD τ sig (Elt F) Λ₀ .tc) α} :
    held c x ⊢ iprop((held c x -∗ WP c (k (fun _ => x.ln (ix1 b))) Q)
      -∗ WP c (.op (.load (Memref.whole cc0_stg4_0) (Rect.unit (s := S8) ![b.val] S1.size inb).toLoadRect hl) k) Q) := by
  iintro H Hk
  unfold held
  icases H with ⟨H0, H1, H2, H3, H4⟩
  iapply (wp_load 𝒱₀ (c : Thread nD τ) none Set.univ (Finset.subset_univ _)) $$ H4
  iintro H4
  have e : (Memref.whole cc0_stg4_0).view.readAt (Elt F) (Rect.unit (s := S8) ![b.val] S1.size inb).toLoadRect x.ln = fun _ => x.ln (ix1 b) := by
    funext y
    show x.ln ((Rect.unit (s := S8) ![b.val] S1.size inb).emb y) = _
    congr 1
    funext a
    have ha : a = (0 : Fin 1) := Subsingleton.elim _ _
    subst ha
    apply Fin.ext
    rw [unit_emb_val]
    have : (y 0).val < 1 := (y 0).isLt
    show b.val + (y 0).val = b.val
    omega
  rw [e]
  iapply Hk
  isplitl [H0]
  · iexact H0
  isplitl [H1]
  · iexact H1
  isplitl [H2]
  · iexact H2
  isplitl [H3]
  · iexact H3
  iexact H4

/-- Reading a row of the weights without using it. -/
theorem wp_wld {α : Type} {Q : α → sProp 𝕄} (n : ℕ) (b : Fin 8) {inb hl} {p : Prog (TpuEff nD τ sig (Elt F) Λ₀ .tc) α} :
    wHeld c x n ⊢ iprop((wHeld c x n -∗ WP c p Q)
      -∗ WP c (.op (.load (Memref.whole cc0_scratch2) (Rect.unit (s := S8x1024) ![b.val, 0] S1x1024.size inb).toLoadRect hl) (fun _ => p)) Q) := by
  unfold wHeld
  iintro ⟨%f, H, %hf⟩ Hk
  iapply (wp_load 𝒱₀ (c : Thread nD τ) none Set.univ (Finset.subset_univ _)) $$ H
  iintro H
  iapply Hk
  iexists f
  isplitl [H]
  · iexact H
  ipureintro
  exact hf

/-- Writing row `b` of the weights. -/
theorem wp_wst {α : Type} {Q : α → sProp 𝕄} (b : Fin 8) {n n' : Nat} (hn : n = b.val) (hn' : n' = b.val + 1) {inb hx hm} {w : Vec F S1x1024 .f32} {k : PUnit → Prog (TpuEff nD τ sig (Elt F) Λ₀ .tc) α} (hw : w = rowOf (pages x) slots (k0_pay6 x.bt) b (x.ln (ix1 b))) :
    wHeld c x n ⊢ iprop((wHeld c x n' -∗ WP c (k ⟨⟩) Q)
      -∗ WP c (.op (.store (Memref.whole cc0_scratch2) (Rect.unit (s := S8x1024) ![b.val, 0] S1x1024.size inb) w Finset.univ hx hm) k) Q) := by
  subst hn hn'
  unfold wHeld
  iintro ⟨%f, H, %hf⟩ Hk
  iapply (wp_store 𝒱₀ (c : Thread nD τ) none Set.univ (m := Memref.whole cc0_scratch2) (r := Rect.unit (s := S8x1024) ![b.val, 0] S1x1024.size inb) (Finset.subset_univ _)) $$ H
  iintro H
  iapply Hk
  iexists _
  isplitl [H]
  · iexact H
  ipureintro
  subst hw
  refine write_agrees (b := cc0_scratch2) f (wts x) _ hf (fun y => ?_) (fun i hi => ?_)
  · have h0 : (Rect.unit (s := S8x1024) ![b.val, 0] S1x1024.size inb).emb y 0 = b := Fin.ext (by
      rw [unit_emb_val]; have : (y 0).val < 1 := (y 0).isLt
      show b.val + (y 0).val = b.val; omega)
    have h1 : (Rect.unit (s := S8x1024) ![b.val, 0] S1x1024.size inb).emb y 1 = y 1 := Fin.ext (by
      rw [unit_emb_val]; show 0 + (y 1).val = (y 1).val; omega)
    have e : y = ix2 (0 : Fin 1) (y 1) := by
      rw [eq_ix2 y]; congr 1; exact Subsingleton.elim (α := Fin 1) _ _
    show _ = rowOf (pages x) slots (k0_pay6 x.bt) _ (x.ln (ix1 _)) (ix2 0 _)
    rw [h0, h1]; exact congrArg _ e
  · by_cases h : (i 0).val < b.val
    · exact .inl h
    · refine .inr (Rect.mem_set_unit.mpr fun a => ?_)
      fin_cases a
      · show b.val ≤ (i 0).val ∧ (i 0).val < b.val + 1; omega
      · exact ⟨Nat.zero_le _, by have h : (i 1).val < 1024 := (i 1).isLt; show (i 1).val < 0 + 1024; omega⟩

/-- Reading the weights whole. -/
theorem wp_wall {α : Type} {Q : α → sProp 𝕄} {inb hl} {k : Vec F S8x1024 .f32 → Prog (TpuEff nD τ sig (Elt F) Λ₀ .tc) α} :
    wHeld c x 8 ⊢ iprop((wHeld c x 8 -∗ WP c (k (wts x)) Q)
      -∗ WP c (.op (.load (Memref.whole cc0_scratch2) (Rect.unit (s := S8x1024) ![0, 0] S8x1024.size inb).toLoadRect hl) k) Q) := by
  unfold wHeld
  iintro ⟨%f, H, %hf⟩ Hk
  have e : f = wts x := funext fun i => hf i (i 0).isLt
  iapply (wp_load 𝒱₀ (c : Thread nD τ) none Set.univ (Finset.subset_univ _)) $$ H
  iintro H
  have h0 : ∀ a : Fin cc0_scratch2.ty.shape.rank, (![0, 0] : Fin 2 → ℕ) a = 0 := by intro a; fin_cases a <;> rfl
  have e1 := readAt_full_whole (F := F) (b := cc0_scratch2) (inb := inb) h0 f
  have e2 : (Memref.whole cc0_scratch2).view.readAt (Elt F) (Rect.unit (s := S8x1024) ![0, 0] S8x1024.size inb).toLoadRect f = wts x := e1.trans e
  rw [e2]
  iapply Hk
  iexists f
  isplitl [H]
  · iexact H
  ipureintro
  exact hf

/-- A box with leading coordinate 0 lies in slot 0 of the sums. -/
theorem box_oSlot {off size : Fin 4 → ℕ} {inb} (h0 : off 0 = 0) (h1 : size 0 = 1) :
    ((Memref.whole cc0_scratch0).access (Rect.unit (s := S4x8x8x64) off size inb)).setOn Finset.univ ⊆ (oSlot 0).view.set := by
  intro i hi
  rw [View.setOn_univ] at hi
  erw [View.set_slice_whole] at hi
  refine (mem_oSlot 0 i).mpr ?_
  have := (Rect.mem_set_unit.mp hi 0).2
  rw [h0, h1] at this
  show (i 0).val = 0
  omega

/-- A box with leading coordinate 0 lies in slot 0 of the statistics. -/
theorem box_sSlot {off size : Fin 4 → ℕ} {inb} (h0 : off 0 = 0) (h1 : size 0 = 1) :
    ((Memref.whole cc0_scratch1).access (Rect.unit (s := S4x2x8x8) off size inb)).setOn Finset.univ ⊆ (sSlot 0).view.set := by
  intro i hi
  rw [View.setOn_univ] at hi
  erw [View.set_slice_whole] at hi
  refine (mem_sSlot 0 i).mpr ?_
  have := (Rect.mem_set_unit.mp hi 0).2
  rw [h0, h1] at this
  show (i 0).val = 0
  omega

/-- The same, as a load sees the box. -/
theorem ld_oSlot {off size : Fin 4 → ℕ} {inb} (h0 : off 0 = 0) (h1 : size 0 = 1) :
    (Memref.whole cc0_scratch0).view.setOn (Rect.unit (s := S4x8x8x64) off size inb).toLoadRect.set ⊆ (oSlot 0).view.set := by
  have h := box_oSlot (inb := inb) h0 h1
  rw [View.setOn_univ] at h
  erw [View.set_slice] at h
  exact h

/-- The same, as a load sees the box. -/
theorem ld_sSlot {off size : Fin 4 → ℕ} {inb} (h0 : off 0 = 0) (h1 : size 0 = 1) :
    (Memref.whole cc0_scratch1).view.setOn (Rect.unit (s := S4x2x8x8) off size inb).toLoadRect.set ⊆ (sSlot 0).view.set := by
  have h := box_sSlot (inb := inb) h0 h1
  rw [View.setOn_univ] at h
  erw [View.set_slice] at h
  exact h

/-- Reading a head of the sums without using it. -/
theorem wp_old {α : Type} {Q : α → sProp 𝕄} (n : ℕ) (h : Fin 8) {inb hl} {p : Prog (TpuEff nD τ sig (Elt F) Λ₀ .tc) α} :
    oHeld c x n ⊢ iprop((oHeld c x n -∗ WP c p Q)
      -∗ WP c (.op (.load (Memref.whole cc0_scratch0) (Rect.unit (s := S4x8x8x64) ![0, 0, h.val, 0] S1x8x1x64.size inb).toLoadRect hl) (fun _ => p)) Q) := by
  unfold oHeld
  iintro ⟨%f, H, %hf⟩ Hk
  iapply (wp_load 𝒱₀ (c : Thread nD τ) none Set.univ (ld_oSlot rfl rfl)) $$ H
  iintro H
  iapply Hk
  iexists f
  isplitl [H]
  · iexact H
  ipureintro
  exact hf

/-- Writing head `h` of the sums. -/
theorem wp_ost {α : Type} {Q : α → sProp 𝕄} (h : Fin 8) {inb hx hm} {w : Vec F S1x8x1x64 .f32} {k : PUnit → Prog (TpuEff nD τ sig (Elt F) Λ₀ .tc) α} (hw : w = headO x h) :
    oHeld c x h.val ⊢ iprop((oHeld c x (h.val + 1) -∗ WP c (k ⟨⟩) Q)
      -∗ WP c (.op (.store (Memref.whole cc0_scratch0) (Rect.unit (s := S4x8x8x64) ![0, 0, h.val, 0] S1x8x1x64.size inb) w Finset.univ hx hm) k) Q) := by
  unfold oHeld
  iintro ⟨%f, H, %hf⟩ Hk
  iapply (wp_store 𝒱₀ (c : Thread nD τ) none Set.univ (m := Memref.whole cc0_scratch0) (r := Rect.unit (s := S4x8x8x64) ![0, 0, h.val, 0] S1x8x1x64.size inb) (box_oSlot rfl rfl)) $$ H
  iintro H
  iapply Hk
  iexists _
  isplitl [H]
  · iexact H
  ipureintro
  subst hw
  refine write_agrees (b := cc0_scratch0) f (fun i : S4x8x8x64.Idx => headO x (i 2) (ix4 0 (i 1) 0 (i 3))) _ hf (fun y => ?_) (fun i hi => ?_)
  · have h1 : (Rect.unit (s := S4x8x8x64) ![0, 0, h.val, 0] S1x8x1x64.size inb).emb y 1 = y 1 := Fin.ext (by
      rw [unit_emb_val]; show 0 + (y 1).val = (y 1).val; omega)
    have h2 : (Rect.unit (s := S4x8x8x64) ![0, 0, h.val, 0] S1x8x1x64.size inb).emb y 2 = h := Fin.ext (by
      rw [unit_emb_val]; have : (y 2).val < 1 := (y 2).isLt
      show h.val + (y 2).val = h.val; omega)
    have h3 : (Rect.unit (s := S4x8x8x64) ![0, 0, h.val, 0] S1x8x1x64.size inb).emb y 3 = y 3 := Fin.ext (by
      rw [unit_emb_val]; show 0 + (y 3).val = (y 3).val; omega)
    have e : y = ix4 (0 : Fin 1) (y 1) (0 : Fin 1) (y 3) := by
      rw [eq_ix4 y]; congr 1 <;> exact Subsingleton.elim (α := Fin 1) _ _
    show headO x h y = headO x _ (ix4 0 _ 0 _)
    rw [h1, h2, h3]; exact congrArg _ e
  · by_cases h' : (i 2).val < h.val
    · exact .inl ⟨hi.1, h'⟩
    · refine .inr (Rect.mem_set_unit.mpr fun a => ?_)
      have b0 := hi.1; have b2 := hi.2
      have b1 : (i 1).val < 8 := (i 1).isLt
      have b3 : (i 3).val < 64 := (i 3).isLt
      fin_cases a
      · show 0 ≤ (i 0).val ∧ (i 0).val < 0 + 1; omega
      · show 0 ≤ (i 1).val ∧ (i 1).val < 0 + 8; omega
      · show h.val ≤ (i 2).val ∧ (i 2).val < h.val + 1; omega
      · show 0 ≤ (i 3).val ∧ (i 3).val < 0 + 64; omega

/-- Reading a column of the statistics without using it. -/
theorem wp_sld {α : Type} {Q : α → sProp 𝕄} (n n' : ℕ) (a : ℕ) (h : Fin 8) {inb hl} {p : Prog (TpuEff nD τ sig (Elt F) Λ₀ .tc) α} :
    sHeld c x n n' ⊢ iprop((sHeld c x n n' -∗ WP c p Q)
      -∗ WP c (.op (.load (Memref.whole cc0_scratch1) (Rect.unit (s := S4x2x8x8) ![0, a, 0, h.val] S1x1x8x1.size inb).toLoadRect hl) (fun _ => p)) Q) := by
  unfold sHeld
  iintro ⟨%f, H, %hf⟩ Hk
  iapply (wp_load 𝒱₀ (c : Thread nD τ) none Set.univ (ld_sSlot rfl rfl)) $$ H
  iintro H
  iapply Hk
  iexists f
  isplitl [H]
  · iexact H
  ipureintro
  exact hf

/-- Writing the maxima of head `h`. -/
theorem wp_smst {α : Type} {Q : α → sProp 𝕄} (n' : ℕ) (h : Fin 8) {inb hx hm} {w : Vec F S1x1x8x1 .f32} {k : PUnit → Prog (TpuEff nD τ sig (Elt F) Λ₀ .tc) α} (hw : w = headM x h) :
    sHeld c x h.val n' ⊢ iprop((sHeld c x (h.val + 1) n' -∗ WP c (k ⟨⟩) Q)
      -∗ WP c (.op (.store (Memref.whole cc0_scratch1) (Rect.unit (s := S4x2x8x8) ![0, 0, 0, h.val] S1x1x8x1.size inb) w Finset.univ hx hm) k) Q) := by
  unfold sHeld
  iintro ⟨%f, H, %hf⟩ Hk
  iapply (wp_store 𝒱₀ (c : Thread nD τ) none Set.univ (m := Memref.whole cc0_scratch1) (r := Rect.unit (s := S4x2x8x8) ![0, 0, 0, h.val] S1x1x8x1.size inb) (box_sSlot rfl rfl)) $$ H
  iintro H
  iapply Hk
  iexists _
  isplitl [H]
  · iexact H
  ipureintro
  subst hw
  refine write_agrees (b := cc0_scratch1) f (fun i : S4x2x8x8.Idx => if (i 1).val = 0 then headM x (i 3) (ix4 0 0 (i 2) 0) else headL x (i 3) (ix4 0 0 (i 2) 0)) _ hf (fun y => ?_) (fun i hi => ?_)
  · have h1 : ((Rect.unit (s := S4x2x8x8) ![0, 0, 0, h.val] S1x1x8x1.size inb).emb y 1).val = 0 := by
      rw [unit_emb_val]; have : (y 1).val < 1 := (y 1).isLt
      show 0 + (y 1).val = 0; omega
    have h2 : (Rect.unit (s := S4x2x8x8) ![0, 0, 0, h.val] S1x1x8x1.size inb).emb y 2 = y 2 := Fin.ext (by
      rw [unit_emb_val]; show 0 + (y 2).val = (y 2).val; omega)
    have h3 : (Rect.unit (s := S4x2x8x8) ![0, 0, 0, h.val] S1x1x8x1.size inb).emb y 3 = h := Fin.ext (by
      rw [unit_emb_val]; have : (y 3).val < 1 := (y 3).isLt
      show h.val + (y 3).val = h.val; omega)
    have e : y = ix4 (0 : Fin 1) (0 : Fin 1) (y 2) (0 : Fin 1) := by
      rw [eq_ix4 y]; congr 1 <;> exact Subsingleton.elim (α := Fin 1) _ _
    show headM x h y = if _ = 0 then headM x _ (ix4 0 0 _ 0) else headL x _ (ix4 0 0 _ 0)
    rw [h1, h2, h3, if_pos rfl]; exact congrArg _ e
  · obtain ⟨b0, b3⟩ := hi
    by_cases ha : (i 1).val = 0
    · by_cases h' : (i 3).val < h.val
      · exact .inl ⟨b0, by rw [ha, if_pos rfl]; exact h'⟩
      · rw [ha, if_pos rfl] at b3
        refine .inr (Rect.mem_set_unit.mpr fun a => ?_)
        have b2 : (i 2).val < 8 := (i 2).isLt
        fin_cases a
        · show 0 ≤ (i 0).val ∧ (i 0).val < 0 + 1; omega
        · show 0 ≤ (i 1).val ∧ (i 1).val < 0 + 1; omega
        · show 0 ≤ (i 2).val ∧ (i 2).val < 0 + 8; omega
        · show h.val ≤ (i 3).val ∧ (i 3).val < h.val + 1; omega
    · have b1 : (i 1).val < 2 := (i 1).isLt
      refine .inl ⟨b0, ?_⟩
      split <;> rename_i hc
      · rw [if_pos hc] at b3; first | exact b3 | exact absurd hc ha
      · rw [if_neg hc] at b3; first | exact b3 | exact absurd (by omega) ha

/-- Writing the sums of head `h`. -/
theorem wp_slst {α : Type} {Q : α → sProp 𝕄} (n : ℕ) (h : Fin 8) {inb hx hm} {w : Vec F S1x1x8x1 .f32} {k : PUnit → Prog (TpuEff nD τ sig (Elt F) Λ₀ .tc) α} (hw : w = headL x h) :
    sHeld c x n h.val ⊢ iprop((sHeld c x n (h.val + 1) -∗ WP c (k ⟨⟩) Q)
      -∗ WP c (.op (.store (Memref.whole cc0_scratch1) (Rect.unit (s := S4x2x8x8) ![0, 1, 0, h.val] S1x1x8x1.size inb) w Finset.univ hx hm) k) Q) := by
  unfold sHeld
  iintro ⟨%f, H, %hf⟩ Hk
  iapply (wp_store 𝒱₀ (c : Thread nD τ) none Set.univ (m := Memref.whole cc0_scratch1) (r := Rect.unit (s := S4x2x8x8) ![0, 1, 0, h.val] S1x1x8x1.size inb) (box_sSlot rfl rfl)) $$ H
  iintro H
  iapply Hk
  iexists _
  isplitl [H]
  · iexact H
  ipureintro
  subst hw
  refine write_agrees (b := cc0_scratch1) f (fun i : S4x2x8x8.Idx => if (i 1).val = 0 then headM x (i 3) (ix4 0 0 (i 2) 0) else headL x (i 3) (ix4 0 0 (i 2) 0)) _ hf (fun y => ?_) (fun i hi => ?_)
  · have h1 : ((Rect.unit (s := S4x2x8x8) ![0, 1, 0, h.val] S1x1x8x1.size inb).emb y 1).val = 1 := by
      rw [unit_emb_val]; have : (y 1).val < 1 := (y 1).isLt
      show 1 + (y 1).val = 1; omega
    have h2 : (Rect.unit (s := S4x2x8x8) ![0, 1, 0, h.val] S1x1x8x1.size inb).emb y 2 = y 2 := Fin.ext (by
      rw [unit_emb_val]; show 0 + (y 2).val = (y 2).val; omega)
    have h3 : (Rect.unit (s := S4x2x8x8) ![0, 1, 0, h.val] S1x1x8x1.size inb).emb y 3 = h := Fin.ext (by
      rw [unit_emb_val]; have : (y 3).val < 1 := (y 3).isLt
      show h.val + (y 3).val = h.val; omega)
    have e : y = ix4 (0 : Fin 1) (0 : Fin 1) (y 2) (0 : Fin 1) := by
      rw [eq_ix4 y]; congr 1 <;> exact Subsingleton.elim (α := Fin 1) _ _
    show headL x h y = if _ = 0 then headM x _ (ix4 0 0 _ 0) else headL x _ (ix4 0 0 _ 0)
    rw [h1, h2, h3, if_neg Nat.one_ne_zero]; exact congrArg _ e
  · obtain ⟨b0, b3⟩ := hi
    by_cases ha : (i 1).val = 1
    · by_cases h' : (i 3).val < h.val
      · exact .inl ⟨b0, by rw [ha, if_neg Nat.one_ne_zero]; exact h'⟩
      · rw [ha, if_neg Nat.one_ne_zero] at b3
        refine .inr (Rect.mem_set_unit.mpr fun a => ?_)
        have b2 : (i 2).val < 8 := (i 2).isLt
        fin_cases a
        · show 0 ≤ (i 0).val ∧ (i 0).val < 0 + 1; omega
        · show 1 ≤ (i 1).val ∧ (i 1).val < 1 + 1; omega
        · show 0 ≤ (i 2).val ∧ (i 2).val < 0 + 8; omega
        · show h.val ≤ (i 3).val ∧ (i 3).val < h.val + 1; omega
    · have b1 : (i 1).val < 2 := (i 1).isLt
      refine .inl ⟨b0, ?_⟩
      split <;> rename_i hc
      · rw [if_pos hc] at b3; first | exact b3 | exact absurd hc ha
      · rw [if_neg hc] at b3; first | exact b3 | exact absurd (by omega) ha

end Cert.PagedMerge
-- ==== Proof.MergeSteps.lean ====
module

public import proofs.«01_k».proof.Proof.Local

set_option maxRecDepth 16384

@[expose] public section

/-!
# The merge of four devices' partial results, step by step

The rules for its loads and stores, once for every head.
-/

noncomputable section

namespace Cert.PagedMerge

open Idealize.ShloMosaic Idealize.ShloMosaic.TcCoe Idealize.ShloMosaic.Rounds
open Idealize.SL Idealize.SL.RA Idealize.SL.BI
open scoped Idealize.SL.BI
open Idealize.SL.BI.BIBase Idealize.SL.Sem
open Cert.KernelIdeal Cert.KernelIdeal.Gen

variable {F : FTy → Type} [FloatOps F]

local notation "𝕄" => MT nD τ sig Unit (Elt F) ℕ UU ℕ

variable (c : Dev nD) (xs : Fin 4 → Ins F)

/-- The two exchanged buffers after the exchange: every slot at the device it came from. -/
def mHeld : sProp 𝕄 :=
  iprop(((Memref.whole cc0_scratch0).view.loc (c : Thread nD τ) ↦{fullShare} oAll xs)
    ∗ ((Memref.whole cc0_scratch1).view.loc (c : Thread nD τ) ↦{fullShare} sAll xs))

/-- The result's block with its first `n` heads written. -/
def outHeld (n : ℕ) : sProp 𝕄 :=
  iprop(∃ f : cc0_stg5_0.ty.Contents (Elt F), ((Memref.whole cc0_stg5_0).view.loc (c : Thread nD τ) ↦{fullShare} f)
    ∗ ⌜∀ i : S8x1x8x64.Idx, (i 2).val < n → f i = outAll xs i⌝)

/-- Reading a statistic of head `h` of all four slots. -/
theorem wp_st {α : Type} {Q : α → sProp 𝕄} (a : Fin 2) (h : Fin 8) {inb hl} {k : Vec F S4x1x8x1 .f32 → Prog (TpuEff nD τ sig (Elt F) Λ₀ .tc) α} :
    mHeld c xs ⊢ iprop((mHeld c xs -∗ WP c (k (stAt xs a h)) Q)
      -∗ WP c (.op (.load (Memref.whole cc0_scratch1) (Rect.unit (s := S4x2x8x8) ![0, a.val, 0, h.val] S4x1x8x1.size inb).toLoadRect hl) k) Q) := by
  iintro H Hk
  unfold mHeld
  icases H with ⟨H0, H1⟩
  iapply (wp_load 𝒱₀ (c : Thread nD τ) none Set.univ (Finset.subset_univ _)) $$ H1
  iintro H1
  iapply Hk
  isplitl [H0]
  · iexact H0
  iexact H1

/-- Reading the sums of head `h` of all four slots. -/
theorem wp_ov {α : Type} {Q : α → sProp 𝕄} (h : Fin 8) {inb hl} {k : Vec F S4x8x1x64 .f32 → Prog (TpuEff nD τ sig (Elt F) Λ₀ .tc) α} :
    mHeld c xs ⊢ iprop((mHeld c xs -∗ WP c (k (ovAt xs h)) Q)
      -∗ WP c (.op (.load (Memref.whole cc0_scratch0) (Rect.unit (s := S4x8x8x64) ![0, 0, h.val, 0] S4x8x1x64.size inb).toLoadRect hl) k) Q) := by
  iintro H Hk
  unfold mHeld
  icases H with ⟨H0, H1⟩
  iapply (wp_load 𝒱₀ (c : Thread nD τ) none Set.univ (Finset.subset_univ _)) $$ H0
  iintro H0
  iapply Hk
  isplitl [H0]
  · iexact H0
  iexact H1

/-- Reading a head of the result without using it. -/
theorem wp_outld {α : Type} {Q : α → sProp 𝕄} (n : ℕ) (h : Fin 8) {inb hl} {p : Prog (TpuEff nD τ sig (Elt F) Λ₀ .tc) α} :
    outHeld c xs n ⊢ iprop((outHeld c xs n -∗ WP c p Q)
      -∗ WP c (.op (.load (Memref.whole cc0_stg5_0) (Rect.unit (s := S8x1x8x64) ![0, 0, h.val, 0] S8x1x1x64.size inb).toLoadRect hl) (fun _ => p)) Q) := by
  unfold outHeld
  iintro ⟨%f, H, %hf⟩ Hk
  iapply (wp_load 𝒱₀ (c : Thread nD τ) none Set.univ (Finset.subset_univ _)) $$ H
  iintro H
  iapply Hk
  iexists f
  isplitl [H]
  · iexact H
  ipureintro
  exact hf

/-- Writing head `h` of the result. -/
theorem wp_outst {α : Type} {Q : α → sProp 𝕄} (h : Fin 8) {n n' : Nat} (hn : n = h.val) (hn' : n' = h.val + 1) {inb hx hm} {w : Vec F S8x1x1x64 .f32} {k : PUnit → Prog (TpuEff nD τ sig (Elt F) Λ₀ .tc) α} (hw : w = headOut xs h) :
    outHeld c xs n ⊢ iprop((outHeld c xs n' -∗ WP c (k ⟨⟩) Q)
      -∗ WP c (.op (.store (Memref.whole cc0_stg5_0) (Rect.unit (s := S8x1x8x64) ![0, 0, h.val, 0] S8x1x1x64.size inb) w Finset.univ hx hm) k) Q) := by
  subst hn hn'
  unfold outHeld
  iintro ⟨%f, H, %hf⟩ Hk
  iapply (wp_store 𝒱₀ (c : Thread nD τ) none Set.univ (m := Memref.whole cc0_stg5_0) (r := Rect.unit (s := S8x1x8x64) ![0, 0, h.val, 0] S8x1x1x64.size inb) (Finset.subset_univ _)) $$ H
  iintro H
  iapply Hk
  iexists _
  isplitl [H]
  · iexact H
  ipureintro
  subst hw
  refine write_agrees (b := cc0_stg5_0) f (outAll xs) _ hf (fun y => ?_) (fun i hi => ?_)
  · have h0 : (Rect.unit (s := S8x1x8x64) ![0, 0, h.val, 0] S8x1x1x64.size inb).emb y 0 = y 0 := Fin.ext (by
      rw [unit_emb_val]; show 0 + (y 0).val = (y 0).val; omega)
    have h2 : (Rect.unit (s := S8x1x8x64) ![0, 0, h.val, 0] S8x1x1x64.size inb).emb y 2 = h := Fin.ext (by
      rw [unit_emb_val]; have : (y 2).val < 1 := (y 2).isLt
      show h.val + (y 2).val = h.val; omega)
    have h3 : (Rect.unit (s := S8x1x8x64) ![0, 0, h.val, 0] S8x1x1x64.size inb).emb y 3 = y 3 := Fin.ext (by
      rw [unit_emb_val]; show 0 + (y 3).val = (y 3).val; omega)
    have e : y = ix4 (y 0) (0 : Fin 1) (0 : Fin 1) (y 3) := by
      rw [eq_ix4 y]; congr 1 <;> exact Subsingleton.elim (α := Fin 1) _ _
    show headOut xs h y = headOut xs _ (ix4 _ 0 0 _)
    rw [h0, h2, h3]; exact congrArg _ e
  · by_cases h' : (i 2).val < h.val
    · exact .inl h'
    · refine .inr (Rect.mem_set_unit.mpr fun a => ?_)
      have b0 : (i 0).val < 8 := (i 0).isLt
      have b1 : (i 1).val < 1 := (i 1).isLt
      have b3 : (i 3).val < 64 := (i 3).isLt
      fin_cases a
      · show 0 ≤ (i 0).val ∧ (i 0).val < 0 + 8; omega
      · show 0 ≤ (i 1).val ∧ (i 1).val < 0 + 1; omega
      · show h.val ≤ (i 2).val ∧ (i 2).val < h.val + 1; omega
      · show 0 ≤ (i 3).val ∧ (i 3).val < 0 + 64; omega

end Cert.PagedMerge
-- ==== Proof.Parts.lean ====
module

public import proofs.«01_k».proof.Proof.MergeSteps

set_option maxRecDepth 16384

@[expose] public section

/-!
# The body's own computation, printed part by printed part

The rows of weights, the heads, and the merge: for each part of the body what it needs and
what it leaves.
-/

noncomputable section

namespace Cert.PagedMerge

open Idealize.ShloMosaic Idealize.ShloMosaic.TcCoe Idealize.ShloMosaic.Rounds
open Idealize.SL Idealize.SL.RA Idealize.SL.BI
open scoped Idealize.SL.BI
open Idealize.SL.BI.BIBase Idealize.SL.Sem
open Cert.KernelIdeal Cert.KernelIdeal.Gen

variable {F : FTy → Type} [FloatOps F]

local notation "𝕄" => MT nD τ sig Unit (Elt F) ℕ UU ℕ

variable (c : Dev nD) (x : Ins F) (xs : Fin 4 → Ins F)

/-! ## One head -/

/-- A head's box of the sums lies inside. -/
theorem o1_inb (h : Fin 8) : ∀ a, (![0, 0, h.val, 0] : Fin 4 → ℕ) a + S1x8x1x64.size a ≤ S4x8x8x64.size a := by
  revert h; decide

/-- A head's column of the statistics lies inside. -/
theorem s1_inb (a : Fin 2) (h : Fin 8) : ∀ d, (![0, a.val, 0, h.val] : Fin 4 → ℕ) d + S1x1x8x1.size d ≤ S4x2x8x8.size d := by
  revert a h; decide

/-- What the body does for head `h` once its scores are known: the weighted values, the largest score and
    the sum of weights go to slot 0. -/
def headCore (h : Fin 8) (w : Vec F S8x1024 .f32) (msk : IVec S8x1024 1) (s neg : FVec F S8x1024 .f32) :
    Prog (TpuEff nD τ sig (Elt F) Λ₀ .tc) PUnit := do
  let v : Vec F S1x1024x64 .f32 ← Prog.lift (.load (Memref.whole cc0_stg2_0) (Rect.unit (s := S8x1024x64) ![h.val, 0, 0] S1x1024x64.size (k_inb h)).toLoadRect (View.loadsAt_vmem h_S1x1024x64))
  let _ : Vec F S1x8x1x64 .f32 ← Prog.lift (.load (Memref.whole cc0_scratch0) (Rect.unit (s := S4x8x8x64) ![0, 0, h.val, 0] S1x8x1x64.size (o1_inb h)).toLoadRect (View.loadsAt_vmem h_S1x8x1x64))
  Prog.lift (.store (Memref.whole cc0_scratch0) (Rect.unit (s := S4x8x8x64) ![0, 0, h.val, 0] S1x8x1x64.size (o1_inb h)) (k0_pay24 w msk s neg v) Finset.univ (View.stores_vmem_bits_univ h_S1x8x1x64 rfl) (.inl rfl))
  let _ : Vec F S1x1x8x1 .f32 ← Prog.lift (.load (Memref.whole cc0_scratch1) (Rect.unit (s := S4x2x8x8) ![0, 0, 0, h.val] S1x1x8x1.size (s1_inb 0 h)).toLoadRect (View.loadsAt_vmem h_S1x1x8x1))
  Prog.lift (.store (Memref.whole cc0_scratch1) (Rect.unit (s := S4x2x8x8) ![0, 0, 0, h.val] S1x1x8x1.size (s1_inb 0 h)) (k0_pay25 msk s neg) Finset.univ (View.stores_vmem_bits_univ h_S1x1x8x1 rfl) (.inl rfl))
  let _ : Vec F S1x1x8x1 .f32 ← Prog.lift (.load (Memref.whole cc0_scratch1) (Rect.unit (s := S4x2x8x8) ![0, 1, 0, h.val] S1x1x8x1.size (s1_inb 1 h)).toLoadRect (View.loadsAt_vmem h_S1x1x8x1))
  Prog.lift (.store (Memref.whole cc0_scratch1) (Rect.unit (s := S4x2x8x8) ![0, 1, 0, h.val] S1x1x8x1.size (s1_inb 1 h)) (k0_pay26 w msk s neg) Finset.univ (View.stores_vmem_bits_univ h_S1x1x8x1 rfl) (.inl rfl))

/-- A head, and the scores of the next. -/
def headStep (h g : Fin 8) (w : Vec F S8x1024 .f32) (msk : IVec S8x1024 1) (s neg : FVec F S8x1024 .f32) :
    Prog (TpuEff nD τ sig (Elt F) Λ₀ .tc) (Σ' (_ : FVec F S8x1024 .f32), FVec F S8x1024 .f32) := do
  headCore h w msk s neg
  let q : Vec F S8x1x1x64 .f32 ← Prog.lift (.load (Memref.whole cc0_stg0_0) (Rect.unit (s := S8x1x8x64) ![0, 0, g.val, 0] S8x1x1x64.size (q_inb g)).toLoadRect (View.loadsAt_vmem h_S8x1x1x64))
  let k : Vec F S1x1024x64 .f32 ← Prog.lift (.load (Memref.whole cc0_stg1_0) (Rect.unit (s := S8x1024x64) ![g.val, 0, 0] S1x1024x64.size (k_inb g)).toLoadRect (View.loadsAt_vmem h_S1x1024x64))
  pure ⟨k0_pay19 q k, k0_pay20⟩

/-- What a head's part holds: the blocks, and slot 0 of the two buffers with the first `n` heads written. -/
def hHeld (n : ℕ) : sProp 𝕄 := iprop(held c x ∗ oHeld c x n ∗ sHeld c x n n)

/-- One head writes its place of slot 0. -/
theorem headCore_spec (h : Fin 8) {Q : PUnit → sProp 𝕄} :
    iprop(hHeld c x h.val ∗ (hHeld c x (h.val + 1) -∗ Q ⟨⟩)) ⊢
      WP c (headCore h (wts x) (k0_pay18 (wts x)) (score x h) k0_pay20) Q := by
  unfold headCore hHeld
  simp only [Prog.lift, Prog.bind_op, Prog.bind_ret, Prog.pure_eq_ret, smemLoad, smemLoadElt]
  iintro ⟨⟨H, O, S⟩, Hk⟩
  iapply (wp_v c x h) $$ H
  iintro H
  iapply (wp_old c x h.val h) $$ O
  iintro O
  iapply (wp_ost c x h rfl) $$ O
  iintro O
  iapply (wp_sld c x h.val h.val 0 h) $$ S
  iintro S
  iapply (wp_smst c x h.val h rfl) $$ S
  iintro S
  iapply (wp_sld c x (h.val + 1) h.val 1 h) $$ S
  iintro S
  iapply (wp_slst c x (h.val + 1) h rfl) $$ S
  iintro S
  unfold WP
  rw [wp_ret]
  imodintro
  iapply Hk
  isplitl [H]
  · iexact H
  isplitl [O]
  · iexact O
  iexact S

/-- The same with the next head's scores. -/
theorem headStep_spec (h g : Fin 8) {Q : (Σ' (_ : FVec F S8x1024 .f32), FVec F S8x1024 .f32) → sProp 𝕄} :
    iprop(hHeld c x h.val ∗ (hHeld c x (h.val + 1) -∗ Q ⟨score x g, k0_pay20⟩)) ⊢
      WP c (headStep h g (wts x) (k0_pay18 (wts x)) (score x h) k0_pay20) Q := by
  unfold headStep WP
  rw [wp_bind]
  iintro ⟨H, Hk⟩
  iapply (headCore_spec c x h)
  isplitl [H]
  · iexact H
  iintro H
  simp only [Prog.lift, Prog.bind_op, Prog.bind_ret, Prog.pure_eq_ret, smemLoad, smemLoadElt]
  unfold hHeld
  icases H with ⟨H, Hr⟩
  iapply (wp_q c x g) $$ H
  iintro H
  iapply (wp_k c x g) $$ H
  iintro H
  unfold WP
  rw [wp_ret, show k0_pay19 (qh x g) (kh x g) = score x g from rfl]
  imodintro
  iapply Hk
  isplitl [H]
  · iexact H
  iexact Hr

/-- The printed part 7 stores head 0 and scores head 1. -/
theorem part7_eq (w msk s neg) : k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 w msk s neg = headStep 0 1 w msk s neg := rfl
/-- The printed part 8 stores head 1 and scores head 2. -/
theorem part8_eq (w msk s neg) : k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 w msk s neg = headStep 1 2 w msk s neg := rfl
/-- The printed part 9 stores head 2 and scores head 3. -/
theorem part9_eq (w msk s neg) : k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 w msk s neg = headStep 2 3 w msk s neg := rfl
/-- The printed part 10 stores head 3 and scores head 4. -/
theorem part10_eq (w msk s neg) : k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 w msk s neg = headStep 3 4 w msk s neg := rfl
/-- The printed part 11 stores head 4 and scores head 5. -/
theorem part11_eq (w msk s neg) : k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 w msk s neg = headStep 4 5 w msk s neg := rfl
/-- The printed part 12 stores head 5 and scores head 6. -/
theorem part12_eq (w msk s neg) : k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 w msk s neg = headStep 5 6 w msk s neg := rfl
/-- The printed part 13 stores head 6 and scores head 7. -/
theorem part13_eq (w msk s neg) : k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 w msk s neg = headStep 6 7 w msk s neg := rfl

/-! ## The weights -/

/-- The table is read, and the first row of weights is worked out. -/
theorem part3_spec {Q : (Σ' (v89 : FVec F S64x1024 .f32) (v90 : IVec S64x1024 32) (v100 : FVec F S64x8 .f32), FVec F S1x1024 .f32) → sProp 𝕄} :
    iprop(held c x ∗ wHeld c x 0 ∗ ((held c x ∗ wHeld c x 0) -∗ Q ⟨k0_pay5 (F := F) x.base (iota .tc S64x1024 32 [1] iota_S64x1024_d1_w32) 16#32 k0_pay2 k0_pay3 k0_pay4, iota .tc S64x1024 32 [0] iota_S64x1024_d0_w32, (k0_pay6 x.bt), k0_pay7 (F := F) x.base (iota .tc S64x1024 32 [1] iota_S64x1024_d1_w32) 16#32 k0_pay2 k0_pay3 k0_pay4 x.bt (x.ln (ix1 0))⟩)) ⊢
      WP c (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 x.base (iota .tc S64x1024 32 [1] iota_S64x1024_d1_w32) 16#32 k0_pay2 k0_pay3 k0_pay4) Q := by
  rw [k0_part3_eq_skeleton]
  unfold k0_part3_skel
  simp only [Prog.lift, Prog.bind_op, Prog.bind_ret, Prog.pure_eq_ret, smemLoad, smemLoadElt]
  iintro ⟨H, W, Hk⟩
  iapply (wp_bt c x) $$ H
  iintro H
  iapply (wp_ln c x 0) $$ H
  iintro H
  iapply (wp_wld c x 0 0) $$ W
  iintro W
  unfold WP
  rw [wp_ret]
  imodintro
  iapply Hk
  isplitl [H]
  · iexact H
  iexact W

/-- Rows 0, 1 and 2 of the weights. -/
theorem part4_spec {Q : (FVec F S64x1024 .f32) → sProp 𝕄} :
    iprop(held c x ∗ wHeld c x 0 ∗ ((held c x ∗ wHeld c x 3) -∗ Q (k0_pay11 (pages x) slots (k0_pay6 x.bt) (x.ln (ix1 3))))) ⊢
      WP c (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (pages x) slots (k0_pay6 x.bt) (k0_pay7 (F := F) x.base (iota .tc S64x1024 32 [1] iota_S64x1024_d1_w32) 16#32 k0_pay2 k0_pay3 k0_pay4 x.bt (x.ln (ix1 0)))) Q := by
  rw [k0_part4_eq_skeleton]
  unfold k0_part4_skel
  simp only [Prog.lift, Prog.bind_op, Prog.bind_ret, Prog.pure_eq_ret, smemLoad, smemLoadElt]
  iintro ⟨H, W, Hk⟩
  iapply (wp_wst c x 0 (n := 0) (n' := 1) rfl rfl rfl) $$ W
  iintro W
  iapply (wp_ln c x 1) $$ H
  iintro H
  iapply (wp_wld c x 1 1) $$ W
  iintro W
  iapply (wp_wst c x 1 (n := 1) (n' := 2) rfl rfl rfl) $$ W
  iintro W
  iapply (wp_ln c x 2) $$ H
  iintro H
  iapply (wp_wld c x 2 2) $$ W
  iintro W
  iapply (wp_wst c x 2 (n := 2) (n' := 3) rfl rfl rfl) $$ W
  iintro W
  iapply (wp_ln c x 3) $$ H
  iintro H
  unfold WP
  rw [wp_ret]
  imodintro
  iapply Hk
  isplitl [H]
  · iexact H
  iexact W

/-- Rows 3, 4 and 5 of the weights. -/
theorem part5_spec {Q : (IVec S64x1024 1) → sProp 𝕄} :
    iprop(held c x ∗ wHeld c x 3 ∗ ((held c x ∗ wHeld c x 6) -∗ Q (k0_pay15 (pages x) slots (k0_pay6 x.bt) (x.ln (ix1 6))))) ⊢
      WP c (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (pages x) slots (k0_pay6 x.bt) (k0_pay11 (pages x) slots (k0_pay6 x.bt) (x.ln (ix1 3)))) Q := by
  rw [k0_part5_eq_skeleton]
  unfold k0_part5_skel
  simp only [Prog.lift, Prog.bind_op, Prog.bind_ret, Prog.pure_eq_ret, smemLoad, smemLoadElt]
  iintro ⟨H, W, Hk⟩
  iapply (wp_wld c x 3 3) $$ W
  iintro W
  iapply (wp_wst c x 3 (n := 3) (n' := 4) rfl rfl rfl) $$ W
  iintro W
  iapply (wp_ln c x 4) $$ H
  iintro H
  iapply (wp_wld c x 4 4) $$ W
  iintro W
  iapply (wp_wst c x 4 (n := 4) (n' := 5) rfl rfl rfl) $$ W
  iintro W
  iapply (wp_ln c x 5) $$ H
  iintro H
  iapply (wp_wld c x 5 5) $$ W
  iintro W
  iapply (wp_wst c x 5 (n := 5) (n' := 6) rfl rfl rfl) $$ W
  iintro W
  iapply (wp_ln c x 6) $$ H
  iintro H
  unfold WP
  rw [wp_ret]
  imodintro
  iapply Hk
  isplitl [H]
  · iexact H
  iexact W

/-- The last two rows of the weights, and the scores of the first head. -/
theorem part6_spec {Q : (Σ' (v221 : Vec F S8x1024 .f32) (v223 : IVec S8x1024 1) (v230 : FVec F S8x1024 .f32), FVec F S8x1024 .f32) → sProp 𝕄} :
    iprop(held c x ∗ wHeld c x 6 ∗ ((held c x ∗ wHeld c x 8) -∗ Q ⟨wts x, k0_pay18 (wts x), score x 0, k0_pay20⟩)) ⊢
      WP c (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (pages x) slots (k0_pay6 x.bt) (k0_pay15 (pages x) slots (k0_pay6 x.bt) (x.ln (ix1 6)))) Q := by
  rw [k0_part6_eq_skeleton]
  unfold k0_part6_skel
  simp only [Prog.lift, Prog.bind_op, Prog.bind_ret, Prog.pure_eq_ret, smemLoad, smemLoadElt]
  iintro ⟨H, W, Hk⟩
  iapply (wp_wld c x 6 6) $$ W
  iintro W
  iapply (wp_wst c x 6 (n := 6) (n' := 7) rfl rfl rfl) $$ W
  iintro W
  iapply (wp_ln c x 7) $$ H
  iintro H
  iapply (wp_wld c x 7 7) $$ W
  iintro W
  iapply (wp_wst c x 7 (n := 7) (n' := 8) rfl rfl rfl) $$ W
  iintro W
  iapply (wp_wall c x) $$ W
  iintro W
  iapply (wp_q c x 0) $$ H
  iintro H
  iapply (wp_k c x 0) $$ H
  iintro H
  unfold WP
  rw [wp_ret]
  imodintro
  rw [show k0_pay19 (qh x 0) (kh x 0) = score x 0 from rfl]
  iapply Hk
  isplitl [H]
  · iexact H
  iexact W

/-! ## The merge -/

/-- Head 0 is written, head 1 is worked out. -/
theorem part24_spec {Q : (FVec F S8x1x1x64 .f32) → sProp 𝕄} :
    iprop(mHeld c xs ∗ outHeld c xs 0 ∗ ((mHeld c xs ∗ outHeld c xs 1) -∗ Q (headOut xs 1))) ⊢
      WP c (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (k0_pay83 (stAt xs 0 0)) (k0_pay84 (stAt xs 0 0) (stAt xs 1 0))) Q := by
  rw [k0_part24_eq_skeleton]
  unfold k0_part24_skel
  simp only [Prog.lift, Prog.bind_op, Prog.bind_ret, Prog.pure_eq_ret, smemLoad, smemLoadElt]
  iintro ⟨M, O, Hk⟩
  iapply (wp_ov c xs 0) $$ M
  iintro M
  iapply (wp_outld c xs 0 0) $$ O
  iintro O
  iapply (wp_outst c xs 0 (n := 0) (n' := 1) rfl rfl rfl) $$ O
  iintro O
  iapply (wp_st c xs 0 1) $$ M
  iintro M
  iapply (wp_st c xs 1 1) $$ M
  iintro M
  iapply (wp_ov c xs 1) $$ M
  iintro M
  iapply (wp_outld c xs 1 1) $$ O
  iintro O
  unfold WP
  rw [wp_ret]
  imodintro
  rw [show k0_pay86 (stAt xs 0 1) (stAt xs 1 1) (ovAt xs 1) = headOut xs 1 from rfl]
  iapply Hk
  isplitl [M]
  · iexact M
  iexact O

/-- Heads 1 and 2. -/
theorem part25_spec {Q : (Σ' (v747 : FVec F S4x8x1 .f32), FVec F S4x8x1 .f32) → sProp 𝕄} :
    iprop(mHeld c xs ∗ outHeld c xs 1 ∗ ((mHeld c xs ∗ outHeld c xs 3) -∗ Q ⟨k0_pay88 (stAt xs 1 3), k0_pay89 (stAt xs 0 3)⟩)) ⊢
      WP c (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (headOut xs 1)) Q := by
  rw [k0_part25_eq_skeleton]
  unfold k0_part25_skel
  simp only [Prog.lift, Prog.bind_op, Prog.bind_ret, Prog.pure_eq_ret, smemLoad, smemLoadElt]
  iintro ⟨M, O, Hk⟩
  iapply (wp_outst c xs 1 (n := 1) (n' := 2) rfl rfl rfl) $$ O
  iintro O
  iapply (wp_st c xs 0 2) $$ M
  iintro M
  iapply (wp_st c xs 1 2) $$ M
  iintro M
  iapply (wp_ov c xs 2) $$ M
  iintro M
  iapply (wp_outld c xs 2 2) $$ O
  iintro O
  iapply (wp_outst c xs 2 (n := 2) (n' := 3) rfl rfl rfl) $$ O
  iintro O
  iapply (wp_st c xs 0 3) $$ M
  iintro M
  iapply (wp_st c xs 1 3) $$ M
  iintro M
  unfold WP
  rw [wp_ret]
  imodintro
  iapply Hk
  isplitl [M]
  · iexact M
  iexact O

/-- Head 3. -/
theorem part26_spec {Q : (FVec F S8x64 .f32) → sProp 𝕄} :
    iprop(mHeld c xs ∗ outHeld c xs 3 ∗ ((mHeld c xs ∗ outHeld c xs 4) -∗ Q (k0_pay91 (stAt xs 0 4) (stAt xs 1 4) (ovAt xs 4)))) ⊢
      WP c (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (k0_pay88 (stAt xs 1 3)) (k0_pay89 (stAt xs 0 3))) Q := by
  rw [k0_part26_eq_skeleton]
  unfold k0_part26_skel
  simp only [Prog.lift, Prog.bind_op, Prog.bind_ret, Prog.pure_eq_ret, smemLoad, smemLoadElt]
  iintro ⟨M, O, Hk⟩
  iapply (wp_ov c xs 3) $$ M
  iintro M
  iapply (wp_outld c xs 3 3) $$ O
  iintro O
  iapply (wp_outst c xs 3 (n := 3) (n' := 4) rfl rfl rfl) $$ O
  iintro O
  iapply (wp_st c xs 0 4) $$ M
  iintro M
  iapply (wp_st c xs 1 4) $$ M
  iintro M
  iapply (wp_ov c xs 4) $$ M
  iintro M
  unfold WP
  rw [wp_ret]
  imodintro
  iapply Hk
  isplitl [M]
  · iexact M
  iexact O

/-- Heads 4 and 5. -/
theorem part27_spec {Q : (Σ' (v808 : FVec F S4x8x1 .f32) (v810 : FVec F S4x8x1 .f32), FVec F S1x8x1 .f32) → sProp 𝕄} :
    iprop(mHeld c xs ∗ outHeld c xs 4 ∗ ((mHeld c xs ∗ outHeld c xs 6) -∗ Q ⟨k0_pay94 (stAt xs 0 6), k0_pay95 (stAt xs 1 6), k0_pay96 (stAt xs 0 6)⟩)) ⊢
      WP c (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (k0_pay91 (stAt xs 0 4) (stAt xs 1 4) (ovAt xs 4))) Q := by
  rw [k0_part27_eq_skeleton]
  unfold k0_part27_skel
  simp only [Prog.lift, Prog.bind_op, Prog.bind_ret, Prog.pure_eq_ret, smemLoad, smemLoadElt]
  iintro ⟨M, O, Hk⟩
  iapply (wp_outld c xs 4 4) $$ O
  iintro O
  iapply (wp_outst c xs 4 (n := 4) (n' := 5) rfl rfl rfl) $$ O
  iintro O
  iapply (wp_st c xs 0 5) $$ M
  iintro M
  iapply (wp_st c xs 1 5) $$ M
  iintro M
  iapply (wp_ov c xs 5) $$ M
  iintro M
  iapply (wp_outld c xs 5 5) $$ O
  iintro O
  iapply (wp_outst c xs 5 (n := 5) (n' := 6) rfl rfl rfl) $$ O
  iintro O
  iapply (wp_st c xs 0 6) $$ M
  iintro M
  iapply (wp_st c xs 1 6) $$ M
  iintro M
  unfold WP
  rw [wp_ret]
  imodintro
  iapply Hk
  isplitl [M]
  · iexact M
  iexact O

/-- Head 6. -/
theorem part28_spec {Q : (FVec F S8x64 .f32) → sProp 𝕄} :
    iprop(mHeld c xs ∗ outHeld c xs 6 ∗ ((mHeld c xs ∗ outHeld c xs 7) -∗ Q (k0_pay98 (stAt xs 0 7) (stAt xs 1 7) (ovAt xs 7)))) ⊢
      WP c (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (k0_pay94 (stAt xs 0 6)) (k0_pay95 (stAt xs 1 6)) (k0_pay96 (stAt xs 0 6))) Q := by
  rw [k0_part28_eq_skeleton]
  unfold k0_part28_skel
  simp only [Prog.lift, Prog.bind_op, Prog.bind_ret, Prog.pure_eq_ret, smemLoad, smemLoadElt]
  iintro ⟨M, O, Hk⟩
  iapply (wp_ov c xs 6) $$ M
  iintro M
  iapply (wp_outld c xs 6 6) $$ O
  iintro O
  iapply (wp_outst c xs 6 (n := 6) (n' := 7) rfl rfl rfl) $$ O
  iintro O
  iapply (wp_st c xs 0 7) $$ M
  iintro M
  iapply (wp_st c xs 1 7) $$ M
  iintro M
  iapply (wp_ov c xs 7) $$ M
  iintro M
  unfold WP
  rw [wp_ret]
  imodintro
  iapply Hk
  isplitl [M]
  · iexact M
  iexact O

end Cert.PagedMerge
-- ==== Proof.Steps.lean ====
/-
  The exchange, step by step: paying a signal, starting a copy, waiting for a landed copy, and
  what each of them leaves.  Every step is stated once, for every distance `j`.
-/
module

public import proofs.«01_k».proof.Proof.Parts

@[expose] public section

set_option maxRecDepth 16384

noncomputable section

namespace Cert.PagedMerge

open Idealize.ShloMosaic Idealize.ShloMosaic.TcCoe Idealize.ShloMosaic.Rounds
open Idealize.SL Idealize.SL.RA Idealize.SL.BI Idealize.SL.ProofMode
open scoped Idealize.SL.BI
open Idealize.SL.BI.BIBase Idealize.SL.Sem
open Cert.KernelIdeal Cert.KernelIdeal.Gen

variable {F : FTy → Type} [FloatOps F]

local notation "𝕄" => MT nD τ sig Unit (Elt F) ℕ UU ℕ

/-! ## The cells of the mesh -/

/-- The twelve DMA semaphores of the exchange. -/
abbrev osem : Fin 12 → SemLoc sig := fun k => .dma ⟨6 + k.val, by show _ < 18; omega⟩

/-- They are twelve different semaphores. -/
theorem osem_inj : Function.Injective osem := by decide

/-- The barrier cell of each device. -/
def barEmb : Dev nD ↪ GSem nD τ sig := ⟨fun c => barCell c, fun _ _ h => congrArg (fun g : GSem nD τ sig => g.1.1) h⟩
/-- The exchange's cells of each device. -/
def scEmb : Dev nD × Fin 12 ↪ GSem nD τ sig :=
  ⟨fun ck => ((ck.1 : Thread nD τ), osem ck.2), fun _ _ h =>
    Prod.ext (congrArg (fun g : GSem nD τ sig => g.1.1) h) (osem_inj (congrArg Prod.snd h))⟩

/-- All barrier cells. -/
abbrev barCells : Finset (GSem nD τ sig) := Finset.univ.map barEmb
/-- All cells of the exchange. -/
abbrev scCells : Finset (GSem nD τ sig) := Finset.univ.map scEmb
/-- Both. -/
abbrev allCells : Finset (GSem nD τ sig) := barCells ∪ scCells

/-- A barrier cell is one of them. -/
theorem bar_mem (c : Dev nD) : barCell c ∈ allCells := Finset.mem_union_left _ (Finset.mem_map_of_mem barEmb (Finset.mem_univ c))
/-- A cell of the exchange is one of them. -/
theorem sc_mem (c : Dev nD) (k : Fin 12) : ((c : Thread nD τ), osem k) ∈ allCells :=
  Finset.mem_union_right _ (Finset.mem_map_of_mem scEmb (Finset.mem_univ (c, k)))
/-- A send cell is one of them. -/
theorem send_mem (i : Fin 2) (j : Fin 3) (c : Dev nD) : sendCell i j c ∈ allCells := by
  have h : SemLoc.dma (sendS i j) = osem ⟨3 * i.val + j.val, by omega⟩ := congrArg SemLoc.dma (Fin.ext (by show 6 + 3 * i.val + j.val = 6 + (3 * i.val + j.val); omega))
  unfold sendCell; rw [h]; exact sc_mem c _
/-- A receive cell is one of them. -/
theorem recv_mem (i : Fin 2) (j : Fin 3) (c : Dev nD) : recvCell i j c ∈ allCells := by
  have h : SemLoc.dma (recvS i j) = osem ⟨6 + 3 * i.val + j.val, by omega⟩ := congrArg SemLoc.dma (Fin.ext (by show 12 + 3 * i.val + j.val = 6 + (6 + 3 * i.val + j.val); omega))
  unfold recvCell; rw [h]; exact sc_mem c _

variable (A : Dev nD → OBuf F) (B : Dev nD → SBuf F)

/-- What every device may consult: the invariant of every cell, and that every barrier cell is open. -/
def records (K : GSem nD τ sig → ℕ) : sProp 𝕄 :=
  iprop((bigSep allCells fun g => cellInv ER (rd A B) (K g) g) ∗ bigSep barCells fun g => reached ER g 0)

/-- They may be consulted any number of times. -/
instance records_persistent (K : GSem nD τ sig → ℕ) : BI.Persistent (records A B K) := by unfold records; infer_instance

variable (K : GSem nD τ sig → ℕ)

/-- The invariant of one cell. -/
theorem inv_at {g : GSem nD τ sig} (hg : g ∈ allCells) : records A B K ⊢ cellInv ER (rd A B) (K g) g := by
  unfold records
  iintro ⟨H, -⟩
  have h : (bigSep allCells fun g => (cellInv ER (rd A B) (K g) g : sProp 𝕄)) ⊢ cellInv ER (rd A B) (K g) g := bigSep_elim hg
  iapply h
  iexact H
/-- A barrier cell is open. -/
theorem bar_at (c : Dev nD) : records A B K ⊢ reached ER (barCell c) 0 := by
  unfold records
  iintro ⟨-, H⟩
  have h : (bigSep barCells fun g => (reached ER g 0 : sProp 𝕄)) ⊢ reached ER (barCell c) 0 := bigSep_elim (Finset.mem_map_of_mem barEmb (Finset.mem_univ c))
  iapply h
  iexact H

/-- What a device owes, whatever it has waited for. -/
def owing (c : Dev nD) (O : CellTallies nD τ sig Unit) : sProp 𝕄 := iprop(∃ W, owes (c : Thread nD τ) O W)

/-! ## The signals -/

/-- What the signal `j` of device `c` needs: the right to pay, its own slots for the answer and the fact that they are open. -/
def sigRes (c : Dev nD) (j : Fin 3) : sProp 𝕄 :=
  iprop(dutyTok ER (barCell (nb j c)) 0 j ∗ (∃ f, oW (F := F) c j.succ fullShare f) ∗ (∃ f, sW (F := F) c j.succ fullShare f)
    ∗ reached ER (recvCell 0 j c) 0 ∗ reached ER (recvCell 1 j c) 0)

/-- The signal `j` pays one unit to the device it addresses. -/
theorem signal_step {α : Type} {Q : α → sProp 𝕄} (c : Dev nD) (j : Fin 3) {n : Dev nD} (hn : n = nb j c) {z : ℤ} (hz : z = 1) (O : CellTallies nD τ sig Unit)
    {k : PUnit → Prog (TpuEff nD τ sig (Elt F) Λ₀ .tc) α} :
    iprop(records A B K ∗ owing c (O + dueB j c) ∗ sigRes c j ∗ (owing c O -∗ WP c (k ⟨⟩) Q)) ⊢
      WP c (.op (.semSignal (n, .tc) barrier0 z) k) Q := by
  subst hn hz
  unfold owing sigRes
  iintro ⟨#HR, ⟨%W, HO⟩, ⟨Ht, Ho, Hs, #H0, #H1⟩, Hk⟩
  iapply (Rounds.wp_signal 𝒱₀ ER (rd A B) (c : Thread nD τ) none (dst := (nb j c : Thread nD τ)) (sem := barrier0) (r := 0) (d := j) (κ := K (barCell (nb j c)))
      (by rw [duties_bar]; exact Finset.mem_univ _) (amount_bar A B (nb j c) j) () O rfl) $$ [HO Ht Ho Hs]
  · isplitr
    · iapply (inv_at A B K (bar_mem (nb j c))); iexact HR
    isplitl [HO]
    · iexact HO
    isplitl [Ht]
    · iexact Ht
    isplitl [Ho Hs]
    · rw [payload_bar]
      unfold barPay
      rw [nb_rv]
      isplitl [Ho]
      · iexact Ho
      isplitl [Hs]
      · iexact Hs
      isplitr
      · iexact H0
      iexact H1
    · iapply (bar_at A B K (nb j c)); iexact HR
  iintro HO
  iapply Hk
  iexists W
  iexact HO

/-- The wait for the three signals, with all six copies still owed: the others' slots come in. -/
theorem barrier_step {α : Type} {Q : α → sProp 𝕄} (c : Dev nD) {z : ℤ} (hz : z = 3)
    {k : PUnit → Prog (TpuEff nD τ sig (Elt F) Λ₀ .tc) α} :
    iprop(records A B K ∗ levAts L lv ∗ cred (tallyAt (barCell c) () 3) ∗ owing c (sends c) ∗ atPos ER (barCell c) 0 ∅ 0
        ∗ ((owing c (sends c) ∗ atPos ER (barCell c) 1 ∅ 0 ∗ barPay (F := F) c 0 ∗ barPay (F := F) c 1 ∗ barPay (F := F) c 2) -∗ WP c (k ⟨⟩) Q)) ⊢
      WP c (.op (.semWait barrier0 z) k) Q := by
  subst hz
  unfold owing
  iintro ⟨#HR, #Hlev, Hc, ⟨%W, HO⟩, Hat, Hk⟩
  iapply (Rounds.wp_wait_rest_token 𝒱₀ ER (rd A B) (c : Thread nD τ) none (κ := K (barCell c))
      (wpE_semWait_eq 𝒱₀ (c : Thread nD τ) none Set.univ) (Set.mem_univ _) () (O := sends c) (W := W) (R := 0) (m := 0) (T := ∅)
      ((Nat.zero_add 3).trans (expect_bar A B c).symm)) $$ [Hc HO Hat]
  · isplitr
    · iapply (inv_at A B K (bar_mem c)); iexact HR
    isplitl [Hc]
    · iexact Hc
    isplitl [HO]
    · iexact HO
    isplitr
    · iapply (mayWait_bar c); iexact Hlev
    iexact Hat
  iintro ⟨HO, Hat, -, Hpay⟩
  ihave Hp := (Entails.of_eq (rest_bar A B c)) $$ Hpay
  iapply Hk
  isplitl [HO]
  · iexists _; iexact HO
  isplitl [Hat]
  · iexact Hat
  iexact Hp

/-! ## The copies -/

/-- What the copy `j` of buffer `i` needs beside the two windows. -/
def copyToks (c : Dev nD) (i : Fin 2) (j : Fin 3) : sProp 𝕄 :=
  iprop(dutyTok ER (sendCell i j c) 0 0 ∗ reached ER (sendCell i j c) 0
    ∗ dutyTok ER (recvCell i (rv j) (nb j c)) 0 0 ∗ reached ER (recvCell i (rv j) (nb j c)) 0)

/-- The contents agree: what device `c` keeps in slot 0 is what device `nb j c` finds in the slot the copy `j` fills. -/
def Landing : Prop :=
  (∀ (c : Dev nD) (j : Fin 3) (y : S8x8x64.Idx), A (nb j c) ((oSlot (rv j).succ).view.emb y) = A c ((oSlot 0).view.emb y))
  ∧ ∀ (c : Dev nD) (j : Fin 3) (y : S2x8x8.Idx), B (nb j c) ((sSlot (rv j).succ).view.emb y) = B c ((sSlot 0).view.emb y)

/-- Starting the copy `j` of the buffer of sums. -/
theorem send_o {α : Type} {Q : α → sProp 𝕄} (hL : Landing A B) (c : Dev nD) (j : Fin 3) (k' : Fin 4) (hk' : k' = (rv j).succ) {n : Dev nD} (hn : n = nb j c)
    {sS sR : DmaSem sig} (hS : sS = sendS 0 j) (hR : sR = recvS 0 (rv j)) (O : CellTallies nD τ sig Unit) {hsrc hdst hsem}
    {k : PUnit → Prog (TpuEff nD τ sig (Elt F) Λ₀ .tc) α} :
    iprop(records A B K ∗ owing c (O + dueO j c) ∗ oW c 0 (sh j) (A c) ∗ (∃ f, oW (F := F) (nb j c) (rv j).succ fullShare f) ∗ copyToks c 0 j
        ∗ ((owing c O ∗ cred (tallyAt (sendCell 0 j c) () NO)) -∗ WP c (k ⟨⟩) Q)) ⊢
      WP c (.op (.enqueueDma (oSlot 0) (.remote (Dev.tc n) (oSlot k') (.dma sS)) (.dma sR) hsrc hdst hsem) k) Q := by
  subst hn hS hR hk'
  unfold owing copyToks
  iintro ⟨#HR, ⟨%W, HO⟩, Hs, ⟨%fd, Hd⟩, ⟨Ht, #HrS, Htn, #HrR⟩, Hk⟩
  iapply (Rounds.wp_send_pointsTo 𝒱₀ ER (rd A B) (c : Thread nD τ) none (c' := (nb j c : Thread nD τ)) (src := oSlot 0) (dst := oSlot (rv j).succ)
      (sS := .dma (sendS 0 j)) (sem := .dma (recvS 0 (rv j))) (q := sh j) (fs := A c) (fd := fd) (κ₁ := K (sendCell 0 j c)) (κ₂ := K (recvCell 0 (rv j) (nb j c)))
      (r₁ := 0) (r₂ := 0) (d₁ := 0) (d₂ := 0)
      (by rw [duties_send]; exact Finset.mem_singleton_self _) (by rw [duties_recv]; exact Finset.mem_singleton_self _)
      () () NO rfl (amount_send0 A B c j 0) (amount_recv0 A B (nb j c) (rv j) 0) O rfl (W := W)
      (by rw [payload_send0])
      (by
        rw [payload_recv0]
        refine Entails.of_eq (pointsTo_congr fun i hi => ?_)
        obtain ⟨y, -, rfl⟩ := Finset.mem_map.mp hi
        refine (View.write_emb_of_mem _ _ (Finset.mem_univ y)).trans ?_
        exact (hL.1 c j y).symm)) $$ [Hs Hd HO Ht Htn]
  · isplitr
    · iapply (inv_at A B K (send_mem 0 j c)); iexact HR
    isplitr
    · iapply (inv_at A B K (recv_mem 0 (rv j) (nb j c))); iexact HR
    isplitl [Hs]
    · iexact Hs
    isplitl [Hd]
    · iexact Hd
    isplitl [HO]
    · iexact HO
    isplitl [Ht]
    · iexact Ht
    isplitr
    · iexact HrS
    isplitl [Htn]
    · iexact Htn
    iexact HrR
  iintro ⟨HcS, HO⟩
  iapply Hk
  isplitl [HO]
  · iexists W; iexact HO
  iexact HcS

/-- Starting the copy `j` of the buffer of statistics. -/
theorem send_s {α : Type} {Q : α → sProp 𝕄} (hL : Landing A B) (c : Dev nD) (j : Fin 3) (k' : Fin 4) (hk' : k' = (rv j).succ) {n : Dev nD} (hn : n = nb j c)
    {sS sR : DmaSem sig} (hS : sS = sendS 1 j) (hR : sR = recvS 1 (rv j)) (O : CellTallies nD τ sig Unit) {hsrc hdst hsem}
    {k : PUnit → Prog (TpuEff nD τ sig (Elt F) Λ₀ .tc) α} :
    iprop(records A B K ∗ owing c (O + dueS j c) ∗ sW c 0 (sh j) (B c) ∗ (∃ f, sW (F := F) (nb j c) (rv j).succ fullShare f) ∗ copyToks c 1 j
        ∗ ((owing c O ∗ cred (tallyAt (sendCell 1 j c) () NS)) -∗ WP c (k ⟨⟩) Q)) ⊢
      WP c (.op (.enqueueDma (sSlot 0) (.remote (Dev.tc n) (sSlot k') (.dma sS)) (.dma sR) hsrc hdst hsem) k) Q := by
  subst hn hS hR hk'
  unfold owing copyToks
  iintro ⟨#HR, ⟨%W, HO⟩, Hs, ⟨%fd, Hd⟩, ⟨Ht, #HrS, Htn, #HrR⟩, Hk⟩
  iapply (Rounds.wp_send_pointsTo 𝒱₀ ER (rd A B) (c : Thread nD τ) none (c' := (nb j c : Thread nD τ)) (src := sSlot 0) (dst := sSlot (rv j).succ)
      (sS := .dma (sendS 1 j)) (sem := .dma (recvS 1 (rv j))) (q := sh j) (fs := B c) (fd := fd) (κ₁ := K (sendCell 1 j c)) (κ₂ := K (recvCell 1 (rv j) (nb j c)))
      (r₁ := 0) (r₂ := 0) (d₁ := 0) (d₂ := 0)
      (by rw [duties_send]; exact Finset.mem_singleton_self _) (by rw [duties_recv]; exact Finset.mem_singleton_self _)
      () () NS rfl (amount_send1 A B c j 0) (amount_recv1 A B (nb j c) (rv j) 0) O rfl (W := W)
      (by rw [payload_send1])
      (by
        rw [payload_recv1]
        refine Entails.of_eq (pointsTo_congr fun i hi => ?_)
        obtain ⟨y, -, rfl⟩ := Finset.mem_map.mp hi
        refine (View.write_emb_of_mem _ _ (Finset.mem_univ y)).trans ?_
        exact (hL.2 c j y).symm)) $$ [Hs Hd HO Ht Htn]
  · isplitr
    · iapply (inv_at A B K (send_mem 1 j c)); iexact HR
    isplitr
    · iapply (inv_at A B K (recv_mem 1 (rv j) (nb j c))); iexact HR
    isplitl [Hs]
    · iexact Hs
    isplitl [Hd]
    · iexact Hd
    isplitl [HO]
    · iexact HO
    isplitl [Ht]
    · iexact Ht
    isplitr
    · iexact HrS
    isplitl [Htn]
    · iexact Htn
    iexact HrR
  iintro ⟨HcS, HO⟩
  iapply Hk
  isplitl [HO]
  · iexists W; iexact HO
  iexact HcS

/-- Waiting on one of the exchange's cells with nothing owed: what the landed copy pays comes in. -/
theorem wait_step {α : Type} {Q : α → sProp 𝕄} (c : Dev nD) (s : DmaSem sig) (N : ℕ) (P : sProp 𝕄) {sp sp' : Space} {sa : Shape} {ea : EltTy}
    {src : Memref sig .tc sp sa ea} {dst : Memref sig .tc sp' sa ea} {h₁ h₂}
    (hm : ((c : Thread nD τ), SemLoc.dma s) ∈ allCells) (hN : dst.view.dmaCredit = N) (he : (rd A B).expect ((c : Thread nD τ), .dma s) 0 = N)
    (hP : bigSep ((rd A B).duties ((c : Thread nD τ), .dma s) 0 \ ∅) (fun u => (rd A B).payload ((c : Thread nD τ), .dma s) 0 u) = P)
    {k : PUnit → Prog (TpuEff nD τ sig (Elt F) Λ₀ .tc) α} :
    iprop(records A B K ∗ cred (tallyAt ((c : Thread nD τ), .dma s) () N) ∗ owing c 0 ∗ atPos ER ((c : Thread nD τ), .dma s) 0 ∅ 0
        ∗ ((owing c 0 ∗ atPos ER ((c : Thread nD τ), .dma s) 1 ∅ 0 ∗ P) -∗ WP c (k ⟨⟩) Q)) ⊢
      WP c (.op (.waitDma2 s src dst h₁ h₂) k) Q := by
  subst hN hP
  unfold owing
  iintro ⟨#HR, Hc, ⟨%W, HO⟩, Hat, Hk⟩
  iapply (Rounds.wp_wait_rest_token 𝒱₀ ER (rd A B) (c : Thread nD τ) none (κ := K ((c : Thread nD τ), .dma s))
      (wpE_waitDma2_eq (src := src) (dst := dst) 𝒱₀ (c : Thread nD τ) none Set.univ) (Set.mem_univ _) () (O := 0) (W := W) (R := 0) (m := 0) (T := ∅)
      ((Nat.zero_add _).trans he.symm)) $$ [Hc HO Hat]
  · isplitr
    · iapply (inv_at A B K hm); iexact HR
    isplitl [Hc]
    · iexact Hc
    isplitl [HO]
    · iexact HO
    isplitr
    · rw [MayWait_zero]; iempintro
    iexact Hat
  iintro ⟨HO, Hat, -, Hpay⟩
  iapply Hk
  isplitl [HO]
  · iexists _; iexact HO
  isplitl [Hat]
  · iexact Hat
  iexact Hpay

end Cert.PagedMerge

end
-- ==== Proof.Slots.lean ====
/-
  The slots of the two exchanged buffers: a buffer is its four slots, slot 0 is lent out in thirds,
  and what device `c` writes to its slot 0 is what its neighbours find in theirs.
-/
module

public import proofs.«01_k».proof.Proof.Steps

@[expose] public section

set_option maxRecDepth 16384

noncomputable section

namespace Cert.PagedMerge

open Idealize.ShloMosaic Idealize.ShloMosaic.TcCoe Idealize.ShloMosaic.Rounds
open Idealize.SL Idealize.SL.RA Idealize.SL.BI Idealize.SL.ProofMode
open scoped Idealize.SL.BI
open Idealize.SL.BI.BIBase Idealize.SL.Sem
open Cert.KernelIdeal Cert.KernelIdeal.Gen

variable {F : FTy → Type} [FloatOps F]

local notation "𝕄" => MT nD τ sig Unit (Elt F) ℕ UU ℕ

/-- The device whose part device `c` finds in its slot `k`. -/
def srcD (c : Dev nD) : Fin 4 → Dev nD := Fin.cases c (fun j => nb j c)

/-- The parts of the four devices of `c`'s row, by slot. -/
def around (ins : Dev nD → Ins F) (c : Dev nD) : Fin 4 → Ins F := fun k => ins (srcD c k)

/-- The buffer of sums of device `c` after the exchange. -/
def AA (ins : Dev nD → Ins F) (c : Dev nD) : OBuf F := oAll (around ins c)
/-- The buffer of statistics of device `c` after the exchange. -/
def BB (ins : Dev nD → Ins F) (c : Dev nD) : SBuf F := sAll (around ins c)

/-- Contents of the sums at two places that differ in the slot only. -/
theorem oAll_congr {xs xs' : Fin 4 → Ins F} {i i' : S4x8x8x64.Idx} (h : xs (i 0) = xs' (i' 0)) (h1 : i 1 = i' 1) (h2 : i 2 = i' 2) (h3 : i 3 = i' 3) :
    oAll xs i = oAll xs' i' := by
  unfold oAll; rw [h, h1, h2, h3]
/-- Contents of the statistics at two places that differ in the slot only. -/
theorem sAll_congr {xs xs' : Fin 4 → Ins F} {i i' : S4x2x8x8.Idx} (h : xs (i 0) = xs' (i' 0)) (h1 : i 1 = i' 1) (h2 : i 2 = i' 2) (h3 : i 3 = i' 3) :
    sAll xs i = sAll xs' i' := by
  unfold sAll; rw [h, h1, h2, h3]

/-- Where slot `k` of the sums places an index. -/
def oAt (k : Fin 4) (y : S8x8x64.Idx) : S4x8x8x64.Idx := (oSlot k).view.emb y
/-- Where slot `k` of the statistics places an index. -/
def sAt (k : Fin 4) (y : S2x8x8.Idx) : S4x2x8x8.Idx := (sSlot k).view.emb y

/-- The leading coordinate of an index of slot `k` of the sums is `k`. -/
theorem oAt_zero (k : Fin 4) (y : S8x8x64.Idx) : oAt k y 0 = k :=
  Fin.ext ((mem_oSlot k _).mp (Finset.mem_map_of_mem _ (Finset.mem_univ y)))
/-- The same for the statistics. -/
theorem sAt_zero (k : Fin 4) (y : S2x8x8.Idx) : sAt k y 0 = k :=
  Fin.ext ((mem_sSlot k _).mp (Finset.mem_map_of_mem _ (Finset.mem_univ y)))
/-- Away from the leading coordinate all slots are laid out alike. -/
theorem oAt_succ (k k' : Fin 4) (y : S8x8x64.Idx) (a : Fin 3) : oAt k y a.succ = oAt k' y a.succ := by
  have h (k : Fin 4) : (oAt k y a.succ).val = 0 + ((Shape.reshapeEquiv (Shape.Squeezes.numel_eq squeezes_S1x8x8x64_S8x8x64)) y a.succ).val := by
    refine (unit_emb_val (s := S4x8x8x64) (inb := o_inb k) _ a.succ).trans ?_
    fin_cases a <;> rfl
  exact Fin.ext ((h k).trans (h k').symm)
/-- Likewise for the statistics. -/
theorem sAt_succ (k k' : Fin 4) (y : S2x8x8.Idx) (a : Fin 3) : sAt k y a.succ = sAt k' y a.succ := by
  have h (k : Fin 4) : (sAt k y a.succ).val = 0 + ((Shape.reshapeEquiv (Shape.Squeezes.numel_eq squeezes_S1x2x8x8_S2x8x8)) y a.succ).val := by
    refine (unit_emb_val (s := S4x2x8x8) (inb := s_inb k) _ a.succ).trans ?_
    fin_cases a <;> rfl
  exact Fin.ext ((h k).trans (h k').symm)

/-- The part a copy carries is the part its receiver is to find. -/
theorem landing (ins : Dev nD → Ins F) : Landing (AA ins) (BB ins) := by
  have hs (c : Dev nD) (j : Fin 3) : around ins (nb j c) (rv j).succ = around ins c 0 := congrArg ins (nb_rv j c)
  constructor
  · intro c j y
    exact oAll_congr (i := oAt (rv j).succ y) (i' := oAt 0 y) (by rw [oAt_zero, oAt_zero]; exact hs c j) (oAt_succ _ _ y 0) (oAt_succ _ _ y 1) (oAt_succ _ _ y 2)
  · intro c j y
    exact sAll_congr (i := sAt (rv j).succ y) (i' := sAt 0 y) (by rw [sAt_zero, sAt_zero]; exact hs c j) (sAt_succ _ _ y 0) (sAt_succ _ _ y 1) (sAt_succ _ _ y 2)

/-- The buffer of sums is its four slots. -/
theorem o_slots (c : Dev nD) (f : OBuf F) :
    ((Memref.whole cc0_scratch0).view.loc (c : Thread nD τ) ↦{fullShare} f : sProp 𝕄)
      = iprop(oW c 0 fullShare f ∗ oW c 1 fullShare f ∗ oW c 2 fullShare f ∗ oW c 3 fullShare f) := by
  have hu : (Finset.univ : Finset S4x8x8x64.Idx) = (Finset.univ : Finset (Fin 4)).biUnion (fun k => (oSlot k).view.set) := by
    ext i
    simp only [Finset.mem_univ, Finset.mem_biUnion, true_and, true_iff]
    exact ⟨i 0, (mem_oSlot _ i).mpr rfl⟩
  have hd : ∀ t ∈ (Finset.univ : Finset (Fin 4)), ∀ t' ∈ (Finset.univ : Finset (Fin 4)), t ≠ t' →
      Disjoint ((oSlot t).view.set) ((oSlot t').view.set) := fun t _ t' _ ht =>
    Finset.disjoint_left.mpr fun i h h' => ht (Fin.ext (((mem_oSlot t i).mp h).symm.trans ((mem_oSlot t' i).mp h')))
  have e := pointsTo_biUnion (ℓ := (Memref.whole cc0_scratch0).view.loc (c : Thread nD τ)) (q := fullShare) (f := f) (Ix := Unit) (Name := ℕ) (U := UU) (Lvl := ℕ) Finset.univ (fun k : Fin 4 => (oSlot k).view.set) hd
  refine Eq.trans (congrArg (fun I => ((Memref.whole cc0_scratch0).view.loc (c : Thread nD τ) ↦[I]{fullShare} f : sProp 𝕄)) hu) (e.trans ?_)
  exact bigSep_univ_eq_bigSepL [(0 : Fin 4), 1, 2, 3] (by decide) (by decide) _

/-- The buffer of statistics is its four slots. -/
theorem s_slots (c : Dev nD) (f : SBuf F) :
    ((Memref.whole cc0_scratch1).view.loc (c : Thread nD τ) ↦{fullShare} f : sProp 𝕄)
      = iprop(sW c 0 fullShare f ∗ sW c 1 fullShare f ∗ sW c 2 fullShare f ∗ sW c 3 fullShare f) := by
  have hu : (Finset.univ : Finset S4x2x8x8.Idx) = (Finset.univ : Finset (Fin 4)).biUnion (fun k => (sSlot k).view.set) := by
    ext i
    simp only [Finset.mem_univ, Finset.mem_biUnion, true_and, true_iff]
    exact ⟨i 0, (mem_sSlot _ i).mpr rfl⟩
  have hd : ∀ t ∈ (Finset.univ : Finset (Fin 4)), ∀ t' ∈ (Finset.univ : Finset (Fin 4)), t ≠ t' →
      Disjoint ((sSlot t).view.set) ((sSlot t').view.set) := fun t _ t' _ ht =>
    Finset.disjoint_left.mpr fun i h h' => ht (Fin.ext (((mem_sSlot t i).mp h).symm.trans ((mem_sSlot t' i).mp h')))
  have e := pointsTo_biUnion (ℓ := (Memref.whole cc0_scratch1).view.loc (c : Thread nD τ)) (q := fullShare) (f := f) (Ix := Unit) (Name := ℕ) (U := UU) (Lvl := ℕ) Finset.univ (fun k : Fin 4 => (sSlot k).view.set) hd
  refine Eq.trans (congrArg (fun I => ((Memref.whole cc0_scratch1).view.loc (c : Thread nD τ) ↦[I]{fullShare} f : sProp 𝕄)) hu) (e.trans ?_)
  exact bigSep_univ_eq_bigSepL [(0 : Fin 4), 1, 2, 3] (by decide) (by decide) _

variable (ins : Dev nD → Ins F) (c : Dev nD)

/-- Slot 0 of the sums with all heads written, in thirds. -/
theorem o_done : oHeld c (ins c) 8 ⊢
    (iprop(oW c 0 (sh 0) (AA ins c) ∗ oW c 0 (sh 1) (AA ins c) ∗ oW c 0 (sh 2) (AA ins c)) : sProp 𝕄) := by
  unfold oHeld
  iintro ⟨%f, H, %hf⟩
  have e : (oW c 0 fullShare f : sProp 𝕄) = oW c 0 fullShare (AA ins c) := pointsTo_congr fun i hi => by
    have key (i : S4x8x8x64.Idx) (h0 : (i 0).val = 0) : f i = oAll (around ins c) i := by
      refine (hf i ⟨h0, (i 2).isLt⟩).trans ?_
      have : i 0 = (0 : Fin 4) := Fin.ext h0
      unfold oAll
      rw [this]; rfl
    exact key i ((mem_oSlot 0 i).mp hi)
  ihave H := (Entails.of_eq e) $$ H
  ihave H := (Ring.pointsTo_thirds fullShare (AA ins c)).1 $$ H
  iexact H

/-- Slot 0 of the statistics with all heads written, in thirds. -/
theorem s_done : sHeld c (ins c) 8 8 ⊢
    (iprop(sW c 0 (sh 0) (BB ins c) ∗ sW c 0 (sh 1) (BB ins c) ∗ sW c 0 (sh 2) (BB ins c)) : sProp 𝕄) := by
  unfold sHeld
  iintro ⟨%f, H, %hf⟩
  have e : (sW c 0 fullShare f : sProp 𝕄) = sW c 0 fullShare (BB ins c) := pointsTo_congr fun i hi => by
    have key (i : S4x2x8x8.Idx) (h0 : (i 0).val = 0) : f i = sAll (around ins c) i := by
      refine (hf i ⟨h0, by split <;> exact (i 3).isLt⟩).trans ?_
      have : i 0 = (0 : Fin 4) := Fin.ext h0
      unfold sAll
      rw [this]; rfl
    exact key i ((mem_sSlot 0 i).mp hi)
  ihave H := (Entails.of_eq e) $$ H
  ihave H := (Ring.pointsTo_thirds fullShare (BB ins c)).1 $$ H
  iexact H

/-- What comes back and what came in are the whole buffers. -/
theorem o_joined :
    (iprop(oW c 0 (sh 0) (AA ins c) ∗ oW c 0 (sh 1) (AA ins c) ∗ oW c 0 (sh 2) (AA ins c)
      ∗ oW c 1 fullShare (AA ins c) ∗ oW c 2 fullShare (AA ins c) ∗ oW c 3 fullShare (AA ins c)) : sProp 𝕄)
    ⊢ (Memref.whole cc0_scratch0).view.loc (c : Thread nD τ) ↦{fullShare} oAll (around ins c) := by
  rw [show oAll (around ins c) = AA ins c from rfl, o_slots]
  iintro ⟨H0, H1, H2, Hr⟩
  isplitl [H0 H1 H2]
  · iapply (Ring.pointsTo_thirds fullShare (AA ins c)).2
    isplitl [H0]
    · iexact H0
    isplitl [H1]
    · iexact H1
    iexact H2
  iexact Hr

/-- The four slots of the statistics, after the exchange, are the whole buffer again. -/
theorem s_joined :
    (iprop(sW c 0 (sh 0) (BB ins c) ∗ sW c 0 (sh 1) (BB ins c) ∗ sW c 0 (sh 2) (BB ins c)
      ∗ sW c 1 fullShare (BB ins c) ∗ sW c 2 fullShare (BB ins c) ∗ sW c 3 fullShare (BB ins c)) : sProp 𝕄)
    ⊢ (Memref.whole cc0_scratch1).view.loc (c : Thread nD τ) ↦{fullShare} sAll (around ins c) := by
  rw [show sAll (around ins c) = BB ins c from rfl, s_slots]
  iintro ⟨H0, H1, H2, Hr⟩
  isplitl [H0 H1 H2]
  · iapply (Ring.pointsTo_thirds fullShare (BB ins c)).2
    isplitl [H0]
    · iexact H0
    isplitl [H1]
    · iexact H1
    iexact H2
  iexact Hr

end Cert.PagedMerge

end
-- ==== Proof.Exchange.lean ====
/-
  The exchange of the body, part by part: six copies out, then twelve waits.
-/
module

public import proofs.«01_k».proof.Proof.Slots

@[expose] public section

set_option maxRecDepth 16384

noncomputable section

namespace Cert.PagedMerge

open Idealize.ShloMosaic Idealize.ShloMosaic.TcCoe Idealize.ShloMosaic.Rounds
open Idealize.SL Idealize.SL.RA Idealize.SL.BI Idealize.SL.ProofMode
open scoped Idealize.SL.BI
open Idealize.SL.BI.BIBase Idealize.SL.Sem
open Cert.KernelIdeal Cert.KernelIdeal.Gen

variable {F : FTy → Type} [FloatOps F]

local notation "𝕄" => MT nD τ sig Unit (Elt F) ℕ UU ℕ

variable (A : Dev nD → OBuf F) (B : Dev nD → SBuf F) (K : GSem nD τ sig → ℕ) (c : Dev nD)

/-! ## What a copy starts from, and what a wait turns into what -/

/-- The copy `j` of the sums, ready to start. -/
def oGo (j : Fin 3) : sProp 𝕄 :=
  iprop(oW c 0 (sh j) (A c) ∗ (∃ f, oW (F := F) (nb j c) (rv j).succ fullShare f) ∗ copyToks c 0 j)
/-- The copy `j` of the statistics, ready to start. -/
def sGo (j : Fin 3) : sProp 𝕄 :=
  iprop(sW c 0 (sh j) (B c) ∗ (∃ f, sW (F := F) (nb j c) (rv j).succ fullShare f) ∗ copyToks c 1 j)

/-- A cell to be waited on: its credit and its position. -/
def cellGo (g : GSem nD τ sig) (N : ℕ) : sProp 𝕄 := iprop(cred (tallyAt g () N) ∗ atPos ER g 0 ∅ 0)
/-- A cell waited on: its position, and what came with it. -/
def cellDone (g : GSem nD τ sig) (P : sProp 𝕄) : sProp 𝕄 := iprop(atPos ER g 1 ∅ 0 ∗ P)

/-- The copy `j` of the sums starts. -/
theorem go_o {α : Type} {Q : α → sProp 𝕄} (hL : Landing A B) (j : Fin 3) (k' : Fin 4) (hk' : k' = (rv j).succ) {n : Dev nD} (hn : n = nb j c)
    {sS sR : DmaSem sig} (hS : sS = sendS 0 j) (hR : sR = recvS 0 (rv j)) (O : CellTallies nD τ sig Unit) {hsrc hdst hsem}
    {k : PUnit → Prog (TpuEff nD τ sig (Elt F) Λ₀ .tc) α} :
    iprop(records A B K ∗ owing c (O + dueO j c) ∗ oGo A c j ∗ atPos ER (sendCell 0 j c) 0 ∅ 0
        ∗ ((owing c O ∗ cellGo (sendCell 0 j c) NO) -∗ WP c (k ⟨⟩) Q)) ⊢
      WP c (.op (.enqueueDma (oSlot 0) (.remote (Dev.tc n) (oSlot k') (.dma sS)) (.dma sR) hsrc hdst hsem) k) Q := by
  unfold oGo cellGo
  iintro ⟨HR, HO, ⟨Hs, Hd, Ht⟩, Hat, Hk⟩
  iapply (send_o A B K hL c j k' hk' hn hS hR O)
  isplitl [HR]
  · iexact HR
  isplitl [HO]
  · iexact HO
  isplitl [Hs]
  · iexact Hs
  isplitl [Hd]
  · iexact Hd
  isplitl [Ht]
  · iexact Ht
  iintro ⟨HO, Hc⟩
  iapply Hk
  isplitl [HO]
  · iexact HO
  isplitl [Hc]
  · iexact Hc
  iexact Hat

/-- Slot `j + 1` of the sums has come in. -/
theorem await_recv_o {α : Type} {Q : α → sProp 𝕄} (j : Fin 3) {sp sp' : Space} {sa : Shape} {ea : EltTy} {s : DmaSem sig} (hs : s = recvS 0 j)
    {src : Memref sig .tc sp sa ea} {dst : Memref sig .tc sp' sa ea} {h₁ h₂} (hN : dst.view.dmaCredit = NO)
    {k : PUnit → Prog (TpuEff nD τ sig (Elt F) Λ₀ .tc) α} :
    iprop(records A B K ∗ owing c 0 ∗ cellGo (recvCell 0 j c) NO
        ∗ ((owing c 0 ∗ cellDone (recvCell 0 j c) (oW c j.succ fullShare (A c))) -∗ WP c (k ⟨⟩) Q)) ⊢
      WP c (.op (.waitDma2 s src dst h₁ h₂) k) Q := by
  subst hs
  unfold cellGo cellDone
  iintro ⟨HR, HO, ⟨Hc, Hat⟩, Hk⟩
  iapply (wait_step A B K c (recvS 0 j) NO (oW c j.succ fullShare (A c)) (recv_mem 0 j c) hN (expect_recv0 A B c j) (rest_recv0 A B c j))
  isplitl [HR]
  · iexact HR
  isplitl [Hc]
  · iexact Hc
  isplitl [HO]
  · iexact HO
  isplitl [Hat]
  · iexact Hat
  iexact Hk

/-- The copy `j` of the sums has read its source. -/
theorem await_send_o {α : Type} {Q : α → sProp 𝕄} (j : Fin 3) {sp sp' : Space} {sa : Shape} {ea : EltTy} {s : DmaSem sig} (hs : s = sendS 0 j)
    {src : Memref sig .tc sp sa ea} {dst : Memref sig .tc sp' sa ea} {h₁ h₂} (hN : dst.view.dmaCredit = NO)
    {k : PUnit → Prog (TpuEff nD τ sig (Elt F) Λ₀ .tc) α} :
    iprop(records A B K ∗ owing c 0 ∗ cellGo (sendCell 0 j c) NO
        ∗ ((owing c 0 ∗ cellDone (sendCell 0 j c) (oW c 0 (sh j) (A c))) -∗ WP c (k ⟨⟩) Q)) ⊢
      WP c (.op (.waitDma2 s src dst h₁ h₂) k) Q := by
  subst hs
  unfold cellGo cellDone
  iintro ⟨HR, HO, ⟨Hc, Hat⟩, Hk⟩
  iapply (wait_step A B K c (sendS 0 j) NO (oW c 0 (sh j) (A c)) (send_mem 0 j c) hN (expect_send0 A B c j) (rest_send0 A B c j))
  isplitl [HR]
  · iexact HR
  isplitl [Hc]
  · iexact Hc
  isplitl [HO]
  · iexact HO
  isplitl [Hat]
  · iexact Hat
  iexact Hk

/-- The copy `j` of the statistics starts. -/
theorem go_s {α : Type} {Q : α → sProp 𝕄} (hL : Landing A B) (j : Fin 3) (k' : Fin 4) (hk' : k' = (rv j).succ) {n : Dev nD} (hn : n = nb j c)
    {sS sR : DmaSem sig} (hS : sS = sendS 1 j) (hR : sR = recvS 1 (rv j)) (O : CellTallies nD τ sig Unit) {hsrc hdst hsem}
    {k : PUnit → Prog (TpuEff nD τ sig (Elt F) Λ₀ .tc) α} :
    iprop(records A B K ∗ owing c (O + dueS j c) ∗ sGo B c j ∗ atPos ER (sendCell 1 j c) 0 ∅ 0
        ∗ ((owing c O ∗ cellGo (sendCell 1 j c) NS) -∗ WP c (k ⟨⟩) Q)) ⊢
      WP c (.op (.enqueueDma (sSlot 0) (.remote (Dev.tc n) (sSlot k') (.dma sS)) (.dma sR) hsrc hdst hsem) k) Q := by
  unfold sGo cellGo
  iintro ⟨HR, HO, ⟨Hs, Hd, Ht⟩, Hat, Hk⟩
  iapply (send_s A B K hL c j k' hk' hn hS hR O)
  isplitl [HR]
  · iexact HR
  isplitl [HO]
  · iexact HO
  isplitl [Hs]
  · iexact Hs
  isplitl [Hd]
  · iexact Hd
  isplitl [Ht]
  · iexact Ht
  iintro ⟨HO, Hc⟩
  iapply Hk
  isplitl [HO]
  · iexact HO
  isplitl [Hc]
  · iexact Hc
  iexact Hat

/-- Slot `j + 1` of the statistics has come in. -/
theorem await_recv_s {α : Type} {Q : α → sProp 𝕄} (j : Fin 3) {sp sp' : Space} {sa : Shape} {ea : EltTy} {s : DmaSem sig} (hs : s = recvS 1 j)
    {src : Memref sig .tc sp sa ea} {dst : Memref sig .tc sp' sa ea} {h₁ h₂} (hN : dst.view.dmaCredit = NS)
    {k : PUnit → Prog (TpuEff nD τ sig (Elt F) Λ₀ .tc) α} :
    iprop(records A B K ∗ owing c 0 ∗ cellGo (recvCell 1 j c) NS
        ∗ ((owing c 0 ∗ cellDone (recvCell 1 j c) (sW c j.succ fullShare (B c))) -∗ WP c (k ⟨⟩) Q)) ⊢
      WP c (.op (.waitDma2 s src dst h₁ h₂) k) Q := by
  subst hs
  unfold cellGo cellDone
  iintro ⟨HR, HO, ⟨Hc, Hat⟩, Hk⟩
  iapply (wait_step A B K c (recvS 1 j) NS (sW c j.succ fullShare (B c)) (recv_mem 1 j c) hN (expect_recv1 A B c j) (rest_recv1 A B c j))
  isplitl [HR]
  · iexact HR
  isplitl [Hc]
  · iexact Hc
  isplitl [HO]
  · iexact HO
  isplitl [Hat]
  · iexact Hat
  iexact Hk

/-- The copy `j` of the statistics has read its source. -/
theorem await_send_s {α : Type} {Q : α → sProp 𝕄} (j : Fin 3) {sp sp' : Space} {sa : Shape} {ea : EltTy} {s : DmaSem sig} (hs : s = sendS 1 j)
    {src : Memref sig .tc sp sa ea} {dst : Memref sig .tc sp' sa ea} {h₁ h₂} (hN : dst.view.dmaCredit = NS)
    {k : PUnit → Prog (TpuEff nD τ sig (Elt F) Λ₀ .tc) α} :
    iprop(records A B K ∗ owing c 0 ∗ cellGo (sendCell 1 j c) NS
        ∗ ((owing c 0 ∗ cellDone (sendCell 1 j c) (sW c 0 (sh j) (B c))) -∗ WP c (k ⟨⟩) Q)) ⊢
      WP c (.op (.waitDma2 s src dst h₁ h₂) k) Q := by
  subst hs
  unfold cellGo cellDone
  iintro ⟨HR, HO, ⟨Hc, Hat⟩, Hk⟩
  iapply (wait_step A B K c (sendS 1 j) NS (sW c 0 (sh j) (B c)) (send_mem 1 j c) hN (expect_send1 A B c j) (rest_send1 A B c j))
  isplitl [HR]
  · iexact HR
  isplitl [Hc]
  · iexact Hc
  isplitl [HO]
  · iexact HO
  isplitl [Hat]
  · iexact Hat
  iexact Hk

/-! ## The parts of the body that start copies -/

/-- Part 15 of the body starts one copy. -/
theorem part15_spec (hL : Landing A B) (v2 : BitVec 32) (v5 : BitVec 32) (v458 : BitVec 32) (v459 : BitVec 32) (v460 : BitVec 1) (v463 : BitVec 1) {Q : (BitVec 32) → sProp 𝕄} :
    iprop(records A B K ∗ owing c (sends c) ∗ oGo A c 0 ∗ atPos ER (sendCell 0 0 c) 0 ∅ 0
        ∗ (∀ r, (owing c (0 + dueS 2 c + dueO 2 c + dueS 1 c + dueO 1 c + dueS 0 c) ∗ cellGo (sendCell 0 0 c) NO) -∗ Q r)) ⊢
      WP c (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v2 v5 v458 v459 v460 v463) Q := by
  rw [k0_part15_eq_skeleton]
  unfold k0_part15_skel
  simp only [Prog.lift, Prog.bind_op, Prog.bind_ret, Prog.pure_eq_ret]
  iintro ⟨#HR, HO, G0, P0, Hk⟩
  iapply (go_o A B K c hL 0 3 rfl (dev4_eq c) rfl rfl (0 + dueS 2 c + dueO 2 c + dueS 1 c + dueO 1 c + dueS 0 c))
  isplitr
  · iexact HR
  isplitl [HO]
  · iexact HO
  isplitl [G0]
  · iexact G0
  isplitl [P0]
  · iexact P0
  iintro ⟨HO, C0⟩
  unfold WP
  rw [wp_ret]
  imodintro
  iapply Hk
  isplitl [HO]
  · iexact HO
  iexact C0

/-- Part 16 of the body starts two copies. -/
theorem part16_spec (hL : Landing A B) (v2 : BitVec 32) (v5 : BitVec 32) (v8 : BitVec 32) {Q : (BitVec 32) → sProp 𝕄} :
    iprop(records A B K ∗ owing c (0 + dueS 2 c + dueO 2 c + dueS 1 c + dueO 1 c + dueS 0 c) ∗ sGo B c 0 ∗ atPos ER (sendCell 1 0 c) 0 ∅ 0 ∗ oGo A c 1 ∗ atPos ER (sendCell 0 1 c) 0 ∅ 0
        ∗ (∀ r, (owing c (0 + dueS 2 c + dueO 2 c + dueS 1 c) ∗ cellGo (sendCell 1 0 c) NS ∗ cellGo (sendCell 0 1 c) NO) -∗ Q r)) ⊢
      WP c (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v2 v5 v8) Q := by
  rw [k0_part16_eq_skeleton]
  unfold k0_part16_skel
  simp only [Prog.lift, Prog.bind_op, Prog.bind_ret, Prog.pure_eq_ret]
  iintro ⟨#HR, HO, G1, P1, G2, P2, Hk⟩
  iapply (go_s A B K c hL 0 3 rfl (dev5_eq c) rfl rfl (0 + dueS 2 c + dueO 2 c + dueS 1 c + dueO 1 c))
  isplitr
  · iexact HR
  isplitl [HO]
  · iexact HO
  isplitl [G1]
  · iexact G1
  isplitl [P1]
  · iexact P1
  iintro ⟨HO, C1⟩
  iapply (go_o A B K c hL 1 2 rfl (dev6_eq c) rfl rfl (0 + dueS 2 c + dueO 2 c + dueS 1 c))
  isplitr
  · iexact HR
  isplitl [HO]
  · iexact HO
  isplitl [G2]
  · iexact G2
  isplitl [P2]
  · iexact P2
  iintro ⟨HO, C2⟩
  unfold WP
  rw [wp_ret]
  imodintro
  iapply Hk
  isplitl [HO]
  · iexact HO
  isplitl [C1]
  · iexact C1
  iexact C2

/-- Part 17 of the body starts one copy. -/
theorem part17_spec (hL : Landing A B) (v2 : BitVec 32) (v5 : BitVec 32) (v8 : BitVec 32) (v505 : BitVec 32) {Q : (BitVec 32) → sProp 𝕄} :
    iprop(records A B K ∗ owing c (0 + dueS 2 c + dueO 2 c + dueS 1 c) ∗ sGo B c 1 ∗ atPos ER (sendCell 1 1 c) 0 ∅ 0
        ∗ (∀ r, (owing c (0 + dueS 2 c + dueO 2 c) ∗ cellGo (sendCell 1 1 c) NS) -∗ Q r)) ⊢
      WP c (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v2 v5 v8 v505) Q := by
  rw [k0_part17_eq_skeleton]
  unfold k0_part17_skel
  simp only [Prog.lift, Prog.bind_op, Prog.bind_ret, Prog.pure_eq_ret]
  iintro ⟨#HR, HO, G3, P3, Hk⟩
  iapply (go_s A B K c hL 1 2 rfl (dev7_eq c) rfl rfl (0 + dueS 2 c + dueO 2 c))
  isplitr
  · iexact HR
  isplitl [HO]
  · iexact HO
  isplitl [G3]
  · iexact G3
  isplitl [P3]
  · iexact P3
  iintro ⟨HO, C3⟩
  unfold WP
  rw [wp_ret]
  imodintro
  iapply Hk
  isplitl [HO]
  · iexact HO
  iexact C3

/-- Part 18 of the body starts two copies. -/
theorem part18_spec (hL : Landing A B) (v2 : BitVec 32) (v5 : BitVec 32) (v466 : BitVec 32) (v544 : BitVec 32) {Q : (Σ' (v576 : BitVec 32), BitVec 32) → sProp 𝕄} :
    iprop(records A B K ∗ owing c (0 + dueS 2 c + dueO 2 c) ∗ oGo A c 2 ∗ atPos ER (sendCell 0 2 c) 0 ∅ 0 ∗ sGo B c 2 ∗ atPos ER (sendCell 1 2 c) 0 ∅ 0
        ∗ (∀ r, (owing c (0) ∗ cellGo (sendCell 0 2 c) NO ∗ cellGo (sendCell 1 2 c) NS) -∗ Q r)) ⊢
      WP c (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v2 v5 v466 v544) Q := by
  rw [k0_part18_eq_skeleton]
  unfold k0_part18_skel
  simp only [Prog.lift, Prog.bind_op, Prog.bind_ret, Prog.pure_eq_ret]
  iintro ⟨#HR, HO, G4, P4, G5, P5, Hk⟩
  iapply (go_o A B K c hL 2 1 rfl (dev8_eq c) rfl rfl (0 + dueS 2 c))
  isplitr
  · iexact HR
  isplitl [HO]
  · iexact HO
  isplitl [G4]
  · iexact G4
  isplitl [P4]
  · iexact P4
  iintro ⟨HO, C4⟩
  iapply (go_s A B K c hL 2 1 rfl (dev9_eq c) rfl rfl (0))
  isplitr
  · iexact HR
  isplitl [HO]
  · iexact HO
  isplitl [G5]
  · iexact G5
  isplitl [P5]
  · iexact P5
  iintro ⟨HO, C5⟩
  unfold WP
  rw [wp_ret]
  imodintro
  iapply Hk
  isplitl [HO]
  · iexact HO
  isplitl [C4]
  · iexact C4
  iexact C5

/-! ## The parts of the body that wait -/

/-- Part 19 of the body waits for two copies. -/
theorem part19_spec (v2 : BitVec 32) (v5 : BitVec 32) (v466 : BitVec 32) (v505 : BitVec 32) (v576 : BitVec 32) (v577 : BitVec 32) {Q : (PUnit) → sProp 𝕄} :
    iprop(records A B K ∗ owing c 0 ∗ cellGo (recvCell 0 2 c) NO ∗ cellGo (recvCell 1 2 c) NS
        ∗ ((owing c 0 ∗ cellDone (recvCell 0 2 c) (oW c (2 : Fin 3).succ fullShare (A c)) ∗ cellDone (recvCell 1 2 c) (sW c (2 : Fin 3).succ fullShare (B c))) -∗ Q ⟨⟩)) ⊢
      WP c (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 v2 v5 v466 v505 v576 v577) Q := by
  rw [k0_part19_eq_skeleton]
  unfold k0_part19_skel
  simp only [Prog.lift, Prog.bind_op, Prog.bind_ret, Prog.pure_eq_ret]
  iintro ⟨#HR, HO, G0, G1, Hk⟩
  iapply (await_recv_o A B K c 2 (src := oSlot 0) (dst := oSlot 3) rfl rfl)
  isplitr
  · iexact HR
  isplitl [HO]
  · iexact HO
  isplitl [G0]
  · iexact G0
  iintro ⟨HO, D0⟩
  iapply (await_recv_s A B K c 2 (src := sSlot 0) (dst := sSlot 3) rfl rfl)
  isplitr
  · iexact HR
  isplitl [HO]
  · iexact HO
  isplitl [G1]
  · iexact G1
  iintro ⟨HO, D1⟩
  unfold WP
  rw [wp_ret]
  imodintro
  iapply Hk
  isplitl [HO]
  · iexact HO
  isplitl [D0]
  · iexact D0
  iexact D1

/-- Part 20 of the body waits for two copies. -/
theorem part20_spec (v2 : BitVec 32) (v5 : BitVec 32) (v505 : BitVec 32) (v544 : BitVec 32) {Q : (PUnit) → sProp 𝕄} :
    iprop(records A B K ∗ owing c 0 ∗ cellGo (recvCell 0 1 c) NO ∗ cellGo (recvCell 1 1 c) NS
        ∗ ((owing c 0 ∗ cellDone (recvCell 0 1 c) (oW c (1 : Fin 3).succ fullShare (A c)) ∗ cellDone (recvCell 1 1 c) (sW c (1 : Fin 3).succ fullShare (B c))) -∗ Q ⟨⟩)) ⊢
      WP c (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 v2 v5 v505 v544) Q := by
  rw [k0_part20_eq_skeleton]
  unfold k0_part20_skel
  simp only [Prog.lift, Prog.bind_op, Prog.bind_ret, Prog.pure_eq_ret]
  iintro ⟨#HR, HO, G0, G1, Hk⟩
  iapply (await_recv_o A B K c 1 (src := oSlot 0) (dst := oSlot 2) rfl rfl)
  isplitr
  · iexact HR
  isplitl [HO]
  · iexact HO
  isplitl [G0]
  · iexact G0
  iintro ⟨HO, D0⟩
  iapply (await_recv_s A B K c 1 (src := sSlot 0) (dst := sSlot 2) rfl rfl)
  isplitr
  · iexact HR
  isplitl [HO]
  · iexact HO
  isplitl [G1]
  · iexact G1
  iintro ⟨HO, D1⟩
  unfold WP
  rw [wp_ret]
  imodintro
  iapply Hk
  isplitl [HO]
  · iexact HO
  isplitl [D0]
  · iexact D0
  iexact D1

/-- Part 21 of the body waits for three copies. -/
theorem part21_spec (v2 : BitVec 32) (v5 : BitVec 32) (v544 : BitVec 32) {Q : (PUnit) → sProp 𝕄} :
    iprop(records A B K ∗ owing c 0 ∗ cellGo (recvCell 0 0 c) NO ∗ cellGo (recvCell 1 0 c) NS ∗ cellGo (sendCell 0 0 c) NO
        ∗ ((owing c 0 ∗ cellDone (recvCell 0 0 c) (oW c (0 : Fin 3).succ fullShare (A c)) ∗ cellDone (recvCell 1 0 c) (sW c (0 : Fin 3).succ fullShare (B c)) ∗ cellDone (sendCell 0 0 c) (oW c 0 (sh 0) (A c))) -∗ Q ⟨⟩)) ⊢
      WP c (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 v2 v5 v544) Q := by
  rw [k0_part21_eq_skeleton]
  unfold k0_part21_skel
  simp only [Prog.lift, Prog.bind_op, Prog.bind_ret, Prog.pure_eq_ret]
  iintro ⟨#HR, HO, G0, G1, G2, Hk⟩
  iapply (await_recv_o A B K c 0 (src := oSlot 0) (dst := oSlot 1) rfl rfl)
  isplitr
  · iexact HR
  isplitl [HO]
  · iexact HO
  isplitl [G0]
  · iexact G0
  iintro ⟨HO, D0⟩
  iapply (await_recv_s A B K c 0 (src := sSlot 0) (dst := sSlot 1) rfl rfl)
  isplitr
  · iexact HR
  isplitl [HO]
  · iexact HO
  isplitl [G1]
  · iexact G1
  iintro ⟨HO, D1⟩
  iapply (await_send_o A B K c 0 (src := oSlot 3) (dst := oSlot 0) rfl rfl)
  isplitr
  · iexact HR
  isplitl [HO]
  · iexact HO
  isplitl [G2]
  · iexact G2
  iintro ⟨HO, D2⟩
  unfold WP
  rw [wp_ret]
  imodintro
  iapply Hk
  isplitl [HO]
  · iexact HO
  isplitl [D0]
  · iexact D0
  isplitl [D1]
  · iexact D1
  iexact D2

/-- Part 22 of the body waits for three copies. -/
theorem part22_spec  {Q : (PUnit) → sProp 𝕄} :
    iprop(records A B K ∗ owing c 0 ∗ cellGo (sendCell 1 0 c) NS ∗ cellGo (sendCell 0 1 c) NO ∗ cellGo (sendCell 1 1 c) NS
        ∗ ((owing c 0 ∗ cellDone (sendCell 1 0 c) (sW c 0 (sh 0) (B c)) ∗ cellDone (sendCell 0 1 c) (oW c 0 (sh 1) (A c)) ∗ cellDone (sendCell 1 1 c) (sW c 0 (sh 1) (B c))) -∗ Q ⟨⟩)) ⊢
      WP c (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 ) Q := by
  rw [k0_part22_eq_skeleton]
  unfold k0_part22_skel
  simp only [Prog.lift, Prog.bind_op, Prog.bind_ret, Prog.pure_eq_ret]
  iintro ⟨#HR, HO, G0, G1, G2, Hk⟩
  iapply (await_send_s A B K c 0 (src := sSlot 3) (dst := sSlot 0) rfl rfl)
  isplitr
  · iexact HR
  isplitl [HO]
  · iexact HO
  isplitl [G0]
  · iexact G0
  iintro ⟨HO, D0⟩
  iapply (await_send_o A B K c 1 (src := oSlot 2) (dst := oSlot 0) rfl rfl)
  isplitr
  · iexact HR
  isplitl [HO]
  · iexact HO
  isplitl [G1]
  · iexact G1
  iintro ⟨HO, D1⟩
  iapply (await_send_s A B K c 1 (src := sSlot 2) (dst := sSlot 0) rfl rfl)
  isplitr
  · iexact HR
  isplitl [HO]
  · iexact HO
  isplitl [G2]
  · iexact G2
  iintro ⟨HO, D2⟩
  unfold WP
  rw [wp_ret]
  imodintro
  iapply Hk
  isplitl [HO]
  · iexact HO
  isplitl [D0]
  · iexact D0
  isplitl [D1]
  · iexact D1
  iexact D2

variable (ins : Dev nD → Ins F)

/-- All but the last two copies accounted for: what the buffers are joined from. -/
def thirds : sProp 𝕄 :=
  iprop((oW c 0 (sh 0) (AA ins c) ∗ oW c 0 (sh 1) (AA ins c) ∗ oW c 1 fullShare (AA ins c) ∗ oW c 2 fullShare (AA ins c) ∗ oW c 3 fullShare (AA ins c))
    ∗ (sW c 0 (sh 0) (BB ins c) ∗ sW c 0 (sh 1) (BB ins c) ∗ sW c 1 fullShare (BB ins c) ∗ sW c 2 fullShare (BB ins c) ∗ sW c 3 fullShare (BB ins c)))

/-- Part 23 waits for the last two copies; both buffers are whole again, and the statistics of head 0 are read. -/
theorem part23_spec {Q : (Σ' (v689 : FVec F S4x8x1 .f32), FVec F S8x1 .f32) → sProp 𝕄} :
    iprop(records (AA ins) (BB ins) K ∗ owing c 0 ∗ cellGo (sendCell 0 2 c) NO ∗ cellGo (sendCell 1 2 c) NS ∗ thirds c ins
        ∗ ((owing c 0 ∗ atPos ER (sendCell 0 2 c) 1 ∅ 0 ∗ atPos ER (sendCell 1 2 c) 1 ∅ 0 ∗ mHeld c (around ins c))
          -∗ Q ⟨k0_pay83 (stAt (around ins c) 0 0), k0_pay84 (stAt (around ins c) 0 0) (stAt (around ins c) 1 0)⟩)) ⊢
      WP c (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4) Q := by
  rw [k0_part23_eq_skeleton]
  unfold k0_part23_skel
  simp only [Prog.lift, Prog.bind_op, Prog.bind_ret, Prog.pure_eq_ret]
  unfold thirds
  iintro ⟨#HR, HO, G0, G1, ⟨⟨o0, o1, o3, o4, o5⟩, ⟨s0, s1, s3, s4, s5⟩⟩, Hk⟩
  iapply (await_send_o (AA ins) (BB ins) K c 2 (src := oSlot 1) (dst := oSlot 0) rfl rfl)
  isplitr
  · iexact HR
  isplitl [HO]
  · iexact HO
  isplitl [G0]
  · iexact G0
  iintro ⟨HO, D0⟩
  iapply (await_send_s (AA ins) (BB ins) K c 2 (src := sSlot 1) (dst := sSlot 0) rfl rfl)
  isplitr
  · iexact HR
  isplitl [HO]
  · iexact HO
  isplitl [G1]
  · iexact G1
  iintro ⟨HO, D1⟩
  unfold cellDone
  icases D0 with ⟨P0, o2⟩
  icases D1 with ⟨P1, s2⟩
  ihave Mo := (o_joined ins c) $$ [o0 o1 o2 o3 o4 o5]
  · isplitl [o0]
    · iexact o0
    isplitl [o1]
    · iexact o1
    isplitl [o2]
    · iexact o2
    isplitl [o3]
    · iexact o3
    isplitl [o4]
    · iexact o4
    iexact o5
  ihave Ms := (s_joined ins c) $$ [s0 s1 s2 s3 s4 s5]
  · isplitl [s0]
    · iexact s0
    isplitl [s1]
    · iexact s1
    isplitl [s2]
    · iexact s2
    isplitl [s3]
    · iexact s3
    isplitl [s4]
    · iexact s4
    iexact s5
  have hM : (iprop(((Memref.whole cc0_scratch0).view.loc (c : Thread nD τ) ↦{fullShare} oAll (around ins c))
    ∗ ((Memref.whole cc0_scratch1).view.loc (c : Thread nD τ) ↦{fullShare} sAll (around ins c))) : sProp 𝕄) ⊢ mHeld c (around ins c) := by
    unfold mHeld; iintro H; iexact H
  ihave M := hM $$ [Mo Ms]
  · isplitl [Mo]
    · iexact Mo
    iexact Ms
  iapply (wp_st c (around ins c) 0 0) $$ M
  iintro M
  iapply (wp_st c (around ins c) 1 0) $$ M
  iintro M
  unfold WP
  rw [wp_ret]
  imodintro
  iapply Hk
  isplitl [HO]
  · iexact HO
  isplitl [P0]
  · iexact P0
  isplitl [P1]
  · iexact P1
  iexact M

end Cert.PagedMerge

end
-- ==== Proof.Body.lean ====
/-
  The body of the kernel, whole: the parts joined in the order they run.
-/
module

public import proofs.«01_k».proof.Proof.Exchange

@[expose] public section

set_option maxRecDepth 16384

noncomputable section

namespace Cert.PagedMerge

open Idealize.ShloMosaic Idealize.ShloMosaic.TcCoe Idealize.ShloMosaic.Rounds
open Idealize.SL Idealize.SL.RA Idealize.SL.BI Idealize.SL.ProofMode
open scoped Idealize.SL.BI
open Idealize.SL.BI.BIBase Idealize.SL.Sem
open Cert.KernelIdeal Cert.KernelIdeal.Gen

variable {F : FTy → Type} [FloatOps F]

local notation "𝕄" => MT nD τ sig Unit (Elt F) ℕ UU ℕ

section Before

variable (A : Dev nD → OBuf F) (B : Dev nD → SBuf F) (K : GSem nD τ sig → ℕ) (c : Dev nD) (x : Ins F)

/-- The device's place in its row, as the body computes it. -/
def zOf (c : Dev nD) : BitVec 32 := Scalar.remsi (Scalar.divsi (Dev.word c) 1#32) 4#32

/-- Part 1 of the body: the device finds its place, and signals its first neighbour. -/
theorem part1_spec {Q : (Σ' (d0 : Dev nD) (v2 : BitVec 32) (v5 : BitVec 32) (v8 : BitVec 32) (v9 : Sems sig S_) (v29 : BitVec 32) (v30 : BitVec 32) (v31 : BitVec 1) (v32 : BitVec 1), BitVec 32) → sProp 𝕄} :
    iprop(records A B K ∗ owing c (O₀ c) ∗ sigRes c 0
        ∗ (∀ v2, ∀ v5, ∀ v29, ∀ v30, ∀ v31, ∀ v32, ∀ z, owing c (sends c + dueB 2 c + dueB 1 c) -∗ Q ⟨c, v2, v5, zOf c, SemArray.scalar (sig.barrier 0 rfl), v29, v30, v31, v32, z⟩)) ⊢
      WP c (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4) Q := by
  rw [k0_part1_eq_skeleton]
  unfold k0_part1_skel WP
  simp only [Prog.lift, Prog.bind_op, Prog.bind_ret, Prog.pure_eq_ret, semSignalWord, wp_deviceId]
  iintro ⟨#HR, HO, S, Hk⟩
  iapply (signal_step A B K c 0 (dev1_eq c) (by decide) (sends c + dueB 2 c + dueB 1 c))
  isplitr
  · iexact HR
  isplitl [HO]
  · iexact HO
  isplitl [S]
  · iexact S
  iintro HO
  unfold WP
  rw [wp_ret, show Scalar.remsi (Scalar.divsi (Dev.word c) 1#32) 4#32 = zOf c from rfl]
  imodintro
  iapply Hk
  iexact HO

/-- Part 2 of the body: the other two signals, and the first constants. -/
theorem part2_spec (v2 v5 v8 v29 v30 : BitVec 32) (v31 v32 : BitVec 1) (z : BitVec 32) {Q : (Σ' (v61 : BitVec 32) (v62 : IVec S64x1024 32) (c16_i32 : BitVec 32) (v64 : IVec S64x1024 32) (v67 : IVec S64x1024 32), IVec S64x1024 1) → sProp 𝕄} :
    iprop(records A B K ∗ owing c (sends c + dueB 2 c + dueB 1 c) ∗ sigRes c 1 ∗ sigRes c 2
        ∗ (owing c (sends c) -∗ Q ⟨Scalar.muli v8 64#32, iota .tc S64x1024 32 [1] iota_S64x1024_d1_w32, 16#32, k0_pay2, k0_pay3, k0_pay4⟩)) ⊢
      WP c (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v2 v5 v8 (SemArray.scalar (sig.barrier 0 rfl)) v29 v30 v31 v32 z) Q := by
  rw [k0_part2_eq_skeleton]
  unfold k0_part2_skel
  simp only [Prog.lift, Prog.bind_op, Prog.bind_ret, Prog.pure_eq_ret, semSignalWord]
  iintro ⟨#HR, HO, S1, S2, Hk⟩
  iapply (signal_step A B K c 1 (dev2_eq c) (by decide) (sends c + dueB 2 c))
  isplitr
  · iexact HR
  isplitl [HO]
  · iexact HO
  isplitl [S1]
  · iexact S1
  iintro HO
  iapply (signal_step A B K c 2 (dev3_eq c) (by decide) (sends c))
  isplitr
  · iexact HR
  isplitl [HO]
  · iexact HO
  isplitl [S2]
  · iexact S2
  iintro HO
  unfold WP
  rw [wp_ret]
  imodintro
  iapply Hk
  iexact HO

/-- Part 7 of the body: head 0. -/
theorem part7_spec {Q : (Σ' (v259 : FVec F S8x1024 .f32), FVec F S8x1024 .f32) → sProp 𝕄} :
    iprop(hHeld c x 0 ∗ (hHeld c x 1 -∗ Q ⟨score x 1, k0_pay20⟩)) ⊢
      WP c (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (wts x) (k0_pay18 (wts x)) (score x 0) k0_pay20) Q := by
  rw [part7_eq]
  exact headStep_spec c x 0 1

/-- Part 8 of the body: head 1. -/
theorem part8_spec {Q : (Σ' (v288 : FVec F S8x1024 .f32), FVec F S8x1024 .f32) → sProp 𝕄} :
    iprop(hHeld c x 1 ∗ (hHeld c x 2 -∗ Q ⟨score x 2, k0_pay20⟩)) ⊢
      WP c (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (wts x) (k0_pay18 (wts x)) (score x 1) k0_pay20) Q := by
  rw [part8_eq]
  exact headStep_spec c x 1 2

/-- Part 9 of the body: head 2. -/
theorem part9_spec {Q : (Σ' (v317 : FVec F S8x1024 .f32), FVec F S8x1024 .f32) → sProp 𝕄} :
    iprop(hHeld c x 2 ∗ (hHeld c x 3 -∗ Q ⟨score x 3, k0_pay20⟩)) ⊢
      WP c (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (wts x) (k0_pay18 (wts x)) (score x 2) k0_pay20) Q := by
  rw [part9_eq]
  exact headStep_spec c x 2 3

/-- Part 10 of the body: head 3. -/
theorem part10_spec {Q : (Σ' (v346 : FVec F S8x1024 .f32), FVec F S8x1024 .f32) → sProp 𝕄} :
    iprop(hHeld c x 3 ∗ (hHeld c x 4 -∗ Q ⟨score x 4, k0_pay20⟩)) ⊢
      WP c (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (wts x) (k0_pay18 (wts x)) (score x 3) k0_pay20) Q := by
  rw [part10_eq]
  exact headStep_spec c x 3 4

/-- Part 11 of the body: head 4. -/
theorem part11_spec {Q : (Σ' (v375 : FVec F S8x1024 .f32), FVec F S8x1024 .f32) → sProp 𝕄} :
    iprop(hHeld c x 4 ∗ (hHeld c x 5 -∗ Q ⟨score x 5, k0_pay20⟩)) ⊢
      WP c (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (wts x) (k0_pay18 (wts x)) (score x 4) k0_pay20) Q := by
  rw [part11_eq]
  exact headStep_spec c x 4 5

/-- Part 12 of the body: head 5. -/
theorem part12_spec {Q : (Σ' (v404 : FVec F S8x1024 .f32), FVec F S8x1024 .f32) → sProp 𝕄} :
    iprop(hHeld c x 5 ∗ (hHeld c x 6 -∗ Q ⟨score x 6, k0_pay20⟩)) ⊢
      WP c (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (wts x) (k0_pay18 (wts x)) (score x 5) k0_pay20) Q := by
  rw [part12_eq]
  exact headStep_spec c x 5 6

/-- Part 13 of the body: head 6. -/
theorem part13_spec {Q : (Σ' (v433 : FVec F S8x1024 .f32), FVec F S8x1024 .f32) → sProp 𝕄} :
    iprop(hHeld c x 6 ∗ (hHeld c x 7 -∗ Q ⟨score x 7, k0_pay20⟩)) ⊢
      WP c (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (wts x) (k0_pay18 (wts x)) (score x 6) k0_pay20) Q := by
  rw [part13_eq]
  exact headStep_spec c x 6 7

/-- Part 14 is head 7 and then the wait for the neighbours' signals. -/
theorem part14_eq (v8 : BitVec 32) (v9 : Sems sig S_) (w msk s neg) : k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 v8 v9 w msk s neg
    = (headCore 7 w msk s neg >>= fun _ => (semWaitWord v9.sem 3#32 >>= fun _ => pure (let v458 := Scalar.select (Scalar.cmpi .eq 4#32 0#32) 1#32 4#32; let v459 := Scalar.remsi (Scalar.addi v8 1#32) v458; (⟨v458, v459, Scalar.cmpi .ne v459 0#32, Scalar.xori (Scalar.cmpi .slt v459 0#32) (Scalar.cmpi .slt v458 0#32)⟩ : (Σ' (v458 : BitVec 32) (v459 : BitVec 32) (v460 : BitVec 1), BitVec 1))))) := rfl

/-- Part 14 of the body: head 7, then the neighbours' slots come in. -/
theorem part14_spec (v8 : BitVec 32) {Q : (Σ' (v458 : BitVec 32) (v459 : BitVec 32) (v460 : BitVec 1), BitVec 1) → sProp 𝕄} :
    iprop(records A B K ∗ levAts L lv ∗ cred (tallyAt (barCell c) () 3) ∗ owing c (sends c) ∗ atPos ER (barCell c) 0 ∅ 0 ∗ hHeld c x 7
        ∗ (∀ r, (owing c (sends c) ∗ atPos ER (barCell c) 1 ∅ 0 ∗ barPay (F := F) c 0 ∗ barPay (F := F) c 1 ∗ barPay (F := F) c 2 ∗ hHeld c x 8) -∗ Q r)) ⊢
      WP c (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 v8 (SemArray.scalar (sig.barrier 0 rfl)) (wts x) (k0_pay18 (wts x)) (score x 7) k0_pay20) Q := by
  rw [part14_eq]
  unfold WP
  rw [wp_bind]
  iintro ⟨#HR, #Hl, Hc, HO, Hat, H, Hk⟩
  iapply (headCore_spec c x 7)
  isplitl [H]
  · iexact H
  iintro H
  simp only [Prog.bind_op, Prog.bind_ret, Prog.pure_eq_ret, semWaitWord]
  iapply (barrier_step A B K c (by decide))
  isplitr
  · iexact HR
  isplitr
  · iexact Hl
  isplitl [Hc]
  · iexact Hc
  isplitl [HO]
  · iexact HO
  isplitl [Hat]
  · iexact Hat
  iintro ⟨HO, Hat, B0, B1, B2⟩
  unfold WP
  rw [wp_ret]
  imodintro
  iapply Hk
  isplitl [HO]
  · iexact HO
  isplitl [Hat]
  · iexact Hat
  isplitl [B0]
  · iexact B0
  isplitl [B1]
  · iexact B1
  isplitl [B2]
  · iexact B2
  iexact H

end Before

/-! ## Before and after -/

section Whole

variable (ins : Dev nD → Ins F) (K : GSem nD τ sig → ℕ) (c : Dev nD)

/-- One buffer's side of the copy `j`: the rights to pay, the positions of both cells, the credit of the receiving one. -/
def side (i : Fin 2) (j : Fin 3) (N : ℕ) : sProp 𝕄 :=
  iprop(dutyTok ER (sendCell i j c) 0 0 ∗ reached ER (sendCell i j c) 0 ∗ atPos ER (sendCell i j c) 0 ∅ 0
    ∗ dutyTok ER (recvCell i (rv j) (nb j c)) 0 0 ∗ reached ER (recvCell i j c) 0 ∗ atPos ER (recvCell i j c) 0 ∅ 0
    ∗ cred (tallyAt (recvCell i j c) () N))
/-- Everything a device holds for the distance `j`. -/
def opened (j : Fin 3) : sProp 𝕄 :=
  iprop(dutyTok ER (barCell (nb j c)) 0 j ∗ side (F := F) c 0 j NO ∗ side (F := F) c 1 j NS)
/-- The four counters of the distance `j`, back at zero. -/
def closed (j : Fin 3) : sProp 𝕄 :=
  iprop(semVal (sendCell 0 j c) 0 ∗ semVal (sendCell 1 j c) 0 ∗ semVal (recvCell 0 j c) 0 ∗ semVal (recvCell 1 j c) 0)

/-- What the body starts from. -/
def bodyPre : sProp 𝕄 :=
  iprop(records (AA ins) (BB ins) K ∗ levAts L lv ∗ owing c (O₀ c) ∗ cred (tallyAt (barCell c) () 3) ∗ atPos ER (barCell c) 0 ∅ 0
    ∗ (opened (F := F) c 0 ∗ opened (F := F) c 1 ∗ opened (F := F) c 2) ∗ held c (ins c) ∗ wHeld c (ins c) 0
    ∗ (∃ f, ((Memref.whole cc0_scratch0).view.loc (c : Thread nD τ) ↦{fullShare} f))
    ∗ (∃ f, ((Memref.whole cc0_scratch1).view.loc (c : Thread nD τ) ↦{fullShare} f)) ∗ outHeld c (around ins c) 0)
/-- What it ends with: the result's block written, every counter at zero, nothing owed. -/
def bodyPost : sProp 𝕄 :=
  iprop(semVal (barCell c) 0 ∗ (closed (F := F) c 0 ∗ closed (F := F) c 1 ∗ closed (F := F) c 2) ∗ owing c 0 ∗ held c (ins c) ∗ wHeld c (ins c) 8
    ∗ mHeld c (around ins c) ∗ outHeld c (around ins c) 8)

/-- What is left of a distance once its signal is prepared: the tokens of its two copies, and the four cells to wait on. -/
def rest (j : Fin 3) : sProp 𝕄 :=
  iprop((dutyTok ER (sendCell 0 j c) 0 0 ∗ reached ER (sendCell 0 j c) 0 ∗ dutyTok ER (recvCell 0 (rv j) (nb j c)) 0 0)
    ∗ (dutyTok ER (sendCell 1 j c) 0 0 ∗ reached ER (sendCell 1 j c) 0 ∗ dutyTok ER (recvCell 1 (rv j) (nb j c)) 0 0))

/-- A distance's holdings, sorted by where the body needs them. -/
theorem opened_split (j : Fin 3) :
    iprop(opened c j ∗ (∃ f, oW (F := F) c j.succ fullShare f) ∗ (∃ f, sW (F := F) c j.succ fullShare f)) ⊢
      (iprop(sigRes c j ∗ rest c j ∗ (atPos ER (sendCell 0 j c) 0 ∅ 0 ∗ atPos ER (sendCell 1 j c) 0 ∅ 0)
        ∗ cellGo (recvCell 0 j c) NO ∗ cellGo (recvCell 1 j c) NS) : sProp 𝕄) := by
  unfold opened side sigRes rest cellGo
  iintro ⟨⟨Hb, ⟨Ht, #Hr, Ha, Hn, #Hv, Hp, Hc⟩, ⟨Ht1, #Hr1, Ha1, Hn1, #Hv1, Hp1, Hc1⟩⟩, Ho, Hs⟩
  isplitl [Hb Ho Hs]
  · isplitl [Hb]
    · iexact Hb
    isplitl [Ho]
    · iexact Ho
    isplitl [Hs]
    · iexact Hs
    isplitr
    · iexact Hv
    iexact Hv1
  isplitl [Ht Hn Ht1 Hn1]
  · isplitl [Ht Hn]
    · isplitl [Ht]
      · iexact Ht
      isplitr
      · iexact Hr
      iexact Hn
    isplitl [Ht1]
    · iexact Ht1
    isplitr
    · iexact Hr1
    iexact Hn1
  isplitl [Ha Ha1]
  · isplitl [Ha]
    · iexact Ha
    iexact Ha1
  isplitl [Hp Hc]
  · isplitl [Hc]
    · iexact Hc
    iexact Hp
  isplitl [Hc1]
  · iexact Hc1
  iexact Hp1

/-- With the neighbour's slots and its own third of slot 0, both copies of a distance are ready. -/
theorem copies_ready (j u : Fin 3) (hu : u = rv j) :
    iprop(rest c j ∗ barPay c u ∗ oW c 0 (sh j) (AA ins c) ∗ sW c 0 (sh j) (BB ins c)) ⊢
      (iprop(oGo (AA ins) c j ∗ sGo (BB ins) c j) : sProp 𝕄) := by
  subst hu
  unfold rest barPay oGo sGo copyToks
  rw [rv_rv]
  iintro ⟨⟨⟨Ht, Hr, Hn⟩, ⟨Ht1, Hr1, Hn1⟩⟩, ⟨Ho, Hs, Hv, Hv1⟩, HA, HB⟩
  isplitl [Ht Hr Hn Ho Hv HA]
  · isplitl [HA]
    · iexact HA
    isplitl [Ho]
    · iexact Ho
    isplitl [Ht]
    · iexact Ht
    isplitl [Hr]
    · iexact Hr
    isplitl [Hn]
    · iexact Hn
    iexact Hv
  isplitl [HB]
  · iexact HB
  isplitl [Hs]
  · iexact Hs
  isplitl [Ht1]
  · iexact Ht1
  isplitl [Hr1]
  · iexact Hr1
  isplitl [Hn1]
  · iexact Hn1
  iexact Hv1

/-- A cell whose one round is over is closed: its counter is back at zero. -/
theorem close_cell {g : GSem nD τ sig} (hg : g ∈ allCells) :
    iprop(records (AA ins) (BB ins) K ∗ atPos ER g 1 ∅ 0) ⊢ (|={Set.univ}=> semVal g 0 : sProp 𝕄) := by
  iintro ⟨HR, Ha⟩
  iapply (Rounds.cell_close ER (rd (AA ins) (BB ins)) (Set.mem_univ (K g)) id (duties_later (AA ins) (BB ins) g))
  isplitl [HR]
  · iapply (inv_at (AA ins) (BB ins) K hg); iexact HR
  iexact Ha

/-- The four cells of one distance are closed. -/
theorem close_all (j : Fin 3) :
    iprop(records (AA ins) (BB ins) K ∗ atPos ER (sendCell 0 j c) 1 ∅ 0 ∗ atPos ER (sendCell 1 j c) 1 ∅ 0
        ∗ atPos ER (recvCell 0 j c) 1 ∅ 0 ∗ atPos ER (recvCell 1 j c) 1 ∅ 0) ⊢ (|={Set.univ}=> closed c j : sProp 𝕄) := by
  unfold closed
  iintro ⟨#HR, H0, H1, H2, H3⟩
  imod (close_cell ins K (send_mem 0 j c)) $$ [H0] with H0
  · isplitr
    · iexact HR
    iexact H0
  imod (close_cell ins K (send_mem 1 j c)) $$ [H1] with H1
  · isplitr
    · iexact HR
    iexact H1
  imod (close_cell ins K (recv_mem 0 j c)) $$ [H2] with H2
  · isplitr
    · iexact HR
    iexact H2
  imod (close_cell ins K (recv_mem 1 j c)) $$ [H3] with H3
  · isplitr
    · iexact HR
    iexact H3
  imodintro
  isplitl [H0]
  · iexact H0
  isplitl [H1]
  · iexact H1
  isplitl [H2]
  · iexact H2
  iexact H3

set_option maxHeartbeats 1600000 in
/-- The body on one device, from start to end. -/
theorem body_run (hb : (ins c).base = Scalar.muli (zOf c) 64#32) {Q : PUnit → sProp 𝕄} :
    iprop(bodyPre ins K c ∗ (bodyPost ins c -∗ Q ⟨⟩)) ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4) Q := by
  rw [cc0_body_eq_skeleton]
  unfold cc0_body_skel bodyPre
  iintro ⟨⟨#HR, #Hl, HO, Hcb, Hab, ⟨T0, T1, T2⟩, H, W, ⟨%fo, So⟩, ⟨%fs, Ss⟩, Out⟩, Hk⟩
  ihave So := (Entails.of_eq (o_slots c fo)) $$ So
  ihave Ss := (Entails.of_eq (s_slots c fs)) $$ Ss
  icases So with ⟨o0, o1, o2, o3⟩
  icases Ss with ⟨s0, s1, s2, s3⟩
  ihave T0 := (opened_split c 0) $$ [T0 o1 s1]
  · isplitl [T0]
    · iexact T0
    isplitl [o1]
    · iexists fo; iexact o1
    iexists fs; iexact s1
  icases T0 with ⟨S0, R0, ⟨P00, P10⟩, V00, V10⟩
  ihave T1 := (opened_split c 1) $$ [T1 o2 s2]
  · isplitl [T1]
    · iexact T1
    isplitl [o2]
    · iexists fo; iexact o2
    iexists fs; iexact s2
  icases T1 with ⟨S1, R1, ⟨P01, P11⟩, V01, V11⟩
  ihave T2 := (opened_split c 2) $$ [T2 o3 s3]
  · isplitl [T2]
    · iexact T2
    isplitl [o3]
    · iexists fo; iexact o3
    iexists fs; iexact s3
  icases T2 with ⟨S2, R2, ⟨P02, P12⟩, V02, V12⟩
  -- the signals
  unfold WP
  rw [wp_bind]
  iapply (part1_spec (AA ins) (BB ins) K c)
  isplitr
  · iexact HR
  isplitl [HO]
  · iexact HO
  isplitl [S0]
  · iexact S0
  iintro %v2 %v5 %v29 %v30 %v31 %v32 %z HO
  try dsimp only
  rw [wp_bind]
  iapply (part2_spec (AA ins) (BB ins) K c)
  isplitr
  · iexact HR
  isplitl [HO]
  · iexact HO
  isplitl [S1]
  · iexact S1
  isplitl [S2]
  · iexact S2
  iintro HO
  try dsimp only
  rw [← hb]
  rw [wp_bind]
  iapply (part3_spec c (ins c))
  isplitl [H]
  · iexact H
  isplitl [W]
  · iexact W
  iintro ⟨H, W⟩
  try dsimp only
  rw [wp_bind]
  iapply (part4_spec c (ins c))
  isplitl [H]
  · iexact H
  isplitl [W]
  · iexact W
  iintro ⟨H, W⟩
  try dsimp only
  rw [wp_bind]
  iapply (part5_spec c (ins c))
  isplitl [H]
  · iexact H
  isplitl [W]
  · iexact W
  iintro ⟨H, W⟩
  try dsimp only
  rw [wp_bind]
  iapply (part6_spec c (ins c))
  isplitl [H]
  · iexact H
  isplitl [W]
  · iexact W
  iintro ⟨H, W⟩
  try dsimp only
  -- the heads
  ihave Hh : hHeld c (ins c) 0 $$ [H o0 s0]
  · unfold hHeld oHeld sHeld
    isplitl [H]
    · iexact H
    isplitl [o0]
    · iexists fo
      isplitl [o0]
      · iexact o0
      ipureintro
      intro i hi
      exact absurd hi.2 (Nat.not_lt_zero _)
    iexists fs
    isplitl [s0]
    · iexact s0
    ipureintro
    intro i hi
    have := hi.2
    split at this <;> exact absurd this (Nat.not_lt_zero _)
  rw [wp_bind]
  iapply (part7_spec c (ins c))
  isplitl [Hh]
  · iexact Hh
  iintro Hh
  try dsimp only
  rw [wp_bind]
  iapply (part8_spec c (ins c))
  isplitl [Hh]
  · iexact Hh
  iintro Hh
  try dsimp only
  rw [wp_bind]
  iapply (part9_spec c (ins c))
  isplitl [Hh]
  · iexact Hh
  iintro Hh
  try dsimp only
  rw [wp_bind]
  iapply (part10_spec c (ins c))
  isplitl [Hh]
  · iexact Hh
  iintro Hh
  try dsimp only
  rw [wp_bind]
  iapply (part11_spec c (ins c))
  isplitl [Hh]
  · iexact Hh
  iintro Hh
  try dsimp only
  rw [wp_bind]
  iapply (part12_spec c (ins c))
  isplitl [Hh]
  · iexact Hh
  iintro Hh
  try dsimp only
  rw [wp_bind]
  iapply (part13_spec c (ins c))
  isplitl [Hh]
  · iexact Hh
  iintro Hh
  try dsimp only
  rw [wp_bind]
  iapply (part14_spec (AA ins) (BB ins) K c (ins c))
  isplitr
  · iexact HR
  isplitr
  · iexact Hl
  isplitl [Hcb]
  · iexact Hcb
  isplitl [HO]
  · iexact HO
  isplitl [Hab]
  · iexact Hab
  isplitl [Hh]
  · iexact Hh
  iintro %r14 ⟨HO, Hab, B0, B1, B2, Hh⟩
  -- the copies
  unfold hHeld
  icases Hh with ⟨H, Oh, Sh⟩
  ihave Oh := (o_done ins c) $$ Oh
  ihave Sh := (s_done ins c) $$ Sh
  icases Oh with ⟨oh0, oh1, oh2⟩
  icases Sh with ⟨sh0, sh1, sh2⟩
  ihave G0 := (copies_ready ins c 0 2 rfl) $$ [R0 B2 oh0 sh0]
  · isplitl [R0]
    · iexact R0
    isplitl [B2]
    · iexact B2
    isplitl [oh0]
    · iexact oh0
    iexact sh0
  icases G0 with ⟨Go0, Gs0⟩
  ihave G1 := (copies_ready ins c 1 1 rfl) $$ [R1 B1 oh1 sh1]
  · isplitl [R1]
    · iexact R1
    isplitl [B1]
    · iexact B1
    isplitl [oh1]
    · iexact oh1
    iexact sh1
  icases G1 with ⟨Go1, Gs1⟩
  ihave G2 := (copies_ready ins c 2 0 rfl) $$ [R2 B0 oh2 sh2]
  · isplitl [R2]
    · iexact R2
    isplitl [B0]
    · iexact B0
    isplitl [oh2]
    · iexact oh2
    iexact sh2
  icases G2 with ⟨Go2, Gs2⟩
  rw [wp_bind]
  iapply (part15_spec (AA ins) (BB ins) K c (landing ins))
  isplitr
  · iexact HR
  isplitl [HO]
  · iexact HO
  isplitl [Go0]
  · iexact Go0
  isplitl [P00]
  · iexact P00
  iintro %r15 ⟨HO, Co0⟩
  rw [wp_bind]
  iapply (part16_spec (AA ins) (BB ins) K c (landing ins))
  isplitr
  · iexact HR
  isplitl [HO]
  · iexact HO
  isplitl [Gs0]
  · iexact Gs0
  isplitl [P10]
  · iexact P10
  isplitl [Go1]
  · iexact Go1
  isplitl [P01]
  · iexact P01
  iintro %r16 ⟨HO, Cs0, Co1⟩
  rw [wp_bind]
  iapply (part17_spec (AA ins) (BB ins) K c (landing ins))
  isplitr
  · iexact HR
  isplitl [HO]
  · iexact HO
  isplitl [Gs1]
  · iexact Gs1
  isplitl [P11]
  · iexact P11
  iintro %r17 ⟨HO, Cs1⟩
  rw [wp_bind]
  iapply (part18_spec (AA ins) (BB ins) K c (landing ins))
  isplitr
  · iexact HR
  isplitl [HO]
  · iexact HO
  isplitl [Go2]
  · iexact Go2
  isplitl [P02]
  · iexact P02
  isplitl [Gs2]
  · iexact Gs2
  isplitl [P12]
  · iexact P12
  iintro %r18 ⟨HO, Co2, Cs2⟩
  -- the waits
  rw [wp_bind]
  iapply (part19_spec (AA ins) (BB ins) K c)
  isplitr
  · iexact HR
  isplitl [HO]
  · iexact HO
  isplitl [V02]
  · iexact V02
  isplitl [V12]
  · iexact V12
  iintro ⟨HO, Dro2, Drs2⟩
  rw [wp_bind]
  iapply (part20_spec (AA ins) (BB ins) K c)
  isplitr
  · iexact HR
  isplitl [HO]
  · iexact HO
  isplitl [V01]
  · iexact V01
  isplitl [V11]
  · iexact V11
  iintro ⟨HO, Dro1, Drs1⟩
  rw [wp_bind]
  iapply (part21_spec (AA ins) (BB ins) K c)
  isplitr
  · iexact HR
  isplitl [HO]
  · iexact HO
  isplitl [V00]
  · iexact V00
  isplitl [V10]
  · iexact V10
  isplitl [Co0]
  · iexact Co0
  iintro ⟨HO, Dro0, Drs0, Dso0⟩
  rw [wp_bind]
  iapply (part22_spec (AA ins) (BB ins) K c)
  isplitr
  · iexact HR
  isplitl [HO]
  · iexact HO
  isplitl [Cs0]
  · iexact Cs0
  isplitl [Co1]
  · iexact Co1
  isplitl [Cs1]
  · iexact Cs1
  iintro ⟨HO, Dss0, Dso1, Dss1⟩
  unfold cellDone
  icases Dro2 with ⟨ADro2, Dro2⟩
  icases Drs2 with ⟨ADrs2, Drs2⟩
  icases Dro1 with ⟨ADro1, Dro1⟩
  icases Drs1 with ⟨ADrs1, Drs1⟩
  icases Dro0 with ⟨ADro0, Dro0⟩
  icases Drs0 with ⟨ADrs0, Drs0⟩
  icases Dso0 with ⟨ADso0, Dso0⟩
  icases Dss0 with ⟨ADss0, Dss0⟩
  icases Dso1 with ⟨ADso1, Dso1⟩
  icases Dss1 with ⟨ADss1, Dss1⟩
  rw [wp_bind]
  iapply (part23_spec K c ins)
  isplitr
  · iexact HR
  isplitl [HO]
  · iexact HO
  isplitl [Co2]
  · iexact Co2
  isplitl [Cs2]
  · iexact Cs2
  isplitl [Dso0 Dso1 Dro0 Dro1 Dro2 Dss0 Dss1 Drs0 Drs1 Drs2]
  · unfold thirds
    isplitl [Dso0 Dso1 Dro0 Dro1 Dro2]
    · isplitl [Dso0]
      · iexact Dso0
      isplitl [Dso1]
      · iexact Dso1
      isplitl [Dro0]
      · iexact Dro0
      isplitl [Dro1]
      · iexact Dro1
      iexact Dro2
    isplitl [Dss0]
    · iexact Dss0
    isplitl [Dss1]
    · iexact Dss1
    isplitl [Drs0]
    · iexact Drs0
    isplitl [Drs1]
    · iexact Drs1
    iexact Drs2
  iintro ⟨HO, ADso2, ADss2, M⟩
  try dsimp only
  -- the merge
  rw [wp_bind]
  iapply (part24_spec c (around ins c))
  isplitl [M]
  · iexact M
  isplitl [Out]
  · iexact Out
  iintro ⟨M, Out⟩
  try dsimp only
  rw [wp_bind]
  iapply (part25_spec c (around ins c))
  isplitl [M]
  · iexact M
  isplitl [Out]
  · iexact Out
  iintro ⟨M, Out⟩
  try dsimp only
  rw [wp_bind]
  iapply (part26_spec c (around ins c))
  isplitl [M]
  · iexact M
  isplitl [Out]
  · iexact Out
  iintro ⟨M, Out⟩
  try dsimp only
  rw [wp_bind]
  iapply (part27_spec c (around ins c))
  isplitl [M]
  · iexact M
  isplitl [Out]
  · iexact Out
  iintro ⟨M, Out⟩
  try dsimp only
  rw [wp_bind]
  iapply (part28_spec c (around ins c))
  isplitl [M]
  · iexact M
  isplitl [Out]
  · iexact Out
  iintro ⟨M, Out⟩
  try dsimp only
  simp only [Prog.lift, Prog.bind_op, Prog.bind_ret, Prog.pure_eq_ret]
  iapply (wp_outld c (around ins c) 7 7) $$ Out
  iintro Out
  iapply (wp_outst c (around ins c) 7 (n := 7) (n' := 8) rfl rfl rfl) $$ Out
  iintro Out
  -- every counter back at zero
  unfold WP
  rw [wp_ret]
  imod (close_cell ins K (bar_mem c)) $$ [Hab] with Hb
  · isplitr
    · iexact HR
    iexact Hab
  imod (close_all ins K c 0) $$ [ADso0 ADss0 ADro0 ADrs0] with Z0
  · isplitr
    · iexact HR
    isplitl [ADso0]
    · iexact ADso0
    isplitl [ADss0]
    · iexact ADss0
    isplitl [ADro0]
    · iexact ADro0
    iexact ADrs0
  imod (close_all ins K c 1) $$ [ADso1 ADss1 ADro1 ADrs1] with Z1
  · isplitr
    · iexact HR
    isplitl [ADso1]
    · iexact ADso1
    isplitl [ADss1]
    · iexact ADss1
    isplitl [ADro1]
    · iexact ADro1
    iexact ADrs1
  imod (close_all ins K c 2) $$ [ADso2 ADss2 ADro2 ADrs2] with Z2
  · isplitr
    · iexact HR
    isplitl [ADso2]
    · iexact ADso2
    isplitl [ADss2]
    · iexact ADss2
    isplitl [ADro2]
    · iexact ADro2
    iexact ADrs2
  imodintro
  iapply Hk
  unfold bodyPost
  isplitl [Hb]
  · iexact Hb
  isplitl [Z0 Z1 Z2]
  · isplitl [Z0]
    · iexact Z0
    isplitl [Z1]
    · iexact Z1
    iexact Z2
  isplitl [HO]
  · iexact HO
  isplitl [H]
  · iexact H
  isplitl [W]
  · iexact W
  isplitl [M]
  · iexact M
  iexact Out

end Whole

end Cert.PagedMerge

end
-- ==== Proof.Deal.lean ====
/-
  Dealing out the protocol: what every device holds at the launch, how its cells are opened when
  the kernel starts, and that what the devices owe is what their cells expect.
-/
module

public import proofs.«01_k».proof.Proof.Body

@[expose] public section

set_option maxRecDepth 16384

noncomputable section

namespace Cert.PagedMerge

open Idealize.ShloMosaic Idealize.ShloMosaic.TcCoe Idealize.ShloMosaic.Rounds
open Idealize.SL Idealize.SL.RA Idealize.SL.BI Idealize.SL.ProofMode
open scoped Idealize.SL.BI
open Idealize.SL.BI.BIBase Idealize.SL.BI.Laws Idealize.SL.Sem
open Cert.KernelIdeal Cert.KernelIdeal.Gen

variable {F : FTy → Type} [FloatOps F]

local notation "𝕄" => MT nD τ sig Unit (Elt F) ℕ UU ℕ

/-! ## The cells' counters, in the order they are named -/

/-- One resource for each of the four cells of a distance. -/
def four (Φ : GSem nD τ sig → sProp 𝕄) (c : Dev nD) (j : Fin 3) : sProp 𝕄 :=
  iprop(Φ (sendCell 0 j c) ∗ Φ (sendCell 1 j c) ∗ Φ (recvCell 0 j c) ∗ Φ (recvCell 1 j c))

/-- The twelve cells of a device, distance by distance. -/
theorem twelve_eq (Φ : GSem nD τ sig → sProp 𝕄) (c : Dev nD) :
    bigSep Finset.univ (fun k : Fin 12 => Φ ((c : Thread nD τ), osem k)) ⊣⊢ iprop(four Φ c 0 ∗ four Φ c 1 ∗ four Φ c 2) := by
  rw [bigSep_univ_eq_bigSepL [(0 : Fin 12), 3, 6, 9, 1, 4, 7, 10, 2, 5, 8, 11] (by decide) (by decide)]
  unfold four
  constructor
  · show iprop(Φ (sendCell 0 0 c) ∗ Φ (sendCell 1 0 c) ∗ Φ (recvCell 0 0 c) ∗ Φ (recvCell 1 0 c) ∗ Φ (sendCell 0 1 c) ∗ Φ (sendCell 1 1 c) ∗ Φ (recvCell 0 1 c) ∗ Φ (recvCell 1 1 c) ∗ Φ (sendCell 0 2 c) ∗ Φ (sendCell 1 2 c) ∗ Φ (recvCell 0 2 c) ∗ Φ (recvCell 1 2 c)) ⊢ _
    iintro ⟨H0, H1, H2, H3, H4, H5, H6, H7, H8, H9, H10, H11⟩
    isplitl [H0 H1 H2 H3]
    · isplitl [H0]
      · iexact H0
      isplitl [H1]
      · iexact H1
      isplitl [H2]
      · iexact H2
      iexact H3
    isplitl [H4 H5 H6 H7]
    · isplitl [H4]
      · iexact H4
      isplitl [H5]
      · iexact H5
      isplitl [H6]
      · iexact H6
      iexact H7
    isplitl [H8]
    · iexact H8
    isplitl [H9]
    · iexact H9
    isplitl [H10]
    · iexact H10
    iexact H11
  · show _ ⊢ iprop(Φ (sendCell 0 0 c) ∗ Φ (sendCell 1 0 c) ∗ Φ (recvCell 0 0 c) ∗ Φ (recvCell 1 0 c) ∗ Φ (sendCell 0 1 c) ∗ Φ (sendCell 1 1 c) ∗ Φ (recvCell 0 1 c) ∗ Φ (recvCell 1 1 c) ∗ Φ (sendCell 0 2 c) ∗ Φ (sendCell 1 2 c) ∗ Φ (recvCell 0 2 c) ∗ Φ (recvCell 1 2 c))
    iintro ⟨⟨H0, H1, H2, H3⟩, ⟨H4, H5, H6, H7⟩, H8, H9, H10, H11⟩
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    iexact H11

/-- A resource for each distance. -/
theorem three_eq (Φ : Fin 3 → sProp 𝕄) : bigSep Finset.univ Φ = iprop(Φ 0 ∗ Φ 1 ∗ Φ 2) :=
  bigSep_univ_eq_bigSepL [(0 : Fin 3), 1, 2] (by decide) (by decide) Φ

/-! ## Opening the cells -/

section Opening

variable (A : Dev nD → OBuf F) (B : Dev nD → SBuf F) (K : GSem nD τ sig → ℕ) (c : Dev nD)

/-- The rights a device pays with at the distance `j`. -/
def payToks (c : Dev nD) (j : Fin 3) : sProp 𝕄 :=
  iprop(dutyTok ER (barCell (nb j c)) 0 j ∗ dutyTok ER (sendCell 0 j c) 0 0 ∗ dutyTok ER (sendCell 1 j c) 0 0
    ∗ dutyTok ER (recvCell 0 (rv j) (nb j c)) 0 0 ∗ dutyTok ER (recvCell 1 (rv j) (nb j c)) 0 0)
/-- The credit of the two cells of a distance that wait for other devices. -/
def recvCreds (c : Dev nD) (j : Fin 3) : sProp 𝕄 :=
  iprop(cred (tallyAt (recvCell 0 j c) () NO) ∗ cred (tallyAt (recvCell 1 j c) () NS))

/-- A dormant cell is opened with its counter. -/
theorem open_cell {g : GSem nD τ sig} (hg : g ∈ allCells) :
    iprop(records A B K ∗ openTok ER g ∗ semVal g 0) ⊢ (|={Set.univ}=> (atPos ER g 0 ∅ 0 ∗ reached ER g 0) : sProp 𝕄) := by
  iintro ⟨HR, Ho, Hv⟩
  iapply (Rounds.cell_open ER (rd A B) (Set.mem_univ (K g)))
  isplitl [HR]
  · iapply (inv_at A B K hg); iexact HR
  isplitl [Ho]
  · iexact Ho
  iexact Hv

/-- The four cells of a distance are opened. -/
theorem open_four (j : Fin 3) :
    iprop(records A B K ∗ four (F := F) (fun g => openTok ER g) c j ∗ four (F := F) (fun g => semVal g 0) c j ∗ payToks c j ∗ recvCreds c j)
      ⊢ (|={Set.univ}=> opened c j : sProp 𝕄) := by
  unfold four payToks recvCreds opened side
  iintro ⟨#HR, ⟨O0, O1, O2, O3⟩, ⟨S0, S1, S2, S3⟩, ⟨Tb, T0, T1, T2, T3⟩, C0, C1⟩
  imod (open_cell A B K (send_mem 0 j c)) $$ [O0 S0] with ⟨A0, R0⟩
  · isplitr
    · iexact HR
    isplitl [O0]
    · iexact O0
    iexact S0
  imod (open_cell A B K (send_mem 1 j c)) $$ [O1 S1] with ⟨A1, R1⟩
  · isplitr
    · iexact HR
    isplitl [O1]
    · iexact O1
    iexact S1
  imod (open_cell A B K (recv_mem 0 j c)) $$ [O2 S2] with ⟨A2, R2⟩
  · isplitr
    · iexact HR
    isplitl [O2]
    · iexact O2
    iexact S2
  imod (open_cell A B K (recv_mem 1 j c)) $$ [O3 S3] with ⟨A3, R3⟩
  · isplitr
    · iexact HR
    isplitl [O3]
    · iexact O3
    iexact S3
  imodintro
  isplitl [Tb]
  · iexact Tb
  isplitl [T0 R0 A0 T2 R2 A2 C0]
  · isplitl [T0]
    · iexact T0
    isplitl [R0]
    · iexact R0
    isplitl [A0]
    · iexact A0
    isplitl [T2]
    · iexact T2
    isplitl [R2]
    · iexact R2
    isplitl [A2]
    · iexact A2
    iexact C0
  isplitl [T1]
  · iexact T1
  isplitl [R1]
  · iexact R1
  isplitl [A1]
  · iexact A1
  isplitl [T3]
  · iexact T3
  isplitl [R3]
  · iexact R3
  isplitl [A3]
  · iexact A3
  iexact C1

end Opening

/-! ## The tokens -/

/-- The cell and the duty of each of the five tokens of a distance, on the device that waits on the cell. -/
abbrev tsem : Fin 3 × Fin 5 → SemLoc sig
  | (_, 0) => .reg barrier0
  | (j, 1) => .dma (sendS 0 j)
  | (j, 2) => .dma (sendS 1 j)
  | (j, 3) => .dma (recvS 0 (rv j))
  | (j, 4) => .dma (recvS 1 (rv j))
/-- The duty of each of them in its cell. -/
abbrev tdut : Fin 3 × Fin 5 → Fin 3
  | (j, 0) => j
  | (_, _) => 0
/-- No two tokens are for the same duty of the same cell. -/
theorem tok_inj : Function.Injective (fun k : Fin 3 × Fin 5 => (tsem k, tdut k)) := by decide
/-- Every duty of every cell. -/
def allToks : Finset (GSem nD τ sig × ℕ × Fin 3) :=
  Finset.univ.map ⟨fun ck : Dev nD × (Fin 3 × Fin 5) => (((ck.1 : Thread nD τ), tsem ck.2), 0, tdut ck.2), fun _ _ h =>
    Prod.ext (congrArg (fun t : GSem nD τ sig × ℕ × Fin 3 => t.1.1.1) h)
      (tok_inj (Prod.ext (congrArg (fun t : GSem nD τ sig × ℕ × Fin 3 => t.1.2) h) (congrArg (fun t : GSem nD τ sig × ℕ × Fin 3 => t.2.2) h)))⟩

/-- The step of `j + 1` places round the row, and its inverse. -/
def stepE (j : Fin 3) : Dev nD ≃ Dev nD := ⟨nb j, nb (rv j), nb_rv j, nb_nb_rv j⟩

/-- The tokens of a distance, by the device whose cells they belong to. -/
def ownToks (j : Fin 3) (c : Dev nD) : sProp 𝕄 :=
  iprop(dutyTok ER (barCell c) 0 j ∗ dutyTok ER (sendCell 0 j c) 0 0 ∗ dutyTok ER (sendCell 1 j c) 0 0
    ∗ dutyTok ER (recvCell 0 (rv j) c) 0 0 ∗ dutyTok ER (recvCell 1 (rv j) c) 0 0)

/-- All tokens, sorted by the device that waits on the cell and by distance. -/
theorem toks_eq : bigSep allToks (fun x => (dutyTok ER x.1 x.2.1 x.2.2 : sProp 𝕄))
    = bigSep Finset.univ fun c : Dev nD => iprop(ownToks (F := F) 0 c ∗ ownToks (F := F) 1 c ∗ ownToks (F := F) 2 c) := by
  unfold allToks
  rw [bigSep_map, bigSep_univ_prod]
  refine bigSep_congr fun c _ => ?_
  rw [bigSep_univ_prod, three_eq]
  unfold ownToks
  rw [bigSep_univ_eq_bigSepL [(0 : Fin 5), 1, 2, 3, 4] (by decide) (by decide), bigSep_univ_eq_bigSepL [(0 : Fin 5), 1, 2, 3, 4] (by decide) (by decide),
    bigSep_univ_eq_bigSepL [(0 : Fin 5), 1, 2, 3, 4] (by decide) (by decide)]
  rfl

/-- The tokens of one distance, handed to the devices that pay with them. -/
theorem toks_step (j : Fin 3) :
    (bigSep Finset.univ fun c : Dev nD => (ownToks (F := F) j c : sProp 𝕄)) ⊢ bigSep Finset.univ fun c : Dev nD => payToks c j := by
  unfold ownToks payToks
  rw [bigSep_sep', bigSep_sep', bigSep_sep', bigSep_sep', bigSep_sep', bigSep_sep', bigSep_sep', bigSep_sep',
    bigSep_univ_equiv (stepE j) (fun c : Dev nD => (dutyTok ER (barCell c) 0 j : sProp 𝕄)),
    bigSep_univ_equiv (stepE j) (fun c : Dev nD => (dutyTok ER (recvCell 0 (rv j) c) 0 0 : sProp 𝕄)),
    bigSep_univ_equiv (stepE j) (fun c : Dev nD => (dutyTok ER (recvCell 1 (rv j) c) 0 0 : sProp 𝕄))]
  exact BI.Entails.refl _

/-! ## What is owed is what is expected -/

/-- One unit of `n` sent by every device the same number of places round the row: each cell gets it once. -/
theorem owed_one (j : Fin 3) (s s' : SemLoc sig) (n : ℕ) (c : Dev nD) :
    (∑ d : Dev nD, (tallyAt (((nb j d : Dev nD) : Thread nD τ), s) () n : CellTallies nD τ sig Unit) ((c : Thread nD τ), s') ()) = if s' = s then n else 0 := by
  rw [← Equiv.sum_comp (stepE j).symm]
  have h : ∀ d : Dev nD, nb j ((stepE j).symm d) = d := (stepE j).apply_symm_apply
  simp only [h]
  rw [Finset.sum_congr rfl fun d _ => tallyAt_apply (((d : Dev nD) : Thread nD τ), s) () n ((c : Thread nD τ), s') ()]
  by_cases hs : s' = s
  · subst hs
    rw [if_pos rfl]
    have hc : ∀ d : Dev nD, ((((c : Thread nD τ), s') : GSem nD τ sig) = ((d : Thread nD τ), s') ∧ () = ()) ↔ c = d :=
      fun d => ⟨fun h => congrArg (fun g : GSem nD τ sig => g.1.1) h.1, fun h => by subst h; exact ⟨rfl, rfl⟩⟩
    rw [Finset.sum_congr rfl fun d _ => if_congr (hc d) rfl rfl, Finset.sum_ite_eq, if_pos (Finset.mem_univ c)]
  · rw [if_neg hs]
    exact Finset.sum_eq_zero fun d _ => if_neg fun h => hs (congrArg Prod.snd h.1)

/-- What all devices together owe to a cell of `c`. -/
theorem owed_sum (s : SemLoc sig) (c : Dev nD) :
    (∑ d : Dev nD, O₀ d ((c : Thread nD τ), s) ()) =
      (if s = .dma (recvS 1 (rv 2)) then NS else 0) + (if s = .dma (recvS 0 (rv 2)) then NO else 0)
      + (if s = .dma (recvS 1 (rv 1)) then NS else 0) + (if s = .dma (recvS 0 (rv 1)) then NO else 0)
      + (if s = .dma (recvS 1 (rv 0)) then NS else 0) + (if s = .dma (recvS 0 (rv 0)) then NO else 0)
      + (if s = .reg barrier0 then 1 else 0) + (if s = .reg barrier0 then 1 else 0) + (if s = .reg barrier0 then 1 else 0) := by
  simp only [O₀, sends, dueO, dueS, dueB, Pi.add_apply, Finsupp.add_apply, Finset.sum_add_distrib, owed_one, Pi.zero_apply, Finsupp.zero_apply,
    Finset.sum_const_zero, Nat.zero_add]

/-- The launch credit of a cell of `c`. -/
theorem launch_cell (s : SemLoc sig) (c : Dev nD) (n : ℕ) (h : (∑ d : Dev nD, O₀ d ((c : Thread nD τ), s) ()) = n) :
    tallyOn ((c : Thread nD τ), s) (launchCredit (Pipeline.owing O₀) 0 ((c : Thread nD τ), s)) = (tallyAt ((c : Thread nD τ), s) () n : CellTallies nD τ sig Unit) := by
  unfold tallyAt
  refine congrArg _ (Finsupp.ext fun u => ?_)
  cases u
  rw [Pipeline.launchCredit_owing, Finsupp.single_eq_same, h]

/-- A barrier cell is owed three units at the launch. -/
theorem launch_bar (c : Dev nD) : (∑ d : Dev nD, O₀ d (barCell c) ()) = 3 := by
  rw [owed_sum]
  rfl
/-- A receive cell of the weighted sums is owed one whole slot. -/
theorem launch_recv0 (j : Fin 3) (c : Dev nD) : (∑ d : Dev nD, O₀ d (recvCell 0 j c) ()) = NO := by
  rw [owed_sum]
  fin_cases j <;> rfl
/-- A receive cell of the maxima and denominators is owed one whole slot. -/
theorem launch_recv1 (j : Fin 3) (c : Dev nD) : (∑ d : Dev nD, O₀ d (recvCell 1 j c) ()) = NS := by
  rw [owed_sum]
  fin_cases j <;> rfl

/-- The seven semaphores other devices pay to. -/
abbrev paid : Fin 7 → SemLoc sig
  | 0 => .reg barrier0
  | 1 => .dma (recvS 0 0) | 2 => .dma (recvS 1 0)
  | 3 => .dma (recvS 0 1) | 4 => .dma (recvS 1 1)
  | 5 => .dma (recvS 0 2) | 6 => .dma (recvS 1 2)
/-- They are seven different semaphores. -/
theorem paid_inj : Function.Injective paid := by decide

/-- The launch credit of a device. -/
theorem creds (c : Dev nD) :
    (Pipeline.launchCred O₀ c : sProp 𝕄) ⊢ iprop(cred (tallyAt (barCell c) () 3) ∗ recvCreds c 0 ∗ recvCreds c 1 ∗ recvCreds c 2) := by
  unfold Pipeline.launchCred
  refine (bigSep_subset (Finset.subset_univ (Finset.univ.map ⟨paid, paid_inj⟩))).trans ?_
  rw [bigSep_map, bigSep_univ_eq_bigSepL [(0 : Fin 7), 1, 2, 3, 4, 5, 6] (by decide) (by decide)]
  unfold recvCreds
  rw [← launch_cell _ c _ (launch_bar c)]
  rw [← launch_cell _ c _ (launch_recv0 0 c)]
  rw [← launch_cell _ c _ (launch_recv1 0 c)]
  rw [← launch_cell _ c _ (launch_recv0 1 c)]
  rw [← launch_cell _ c _ (launch_recv1 1 c)]
  rw [← launch_cell _ c _ (launch_recv0 2 c)]
  rw [← launch_cell _ c _ (launch_recv1 2 c)]
  show iprop(cred (tallyOn ((c : Thread nD τ), SemLoc.reg barrier0) (launchCredit (Pipeline.owing O₀) 0 ((c : Thread nD τ), SemLoc.reg barrier0))) ∗
    cred (tallyOn ((c : Thread nD τ), SemLoc.dma (recvS 0 0)) (launchCredit (Pipeline.owing O₀) 0 ((c : Thread nD τ), SemLoc.dma (recvS 0 0)))) ∗
    cred (tallyOn ((c : Thread nD τ), SemLoc.dma (recvS 1 0)) (launchCredit (Pipeline.owing O₀) 0 ((c : Thread nD τ), SemLoc.dma (recvS 1 0)))) ∗
    cred (tallyOn ((c : Thread nD τ), SemLoc.dma (recvS 0 1)) (launchCredit (Pipeline.owing O₀) 0 ((c : Thread nD τ), SemLoc.dma (recvS 0 1)))) ∗
    cred (tallyOn ((c : Thread nD τ), SemLoc.dma (recvS 1 1)) (launchCredit (Pipeline.owing O₀) 0 ((c : Thread nD τ), SemLoc.dma (recvS 1 1)))) ∗
    cred (tallyOn ((c : Thread nD τ), SemLoc.dma (recvS 0 2)) (launchCredit (Pipeline.owing O₀) 0 ((c : Thread nD τ), SemLoc.dma (recvS 0 2)))) ∗
    cred (tallyOn ((c : Thread nD τ), SemLoc.dma (recvS 1 2)) (launchCredit (Pipeline.owing O₀) 0 ((c : Thread nD τ), SemLoc.dma (recvS 1 2))))) ⊢ _
  iintro ⟨H0, H1, H2, H3, H4, H5, H6⟩
  isplitl [H0]
  · iexact H0
  isplitl [H1 H2]
  · isplitl [H1]
    · iexact H1
    iexact H2
  isplitl [H3 H4]
  · isplitl [H3]
    · iexact H3
    iexact H4
  isplitl [H5]
  · iexact H5
  iexact H6

end Cert.PagedMerge

end
-- ==== Proof.Run.lean ====
/-
  The run of the kernel's program on the whole mesh, for any float values: the two page stores are
  laid out by head, every device runs the body, and each result array ends with the merged block.
-/
module

public import proofs.«01_k».proof.Proof.Deal
public import Idealize.ShloMosaic.Lib.Pipeline.RegionTalk
public import Idealize.ShloMosaic.Lib.Pipeline.RegionArraysS
public import Idealize.ShloMosaic.Lib.Pipeline.FrameTail

@[expose] public section

set_option maxRecDepth 16384

noncomputable section

namespace Cert.PagedMerge

open Idealize.ShloMosaic Idealize.ShloMosaic.TcCoe Idealize.ShloMosaic.Rounds
open Idealize.SL Idealize.SL.RA Idealize.SL.BI Idealize.SL.ProofMode
open scoped Idealize.SL.BI
open Idealize.SL.BI.BIBase Idealize.SL.BI.Laws Idealize.SL.Sem
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The blocks a device's body is given. -/
def insOf (c : Dev nD) : Ins F where
  q := iblk m c 0 t0_0
  k := iblk m c 1 t0_0
  v := iblk m c 2 t0_0
  bt := iblk m c 3 t0_0
  ln := iblk m c 4 t0_0
  base := Scalar.muli (zOf c) 64#32

/-- The result's block of device `c`. -/
def resOf (c : Dev nD) : Vec F S8x1x8x64 .f32 := outAll (around (insOf m) c)

/-! ## The region's proof data -/

/-- The scratch buffers of the body, at contents not chosen. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- What stays with a device from the launch: its place at the barrier's cell, the rights to open its own cells,
    the tokens it pays with. -/
def linear (c : Dev nD) : sProp 𝕄 :=
  iprop(atPos ER (barCell c) 0 ∅ 0
    ∗ (four (F := F) (fun g => openTok ER g) c 0 ∗ four (F := F) (fun g => openTok ER g) c 1 ∗ four (F := F) (fun g => openTok ER g) c 2)
    ∗ (payToks (F := F) c 0 ∗ payToks (F := F) c 1 ∗ payToks (F := F) c 2))

/-- The credit of a device. -/
def credits (c : Dev nD) : sProp 𝕄 :=
  iprop(cred (tallyAt (barCell c) () 3) ∗ recvCreds (F := F) c 0 ∗ recvCreds (F := F) c 1 ∗ recvCreds (F := F) c 2)

/-- What a device brings to the region. -/
def Tk (c : Dev nD) : sProp 𝕄 :=
  iprop((∃ K, records (AA (insOf m)) (BB (insOf m)) K ∗ linear c) ∗ credits c)
/-- What it has in the region, its cells open. -/
def Xk (c : Dev nD) : sProp 𝕄 :=
  iprop((∃ K, records (AA (insOf m)) (BB (insOf m)) K ∗ (opened (F := F) c 0 ∗ opened (F := F) c 1 ∗ opened (F := F) c 2)) ∗ atPos ER (barCell c) 0 ∅ 0
    ∗ cred (tallyAt (barCell c) () 3) ∗ levAts L lv)
/-- What it keeps. -/
def Yk (c : Dev nD) : sProp 𝕄 := semVal (barCell c) 0

/-- The state before the body: the exchange not begun. -/
def phi0 (c : Dev nD) : sProp 𝕄 := iprop(Xk m c ∗ scr c ∗ ∃ r, prngReg c r)
/-- The state after the body: every cell of the exchange back at zero. -/
def phi1 (c : Dev nD) : sProp 𝕄 :=
  iprop(Yk (F := F) c ∗ (closed (F := F) c 0 ∗ closed (F := F) c 1 ∗ closed (F := F) c 2) ∗ scr c ∗ ∃ r, prngReg c r)

/-- What each window's staging buffer holds after the body. -/
def leaves (c : Dev nD) : (w : Fin cfg0.W) → Fin cfg0.N → (cfg0.win w).block.Idx → Elt F (cfg0.win w).elt
  | 0 => fun t => iblk m c 0 t
  | 1 => fun t => iblk m c 1 t
  | 2 => fun t => iblk m c 2 t
  | 3 => fun t => iblk m c 3 t
  | 4 => fun t => iblk m c 4 t
  | 5 => fun _ => resOf m c
  | ⟨_ + 6, h⟩ => absurd h (Nat.not_lt.2 (Nat.le_add_left _ _))

/-- The description of the one region on device `c`: its arrays, what the body leaves, and what is owed before and after. -/
def dat (c : Dev nD) : Dat τ (Elt F) Unit ℕ UU ℕ cfg0 c where
  A w := V m c (Pipeline.arrRef spec0 w)
  after := leaves m c
  Φ t := if t.val = 0 then phi0 m c else phi1 c
  q _ := fullShare
  owed t := if t.val = 0 then O₀ c else 0

/-- The launch parameters. -/
abbrev adm : (p : Fin 1) → (pcfgs (F := F) p).Adm := fun p => (cfgs p).toPCfg_adm
/-- The description, for each region and device. -/
def pdats : (p : Fin 1) → (c : Dev nD) → Dat τ (Elt F) Unit ℕ UU ℕ (Pipeline.pin (pcfgs (F := F)) adm p) c := fun _ c => dat m c

/-- The first state. -/
theorem phi_first (c : Dev nD) : (dat m c).Φ t0_0.castSucc = phi0 m c := by
  show (if (t0_0.castSucc : Fin (cfg0.N + 1)).val = 0 then phi0 m c else phi1 c) = _
  exact if_pos rfl
/-- The last state. -/
theorem phi_last (c : Dev nD) : (dat m c).Φ t0_0.succ = phi1 c := by
  show (if (t0_0.succ : Fin (cfg0.N + 1)).val = 0 then phi0 m c else phi1 c) = _
  exact if_neg (by decide)
/-- What is owed before the body. -/
theorem owed_first (c : Dev nD) : (dat m c).owed t0_0.castSucc = O₀ c := by
  show (if (t0_0.castSucc : Fin (cfg0.N + 1)).val = 0 then O₀ c else 0) = _
  exact if_pos rfl
/-- Nothing is owed after it. -/
theorem owed_last (c : Dev nD) : (dat m c).owed t0_0.succ = 0 := by
  show (if (t0_0.succ : Fin (cfg0.N + 1)).val = 0 then O₀ c else 0) = _
  exact if_neg (by decide)
/-- The last point is not the first. -/
theorem last_ne : ¬ (Fin.last cfg0.N).val = 0 := by
  rw [Fin.val_last, show cfg0.N = 1 from N_0]
  decide

/-- Before the point window 0's staging buffer holds its block. -/
theorem found0 (c : Dev nD) (d) : (dat m c).before 0 t0_0 d = iblk m c 0 t0_0 :=
  ((dat m c).before_in_eq_fetched 0 rfl (fun _ => rfl) (fun _ _ _ => rfl) (fun t => rfl) t0_0 d).trans rfl
/-- Before the point window 1's staging buffer holds its block. -/
theorem found1 (c : Dev nD) (d) : (dat m c).before 1 t0_0 d = iblk m c 1 t0_0 :=
  ((dat m c).before_in_eq_fetched 1 rfl (fun _ => rfl) (fun _ _ _ => rfl) (fun t => rfl) t0_0 d).trans rfl
/-- Before the point window 2's staging buffer holds its block. -/
theorem found2 (c : Dev nD) (d) : (dat m c).before 2 t0_0 d = iblk m c 2 t0_0 :=
  ((dat m c).before_in_eq_fetched 2 rfl (fun _ => rfl) (fun _ _ _ => rfl) (fun t => rfl) t0_0 d).trans rfl
/-- Before the point window 3's staging buffer holds its block. -/
theorem found3 (c : Dev nD) (d) : (dat m c).before 3 t0_0 d = iblk m c 3 t0_0 :=
  ((dat m c).before_in_eq_fetched 3 rfl (fun _ => rfl) (fun _ _ _ => rfl) (fun t => rfl) t0_0 d).trans rfl
/-- Before the point window 4's staging buffer holds its block. -/
theorem found4 (c : Dev nD) (d) : (dat m c).before 4 t0_0 d = iblk m c 4 t0_0 :=
  ((dat m c).before_in_eq_fetched 4 rfl (fun _ => rfl) (fun _ _ _ => rfl) (fun t => rfl) t0_0 d).trans rfl
/-- The state at the end of the region. -/
theorem phi_end (c : Dev nD) : (dat m c).Φ (Fin.last cfg0.N) = phi1 c := by
  show (if (Fin.last cfg0.N).val = 0 then phi0 m c else phi1 c) = _
  exact if_neg last_ne
/-- Nothing is owed at its end. -/
theorem owed_end (c : Dev nD) : (dat m c).owed (Fin.last cfg0.N) = 0 := by
  show (if (Fin.last cfg0.N).val = 0 then O₀ c else 0) = _
  exact if_neg last_ne

/-! ## The body's obligation -/

/-- Owing exactly `O` is what the region asks at a point. -/
theorem owesAt_of (c : Dev nD) (t : Fin (cfg0.N + 1)) (O : CellTallies nD τ sig Unit) (h0 : (dat m c).owed t = O) :
    (owing (F := F) c O : sProp 𝕄) ⊢ (dat m c).owesAt () t := by
  unfold owing Dat.owesAt Pipeline.owesWithin Dat.bound
  rw [h0]
  iintro ⟨%W, HO⟩
  iexists W
  isplitr
  · ipureintro
    exact fun _ _ => Or.inl trivial
  iexact HO
/-- And back. -/
theorem owing_of (c : Dev nD) (t : Fin (cfg0.N + 1)) (O : CellTallies nD τ sig Unit) (h0 : (dat m c).owed t = O) :
    ((dat m c).owesAt () t : sProp 𝕄) ⊢ owing (F := F) c O := by
  unfold owing Dat.owesAt Pipeline.owesWithin
  rw [h0]
  iintro ⟨%W, -, HO⟩
  iexists W
  iexact HO

/-- A staging buffer at named contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- A staging buffer at named contents, seen through its whole view. -/
theorem stg_out (c : Dev nD) (b : Ref sig .tc) (X : b.ty.Contents (Elt F)) :
    (stg c b X : sProp 𝕄) ⊢ ((Memref.whole b).view.loc (c : Thread nD τ) ↦{fullShare} X) := by
  iintro ⟨%f, %h, H⟩
  subst h
  iexact H
/-- And back. -/
theorem stg_in (c : Dev nD) (b : Ref sig .tc) (X : b.ty.Contents (Elt F)) :
    ((Memref.whole b).view.loc (c : Thread nD τ) ↦{fullShare} X) ⊢ (stg c b X : sProp 𝕄) := by
  iintro H
  iexists X
  isplitr
  · ipureintro; rfl
  iexact H

/-- What the body starts with, window by window. -/
def obPre (c : Dev nD) : sProp 𝕄 :=
  iprop(phi0 m c ∗ owing (F := F) c (O₀ c)
    ∗ stg c cc0_stg0_0 (insOf m c).q ∗ stg c cc0_stg1_0 (insOf m c).k ∗ stg c cc0_stg2_0 (insOf m c).v ∗ stg c cc0_stg3_0 (insOf m c).bt
    ∗ stg c cc0_stg4_0 (insOf m c).ln ∗ ∃ f, stg c cc0_stg5_0 f)
/-- What it ends with. -/
def obPost (c : Dev nD) : sProp 𝕄 :=
  iprop(phi1 c ∗ owing (F := F) c 0
    ∗ stg c cc0_stg0_0 (insOf m c).q ∗ stg c cc0_stg1_0 (insOf m c).k ∗ stg c cc0_stg2_0 (insOf m c).v ∗ stg c cc0_stg3_0 (insOf m c).bt
    ∗ stg c cc0_stg4_0 (insOf m c).ln ∗ stg c cc0_stg5_0 (resOf m c))

/-- With all eight heads written the output buffer holds the result. -/
theorem out_done (c : Dev nD) : outHeld c (around (insOf m) c) 8 ⊢ (stg c cc0_stg5_0 (resOf m c) : sProp 𝕄) := by
  unfold outHeld
  iintro ⟨%f, H, %h⟩
  iexists f
  isplitr
  · ipureintro
    exact funext fun i => h i (i 2).isLt
  iexact H

/-- The body from what the pipeline gives it to what it must hand back. -/
theorem body_ob (c : Dev nD) {Q : PUnit → sProp 𝕄} (hq : obPost m c ⊢ Q ⟨⟩) : obPre m c ⊢ WP c (bodyAt0 (F := F) t0_0) Q := by
  unfold obPre phi0 Xk scr
  iintro ⟨⟨⟨⟨%K, #HR, T0, T1, T2⟩, Hab, Hcb, #Hl⟩, ⟨So, Ss, %fw, Sw⟩, Hp⟩, HO, Q0, Q1, Q2, Q3, Q4, %fout, Q5⟩
  ihave Q0 := (stg_out c _ _) $$ Q0
  ihave Q1 := (stg_out c _ _) $$ Q1
  ihave Q2 := (stg_out c _ _) $$ Q2
  ihave Q3 := (stg_out c _ _) $$ Q3
  ihave Q4 := (stg_out c _ _) $$ Q4
  ihave Q5 := (stg_out c _ _) $$ Q5
  iapply (body_run (insOf m) K c rfl)
  isplitr [Hp]
  · unfold bodyPre
    isplitr
    · iexact HR
    isplitr
    · iexact Hl
    isplitl [HO]
    · iexact HO
    isplitl [Hcb]
    · iexact Hcb
    isplitl [Hab]
    · iexact Hab
    isplitl [T0 T1 T2]
    · isplitl [T0]
      · iexact T0
      isplitl [T1]
      · iexact T1
      iexact T2
    isplitl [Q0 Q1 Q2 Q3 Q4]
    · unfold held
      isplitl [Q0]
      · iexact Q0
      isplitl [Q1]
      · iexact Q1
      isplitl [Q2]
      · iexact Q2
      isplitl [Q3]
      · iexact Q3
      iexact Q4
    isplitl [Sw]
    · unfold wHeld
      iexists fw
      isplitl [Sw]
      · iexact Sw
      ipureintro
      exact fun i h => absurd h (Nat.not_lt_zero _)
    isplitl [So]
    · iexact So
    isplitl [Ss]
    · iexact Ss
    unfold outHeld
    iexists fout
    isplitl [Q5]
    · iexact Q5
    ipureintro
    exact fun i h => absurd h (Nat.not_lt_zero _)
  iintro HH
  iapply hq
  unfold bodyPost obPost phi1 Yk scr held wHeld mHeld
  icases HH with ⟨Hb, Hc, HO, ⟨Q0, Q1, Q2, Q3, Q4⟩, ⟨%fw', Sw, -⟩, ⟨So, Ss⟩, Out⟩
  isplitl [Hb Hc Sw So Ss Hp]
  · isplitl [Hb]
    · iexact Hb
    isplitl [Hc]
    · iexact Hc
    isplitr [Hp]
    · isplitl [So]
      · iexists _; iexact So
      isplitl [Ss]
      · iexists _; iexact Ss
      iexists fw'; iexact Sw
    iexact Hp
  isplitl [HO]
  · iexact HO
  isplitl [Q0]
  · iapply (stg_in c cc0_stg0_0 (insOf m c).q); iexact Q0
  isplitl [Q1]
  · iapply (stg_in c cc0_stg1_0 (insOf m c).k); iexact Q1
  isplitl [Q2]
  · iapply (stg_in c cc0_stg2_0 (insOf m c).v); iexact Q2
  isplitl [Q3]
  · iapply (stg_in c cc0_stg3_0 (insOf m c).bt); iexact Q3
  isplitl [Q4]
  · iapply (stg_in c cc0_stg4_0 (insOf m c).ln); iexact Q4
  iapply (out_done m c); iexact Out

/-- A window found at contents that do not depend on the unknown is found at those. -/
theorem found_stg (c : Dev nD) (b : Ref sig .tc) (X : b.ty.Contents (Elt F)) {D : Type} (Y : D → b.ty.Contents (Elt F)) (h : ∀ d, Y d = X) :
    (iprop(∃ d, stg c b (Y d)) : sProp 𝕄) ⊢ stg c b X := by
  iintro ⟨%d, H⟩
  rw [h d]
  iexact H

/-- The body keeps its promise to the region. -/
theorem body_obligation (c : Dev nD) : BodyObligation (dat m c) (defs₀ (F := F)) 𝒱₀ () Set.univ := fun t => by
  obtain rfl := fin_N0 t
  rw [bigSep_W0, bigSep_W0]
  rw [phi_first, phi_last]
  simp only [owns_whole_eq]
  show iprop(phi0 m c ∗ (dat m c).owesAt () t0_0.castSucc
    ∗ (∃ d, stg c cc0_stg0_0 ((dat m c).before 0 t0_0 d)) ∗ (∃ d, stg c cc0_stg1_0 ((dat m c).before 1 t0_0 d))
    ∗ (∃ d, stg c cc0_stg2_0 ((dat m c).before 2 t0_0 d)) ∗ (∃ d, stg c cc0_stg3_0 ((dat m c).before 3 t0_0 d))
    ∗ (∃ d, stg c cc0_stg4_0 ((dat m c).before 4 t0_0 d)) ∗ (∃ d, stg c cc0_stg5_0 ((dat m c).before 5 t0_0 d)))
    ⊢ WP c (bodyAt0 (F := F) t0_0) (fun _ => iprop(phi1 c ∗ (dat m c).owesAt () t0_0.succ
      ∗ stg c cc0_stg0_0 (insOf m c).q ∗ stg c cc0_stg1_0 (insOf m c).k ∗ stg c cc0_stg2_0 (insOf m c).v ∗ stg c cc0_stg3_0 (insOf m c).bt
      ∗ stg c cc0_stg4_0 (insOf m c).ln ∗ stg c cc0_stg5_0 (resOf m c)))
  refine BIBase.Entails.trans ?_ (body_ob m c ?_)
  · unfold obPre
    iintro ⟨HX, HO, Q0, Q1, Q2, Q3, Q4, %d, Q5⟩
    isplitl [HX]
    · iexact HX
    isplitl [HO]
    · iapply (owing_of m c _ _ (owed_first m c)); iexact HO
    isplitl [Q0]
    · iapply (found_stg c _ _ _ (found0 m c)); iexact Q0
    isplitl [Q1]
    · iapply (found_stg c _ _ _ (found1 m c)); iexact Q1
    isplitl [Q2]
    · iapply (found_stg c _ _ _ (found2 m c)); iexact Q2
    isplitl [Q3]
    · iapply (found_stg c _ _ _ (found3 m c)); iexact Q3
    isplitl [Q4]
    · iapply (found_stg c _ _ _ (found4 m c)); iexact Q4
    iexists _; iexact Q5
  · unfold obPost
    iintro ⟨HX, HO, Q⟩
    isplitl [HX]
    · iexact HX
    isplitl [HO]
    · iapply (owesAt_of m c _ _ (owed_last m c)); iexact HO
    iexact Q

end Cert.PagedMerge

end
-- ==== Proof.Launch.lean ====
/-
  The launch: the cells are funded and dealt to the devices, the host operations and the region run
  one after the other, and the final memory is read.
-/
module

public import proofs.«01_k».proof.Proof.Run

@[expose] public section

set_option maxRecDepth 16384

noncomputable section

namespace Cert.PagedMerge

open Idealize.ShloMosaic Idealize.ShloMosaic.TcCoe Idealize.ShloMosaic.Rounds
open Idealize.SL Idealize.SL.RA Idealize.SL.BI Idealize.SL.ProofMode
open scoped Idealize.SL.BI
open Idealize.SL.BI.BIBase Idealize.SL.BI.Laws Idealize.SL.Sem
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-! ## The region's entry and exit -/

/-- The semaphores of the region's own are the twelve of the exchange, each at zero. -/
theorem own_sems (c : Dev nD) :
    (Pipeline.ownSems0 (Ix := Unit) (Name := ℕ) (U := UU) (Lvl := ℕ) (Val := Elt F) (τ := τ) osem c : sProp 𝕄)
      = bigSep Finset.univ fun k : Fin 12 => semVal ((c : Thread nD τ), osem k) 0 := rfl

/-- At the entry every cell of the exchange is opened with its zero counter. -/
theorem hopen (c : Dev nD) : iprop(Tk m c ∗ Pipeline.ownSems0 osem c ∗ levAts L lv) ⊢ (|={Set.univ}=> Xk m c : sProp 𝕄) := by
  rw [own_sems]
  unfold Tk Xk linear credits
  iintro ⟨⟨⟨%K, #HR, Hab, ⟨P0, P1, P2⟩, Y0, Y1, Y2⟩, Hcb, R0, R1, R2⟩, Hs, #Hl⟩
  have h12 := (twelve_eq (F := F) (fun g => semVal g 0) c).1
  ihave Hs := h12 $$ Hs
  icases Hs with ⟨S0, S1, S2⟩
  imod (open_four (AA (insOf m)) (BB (insOf m)) K c 0) $$ [P0 S0 Y0 R0] with O0
  · isplitr
    · iexact HR
    isplitl [P0]
    · iexact P0
    isplitl [S0]
    · iexact S0
    isplitl [Y0]
    · iexact Y0
    iexact R0
  imod (open_four (AA (insOf m)) (BB (insOf m)) K c 1) $$ [P1 S1 Y1 R1] with O1
  · isplitr
    · iexact HR
    isplitl [P1]
    · iexact P1
    isplitl [S1]
    · iexact S1
    isplitl [Y1]
    · iexact Y1
    iexact R1
  imod (open_four (AA (insOf m)) (BB (insOf m)) K c 2) $$ [P2 S2 Y2 R2] with O2
  · isplitr
    · iexact HR
    isplitl [P2]
    · iexact P2
    isplitl [S2]
    · iexact S2
    isplitl [Y2]
    · iexact Y2
    iexact R2
  imodintro
  isplitl [O0 O1 O2]
  · iexists K
    isplitr
    · iexact HR
    isplitl [O0]
    · iexact O0
    isplitl [O1]
    · iexact O1
    iexact O2
  isplitl [Hab]
  · iexact Hab
  isplitl [Hcb]
  · iexact Hcb
  iexact Hl

/-- The region's scratch is the three buffers of the body. -/
theorem scr_eq (c : Dev nD) :
    (Pipeline.scopedRest (Ix := Unit) (Name := ℕ) (U := UU) (Lvl := ℕ) (Val := Elt F) (Pipeline.pin (pcfgs (F := F)) adm 0).spec c : sProp 𝕄) = scr c :=
  scopedRest0_eq c

/-- The contents at the region's entry, and after it. -/
def W₀ (c : Dev nD) : Valuation τ sig (Elt F) := fun b => m (c, b)
/-- The contents after the host operations. -/
def W₁ (c : Dev nD) : Valuation τ sig (Elt F) := StableHlo.after hostOps0 (W₀ m c)
/-- The contents after the region. -/
def W₂ (c : Dev nD) : Valuation τ sig (Elt F) := Pipeline.afterRegion (dat m c) (W₁ m c)

/-- Holding no buffer is holding nothing. -/
theorem held_none (c : Dev nD) (W : Valuation τ sig (Elt F)) : (StableHlo.held (c.tc : Thread nD τ) ∅ W : sProp 𝕄) = BI.emp := by
  unfold StableHlo.held
  exact BI.bigSep_empty

/-- What is held at the region's entry gives the state before the body. -/
theorem hin (c : Dev nD) :
    iprop(Pipeline.scopedRest (Pipeline.pin (pcfgs (F := F)) adm 0).spec c ∗ (∃ r, prngReg c r) ∗ StableHlo.held (c.tc : Thread nD τ) ∅ (W₁ m c) ∗ Xk m c)
      ⊢ (pdats m 0 c).Φ 0 := by
  rw [show (pdats m 0 c).Φ 0 = phi0 m c from phi_first m c, scr_eq]
  unfold phi0
  iintro ⟨Hs, Hp, -, HX⟩
  isplitl [HX]
  · iexact HX
  isplitl [Hs]
  · iexact Hs
  iexact Hp

/-- The state after the body gives back what the region's exit wants. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (W₂ m c)
      ∗ Pipeline.ownSems0 osem c ∗ Yk (F := F) c) := by
  rw [show (pdats m 0 c).Φ (Fin.last _) = phi1 c from phi_end m c, scr_eq, held_none, own_sems]
  unfold phi1
  have h12 := (twelve_eq (F := F) (fun g => semVal g 0) c).2
  iintro ⟨HY, Hc, Hs, Hp⟩
  isplitl [Hs]
  · iexact Hs
  isplitl [Hp]
  · iexact Hp
  isplitr
  · iempintro
  isplitl [Hc]
  · iapply h12; iexact Hc
  iexact HY

/-- The facts of the one region's launch. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- A cell a device owes to at the launch is a receive cell or a barrier cell. -/
theorem owed_cell (c : Dev nD) (g : GSem nD τ sig) (u : Unit) (h : 0 < O₀ c g u) : (∃ i j p, g = recvCell i j p) ∨ ∃ p, g = barCell p := by
  simp only [O₀, sends, Pi.add_apply, Finsupp.add_apply, tallyAt_apply, Pi.zero_apply, Finsupp.zero_apply] at h
  by_contra hn
  simp only [not_or, not_exists] at hn
  simp only [hn.1, hn.2, false_and, if_false] at h
  omega

/-- Every cell owed to is at a level above the staging cells. -/
theorem owed_level (c : Dev nD) (g : GSem nD τ sig) (u : Unit) (h : 0 < O₀ c g u) : u ∈ L g ∧ 0 < lv g u := by
  rcases owed_cell c g u h with ⟨i, j, p, rfl⟩ | ⟨p, rfl⟩
  · refine ⟨by rw [L_tc]; exact Finset.mem_singleton_self _, ?_⟩
    exact (by decide : ∀ (i : Fin 2) (j : Fin 3), 0 < if 12 ≤ (recvS i j).val then 2 else 0) i j
  · exact ⟨by rw [L_tc]; exact Finset.mem_singleton_self _, Nat.one_pos⟩

/-- At every point the cells owed to are above the staging cells. -/
theorem cut (c : Dev nD) (t : Fin (cfg0.N + 1)) (g : GSem nD τ sig) (u : Unit) (h : 0 < (dat m c).owed t g u) : u ∈ L g ∧ 0 < lv g u := by
  have e : (dat m c).owed t = if t.val = 0 then O₀ c else 0 := rfl
  rw [e] at h
  split at h
  · exact owed_level c g u h
  · exact absurd h (Nat.lt_irrefl 0)

/-- The staging semaphores are below the receive semaphores in number. -/
theorem stage_level : ∀ (w : Fin cfg0.W) (s : Fin (cfg0.win w).nbuf), ((cfg0.win w).sem s).val < 12 := by decide

/-- The buffers the segments hold. -/
abbrev bufs : Finset (DevRef τ sig) := Pipeline.ucRefs τ sig
/-- The arrays of the region's windows. -/
abbrev arrs : Finset (DevRef τ sig) := Pipeline.arrRefs (τ := τ) spec0

set_option backward.isDefEq.respectTransparency.types false in
/-- The region of the kernel. -/
def reg : ℝ𝕊 0 :=
  Pipeline.RegionSeg.ofTalk (pcfgs (F := F)) adm (pdats m) () defs₀ 𝒱₀ L lv 0 osem (by decide : Pipeline.OwnSemFacts spec0 osem)
    ∅ (bufs \ arrs) (Finset.empty_subset _) kit rfl (fun c => (body_obligation m c).loose)
    (fun _ => 0) O₀ (fun c => (owed_first m c).trans (zero_add _).symm) (owed_end m) (fun _ => rfl)
    (fun c w => by unfold Dat.share; split <;> rfl)
    (W₁ m) (W₂ m) (fun c b hb => Pipeline.afterRegion_off (dat m c) (W₁ m c) bufs b (by rw [Finset.sdiff_empty] at hb; exact hb))
    (Tk m) (Yk (F := F)) (Xk m) (Yk (F := F)) (hopen m) (hin m) (hout m)
    (fun c => by iintro H; imodintro; iexact H)
    (fun _ => 0)
    ⟨fun c w s => by show () ∈ L _; rw [L_tc]; exact Finset.mem_singleton_self _,
      fun c w s => by show (if 12 ≤ ((cfg0.win w).sem s).val then 2 else 0) ≤ 0; rw [if_neg (Nat.not_le.2 (stage_level w s))], fun c t g u h => cut m c t g u h⟩
    (fun _ => iprop(emp))
    (fun c w => rfl) (fun c w => (Pipeline.afterRegion_arr (dat m c) (W₁ m c) winFacts0.arr_inj w).symm)

/-! ## The host operations -/

/-- What rides along while the host operations run. -/
def R (c : Dev nD) : sProp 𝕄 := iprop(Tk m c ∗ (∃ r, prngReg c r) ∗ owing (F := F) c (O₀ c))

/-- Every host operation works on buffers that are held. -/
theorem ops_sub : ∀ op ∈ (hostOps0 : List (HloOp τ sig (Elt F))), op.bufs ⊆ bufs := fun op h =>
  Pipeline.sub_ucRefs op (List.forall_iff_forall_mem.mp hostOps0_sub op h)

/-- The two page stores laid out by head. -/
def host : ℍ := Pipeline.HostSeg.ofOps _ _ _ _ _ bufs hostOps0 ops_sub (List.forall_iff_forall_mem.mp hostOps0_fresh) (W₀ m) (R m)

/-- The windows' arrays are among the held buffers. -/
theorem arrs_sub : arrs ⊆ bufs := Pipeline.arrRefs_sub_ucRefs spec0 (fun w => winFacts0.to₀.arr_unscoped w)

/-- What the host operations leave is what the region wants. -/
theorem reg_pre (c : Dev nD) : (host m).post c ⊢ (reg m).pre c := by
  show iprop(StableHlo.held (c.tc : Thread nD τ) bufs (W₁ m c) ∗ R m c)
    ⊢ iprop(StableHlo.held (c.tc : Thread nD τ) arrs (W₁ m c) ∗ (∃ r, prngReg c r)
      ∗ (StableHlo.held (c.tc : Thread nD τ) (bufs \ arrs) (W₁ m c) ∗ emp) ∗ Tk m c ∗ ∃ Wd, owes (c : Thread nD τ) (0 + O₀ c) Wd)
  rw [zero_add, StableHlo.held_sub_split (c.tc : Thread nD τ) arrs_sub (W₁ m c)]
  unfold R owing
  iintro ⟨⟨Ha, Hr⟩, HT, Hp, HO⟩
  isplitl [Ha]
  · iexact Ha
  isplitl [Hp]
  · iexact Hp
  isplitl [Hr]
  · isplitl [Hr]
    · iexact Hr
    iempintro
  isplitl [HT]
  · iexact HT
  iexact HO

/-- What a device ends with. -/
abbrev Tₙ (c : Dev nD) : sProp 𝕄 := iprop(StableHlo.held (c : Thread nD τ) bufs (W₂ m c) ∗ semVal (barCell c) 0)

/-- What the region leaves is what a device ends with, nothing owed. -/
theorem reg_post (c : Dev nD) : (reg m).post c ⊢ iprop(Tₙ m c ∗ ∃ W, owes (c : Thread nD τ) (0 : CellTallies nD τ sig Unit) W) := by
  show iprop(StableHlo.held (c.tc : Thread nD τ) arrs (W₂ m c) ∗ (∃ r, prngReg c r)
      ∗ (StableHlo.held (c.tc : Thread nD τ) (bufs \ arrs) (W₂ m c) ∗ emp) ∗ Yk (F := F) c ∗ ∃ Wd, owes (c : Thread nD τ) (0 : CellTallies nD τ sig Unit) Wd) ⊢ _
  unfold Tₙ Yk
  rw [StableHlo.held_sub_split (c.tc : Thread nD τ) arrs_sub (W₂ m c)]
  iintro ⟨Ha, -, ⟨Hr, -⟩, Hb, HO⟩
  isplitr [HO]
  · isplitl [Ha Hr]
    · isplitl [Ha]
      · iexact Ha
      iexact Hr
    iexact Hb
  iexact HO

/-- @main as segments. -/
def segs : List (Pipeline.Seg (pcfgs (F := F)) adm (pdats m) () defs₀ 𝒱₀ L lv) := [.host (host m), .region (reg m)]

/-! ## The launch's ghost state -/

/-- The ghost state at the launch: the staging rounds and the rounds of the exchange. -/
def u₀ : UU :=
  (initOf (Pipeline.cells (Pipeline.pin (pcfgs (F := F)) adm) cellOf_inj) (Pipeline.launchToks (Pipeline.pin (pcfgs (F := F)) adm) cellOf_inj),
    launchOf barCells scCells allToks)

/-- A resource parked on device 0. -/
def parked (X : sProp 𝕄) (c : Dev nD) : sProp 𝕄 := if c = 0 then X else iprop(emp)
/-- Over all devices it is that resource once. -/
theorem parked_eq (X : sProp 𝕄) : bigSep Finset.univ (parked X) = X := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked
  rw [if_pos rfl]
  exact BI.equiv_iff.mp sep_emp
/-- The rounds of the exchange, parked. -/
def G : Dev nD → sProp 𝕄 := parked (BI.own (ER (launchOf barCells scCells allToks)))

/-- A barrier cell is no cell of the exchange. -/
theorem cells_disjoint : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact (by decide : ∀ k : Fin 12, osem k ≠ .reg barrier0) ck.2 (congrArg Prod.snd h)

/-- The one semaphore that outlives the region is the barrier's. -/
theorem bar_sems (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-- The right to open each cell of the exchange, dealt to the device of the cell. -/
theorem opens_eq : bigSep scCells (fun g => (openTok ER g : sProp 𝕄))
    ⊢ bigSep Finset.univ fun c : Dev nD => iprop(four (F := F) (fun g => openTok ER g) c 0 ∗ four (F := F) (fun g => openTok ER g) c 1 ∗ four (F := F) (fun g => openTok ER g) c 2) := by
  rw [bigSep_map, bigSep_univ_prod]
  exact bigSep_mono fun c _ => (twelve_eq (F := F) (fun g => openTok ER g) c).1

/-- The tokens, dealt to the devices that pay with them. -/
theorem toks_dealt : bigSep allToks (fun x => (dutyTok ER x.1 x.2.1 x.2.2 : sProp 𝕄))
    ⊢ bigSep Finset.univ fun c : Dev nD => iprop(payToks (F := F) c 0 ∗ payToks (F := F) c 1 ∗ payToks (F := F) c 2) := by
  rw [toks_eq, bigSep_sep', bigSep_sep', bigSep_sep', bigSep_sep']
  exact BI.sep_mono (toks_step 0) (BI.sep_mono (toks_step 1) (toks_step 2))

/-- Two resources of every device, apart and together. -/
theorem parts (Φ Ψ : Dev nD → sProp 𝕄) :
    (bigSep Finset.univ fun c : Dev nD => iprop(Φ c ∗ Ψ c)) ⊢ iprop((bigSep Finset.univ fun c => Φ c) ∗ (bigSep Finset.univ fun c => Ψ c)) :=
  Entails.of_eq (bigSep_sep' _ _ _)
/-- Together again. -/
theorem joined (Φ Ψ : Dev nD → sProp 𝕄) :
    iprop((bigSep Finset.univ fun c => Φ c) ∗ (bigSep Finset.univ fun c => Ψ c)) ⊢ bigSep Finset.univ fun c : Dev nD => iprop(Φ c ∗ Ψ c) :=
  Entails.of_eq (bigSep_sep' _ _ _).symm

/-- What of a device's launch holdings is not shared out. -/
def bundle (c : Dev nD) : sProp 𝕄 :=
  iprop(StableHlo.held (c : Thread nD τ) bufs (W₀ m c) ∗ credits c ∗ owes (c : Thread nD τ) (O₀ c) ∅ ∗ ∃ r, prngReg c r)

/-- What a device starts @main with. -/
abbrev T₀ (c : Dev nD) : sProp 𝕄 := iprop(StableHlo.held (c : Thread nD τ) bufs (W₀ m c) ∗ R m c)

/-- It is made from the shared records, its part of the exchange and its own holdings. -/
theorem T₀_intro (κ : GSem nD τ sig → ℕ) (c : Dev nD) : iprop(records (AA (insOf m)) (BB (insOf m)) κ ∗ (linear c ∗ bundle m c)) ⊢ T₀ m c := by
  unfold bundle T₀ R Tk owing
  iintro ⟨#HR, Hl, Hh, Hc, HO, Hp⟩
  isplitl [Hh]
  · iexact Hh
  isplitl [Hl Hc]
  · isplitl [Hl]
    · iexists κ
      isplitr
      · iexact HR
      iexact Hl
    iexact Hc
  isplitl [Hp]
  · iexact Hp
  iexists ∅
  iexact HO

/-- At the launch every cell gets its invariant, and every device what it starts with. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) bufs (W₀ m c) from Pipeline.unscopedBufs_held c (W₀ m c),
      bar_sems]
    unfold bundle credits
    iintro ⟨Hh, Hus, HO, Hcr, Hp, HG⟩
    isplitl [Hh Hcr HO Hp]
    · isplitl [Hh]
      · iexact Hh
      isplitl [Hcr]
      · iapply (creds (F := F) c); iexact Hcr
      isplitl [HO]
      · iexact HO
      iexists (ρ c); iexact Hp
    isplitl [Hus]
    · iexact Hus
    iexact HG
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := (parts _ _) $$ H'
  icases H2 with ⟨HB, H3⟩
  ihave H4 := (parts _ _) $$ H3
  icases H4 with ⟨Hv, HG⟩
  ihave Hu := (show bigSep Finset.univ (G (F := F)) ⊢ BI.own (ER (launchOf barCells scCells allToks)) from
    Entails.of_eq (parked_eq (F := F) (BI.own (ER (launchOf barCells scCells allToks))))) $$ HG
  imod (Rounds.fund_launch ER (rd (AA (insOf m)) (BB (insOf m))) cells_disjoint (fun g _ h => h) allToks) $$ [Hv Hu] with ⟨%κ, -, #Hinv, #Hr, Hat, Hopen, Htok⟩
  · isplitl [Hv]
    · iapply hv $$ Hv
    · iexact Hu
  imodintro
  iapply (bigSep_with_persistent (R := records (AA (insOf m)) (BB (insOf m)) κ) (Φ := fun c => iprop(linear c ∗ bundle m c)) fun c _ => T₀_intro m κ c)
  isplitr
  · unfold records
    isplitr
    · iexact Hinv
    iexact Hr
  iapply (joined _ _)
  isplitr [HB]
  · unfold linear
    iapply (joined _ _)
    isplitl [Hat]
    · iapply hat $$ Hat
    iapply (joined _ _)
    isplitl [Hopen]
    · iapply (opens_eq (F := F)) $$ Hopen
    iapply (toks_dealt (F := F)) $$ Htok
  · iexact HB

/-! ## The final memory -/

/-- An argument array ends as it began. -/
theorem kept (c : Dev nD) (r : Ref sig .tc) (h : ∀ w, Pipeline.arrRef spec0 w = r → (cfg0.win w).isOut = false)
    (hV : V m c r = m ((c : Thread nD τ).loc r)) : W₂ m c (Proc.devRef .tc r) = m ((c : Thread nD τ).loc r) :=
  (Pipeline.afterRegion_keeps (dat m c) (W₁ m c) winFacts0.arr_inj (fun w => rfl) r h).trans hV

/-- The result array ends with the device's block. -/
theorem result (c : Dev nD) : W₂ m c (Proc.devRef .tc main_v5) = resOf m c := by
  refine (Pipeline.afterRegion_arr (dat m c) (W₁ m c) winFacts0.arr_inj 5).trans ?_
  have hz : (fun a => (win0_5.index t0_0) a * main_v5.ty.shape.size a) = fun _ => 0 :=
    funext fun a => by fin_cases a <;> decide
  have hr := fun f => Memref.read_access_unit_zero (Elt F) main_v5 hz (fun a => by fin_cases a <;> decide) f
  refine (hr _).symm.trans ?_
  rw [show cfg0.N = t0_0.val + 1 from N_0, (dat m c).arrAt_succ 5 t0_0, flush0_5, if_pos rfl]
  exact View.read_write_univ _ _

/-- The arguments and the result. -/
abbrev outs : Fin 6 → Ref sig .tc
  | 0 => main_arg0 | 1 => main_arg1 | 2 => main_arg2 | 3 => main_arg3 | 4 => main_arg4 | 5 => main_v5
/-- They are six different buffers. -/
theorem outs_inj : Function.Injective (fun k => (Proc.devRef .tc (outs k) : DevRef τ sig)) := by decide

/-- The buffers that are read at the end. -/
theorem outs_held (c : Dev nD) (W : Valuation τ sig (Elt F)) :
    (StableHlo.held (c : Thread nD τ) bufs W : sProp 𝕄) ⊢ bigSep Finset.univ fun k : Fin 6 =>
      (((c : Thread nD τ).loc (outs k)) ↦{fullShare} W (Proc.devRef .tc (outs k)) : sProp 𝕄) := by
  unfold StableHlo.held
  refine (bigSep_subset (t := Finset.univ.map ⟨_, outs_inj⟩) (by decide)).trans ?_
  rw [bigSep_map]
  exact BI.Entails.refl _

/-- What the claims say of a device at the end. -/
def Ends (c : Dev nD) (s : MemSt nD τ sig (Elt F)) : Prop :=
  (∀ k : Fin 6, s.mem ((c : Thread nD τ).loc (outs k)) = W₂ m c (Proc.devRef .tc (outs k))) ∧ s.sem (barCell c) = 0

/-- What a device ends with shows this of the machine's memory. -/
theorem fin_read (c : Dev nD) (s' : Phys nD τ sig (Elt F)) : iprop(Tₙ m c ∗ SI s') ⊢ (|={Set.univ}=> iprop(⌜Ends m c s'.mem⌝ ∗ SI s') : sProp 𝕄) := by
  unfold Tₙ
  have ho := outs_held c (W₂ m c)
  rw [bigSep_univ_eq_bigSepL [(0 : Fin 6), 1, 2, 3, 4, 5] (by decide) (by decide)] at ho
  have ho : _ ⊢ iprop((((c : Thread nD τ).loc (outs 0)) ↦{fullShare} W₂ m c (Proc.devRef .tc (outs 0))) ∗ (((c : Thread nD τ).loc (outs 1)) ↦{fullShare} W₂ m c (Proc.devRef .tc (outs 1))) ∗ (((c : Thread nD τ).loc (outs 2)) ↦{fullShare} W₂ m c (Proc.devRef .tc (outs 2))) ∗ (((c : Thread nD τ).loc (outs 3)) ↦{fullShare} W₂ m c (Proc.devRef .tc (outs 3))) ∗ (((c : Thread nD τ).loc (outs 4)) ↦{fullShare} W₂ m c (Proc.devRef .tc (outs 4))) ∗ (((c : Thread nD τ).loc (outs 5)) ↦{fullShare} W₂ m c (Proc.devRef .tc (outs 5)))) := ho
  iintro ⟨⟨Hh, Hb0⟩, HSI⟩
  ihave H := ho $$ Hh
  icases H with ⟨H0, H1, H2, H3, H4, H5⟩
  icombine HSI H0 gives %h0
  icombine HSI H1 gives %h1
  icombine HSI H2 gives %h2
  icombine HSI H3 gives %h3
  icombine HSI H4 gives %h4
  icombine HSI H5 gives %h5
  icombine HSI Hb0 gives %hb
  imodintro
  isplitr
  · ipureintro
    refine ⟨fun k => ?_, by simpa using hb⟩
    fin_cases k
    · exact Buf.eq_of_forall_mem_univ h0
    · exact Buf.eq_of_forall_mem_univ h1
    · exact Buf.eq_of_forall_mem_univ h2
    · exact Buf.eq_of_forall_mem_univ h3
    · exact Buf.eq_of_forall_mem_univ h4
    · exact Buf.eq_of_forall_mem_univ h5
  iexact HSI

/-- Every semaphore but the barrier belongs to the region. -/
theorem unscoped_eq : ∀ sm : SemLoc sig, sm.isScoped .tc = false → sm = .reg barrier0 := by decide

set_option backward.isDefEq.respectTransparency.types false in
/-- The run of the kernel: from any memory with zero counters every weakly fair execution ends; each device's arguments
    are unchanged, its result array holds the merged block, and every counter is at zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
        ∧ r.2.mem ((c : Thread nD τ).loc main_v5) = resOf m c) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (host m) (reg m) rfl c]; exact BI.Entails.refl _)
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]
      · iexact HP
      rw [parked_eq]
      iexact HX)
    (T₀ := T₀ m) (Tₙ := Tₙ m)
    (hch := ⟨fun c => BI.Entails.refl _, fun c => reg_pre m c, fun c => reg_post m c⟩)
    (hinit := init m ρ)
    (QY := Ends m)
    (hfin := fin_read m)
    (hQ := fun s h hs => ⟨fun c => by
        obtain ⟨ho, -⟩ := h c
        exact ⟨⟨(ho 0).trans (kept m c main_arg0 (by decide) (V_main_arg0 m c)), (ho 1).trans (kept m c main_arg1 (by decide) (V_main_arg1 m c)),
          (ho 2).trans (kept m c main_arg2 (by decide) (V_main_arg2 m c)), (ho 3).trans (kept m c main_arg3 (by decide) (V_main_arg3 m c)),
          (ho 4).trans (kept m c main_arg4 (by decide) (V_main_arg4 m c))⟩, (ho 5).trans (result m c)⟩,
      sem_eq_zero hs fun c sm hsm => by
        obtain rfl := unscoped_eq sm hsm
        exact (h c).2⟩)

end Cert.PagedMerge

end
-- ==== Proof.Same.lean ====
/- The kernel printed for words and the kernel printed for extended reals are one program. -/
module

public import proofs.«01_k».proof.Proof.Gen.Kernel
public import proofs.«01_k».proof.Proof.Gen.KernelIdeal

@[expose] public section

set_option maxRecDepth 16384

noncomputable section

namespace Cert.PagedMerge

open Idealize.ShloMosaic Idealize.SL.Sem

variable {F : FTy → Type} [FloatOps F]

set_option maxHeartbeats 1000000 in
/-- The two bodies are the same lines. -/
theorem body_same : Cert.Kernel.cc0_body (F := F) = Cert.KernelIdeal.cc0_body (F := F) := rfl

set_option maxHeartbeats 1000000 in
/-- So are the two tables of bodies. -/
theorem table_same : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

/-- And the tables with the pipelines added. -/
theorem defs_same : Cert.Kernel.defs (F := F) = Cert.KernelIdeal.defs (F := F) := by
  unfold Cert.Kernel.defs Cert.KernelIdeal.defs
  rw [table_same]
  rfl

/-- And the host programs. -/
theorem main_same : Cert.Kernel.main (F := F) = Cert.KernelIdeal.main (F := F) := rfl

end Cert.PagedMerge

end
-- ==== Proof.Frames.lean ====
/- The frames: every device of the kernel, and the one device of the reference, ends with its arguments as they
   were and with every semaphore counter at zero. -/
module

public import proofs.«01_k».proof.Defs
public import proofs.«01_k».proof.Proof.Launch
public import proofs.«01_k».proof.Proof.Same
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

set_option maxRecDepth 16384

noncomputable section

namespace Cert.PagedMerge

open Idealize.ShloMosaic Idealize.SL.Sem

/-- The kernel as it is compiled, over float words: it runs to an end, its arguments stay, its counters end at zero. -/
theorem frame_kernel : Cert.quiescent_Kernel := by
  intro m ρ _
  rw [defs_same, main_same]
  exact (θ_run Cert.KernelIdeal.defs _ _).mono (fun _ h => ⟨fun c => (h.1 c).1, h.2⟩) (run_main (F := Bits) m ρ)

/-- The same for the kernel over the extended reals. -/
theorem frame_ideal : Cert.quiescent_KernelIdeal := fun m ρ _ =>
  (θ_run Cert.KernelIdeal.defs _ _).mono (fun _ h => ⟨fun c => (h.1 c).1, h.2⟩) (run_main (F := Ideal) m ρ)

/-- The reference runs to an end and leaves its arguments; it has no semaphore at all. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.PagedMerge

end
-- ==== Proof.PreRead.lean ====
module

public import proofs.«01_k».proof.Defs
public import Idealize.ShloMosaic.Lib.Pointwise
public import Idealize.ShloMosaic.Lib.ReduceAll
public import Idealize.ShloMosaic.Lib.WordCmp

set_option maxRecDepth 16384

@[expose] public section

/-!
# What the precondition says

The precondition is one bit, a conjunction over whole arrays. Here it is read back: every entry of the table is
the number of a page, every row has a slot in use, and the queries and keys are real.
-/

namespace Cert.PagedMerge

open Idealize.ShloMosaic Idealize.ShloMosaic.TcCoe Idealize.ShloMosaic.WordCmp

/-- The shape relations of the precondition over a device's arrays. -/
theorem pre_facts : Cert.Pre_defined_inputs_KernelIdeal.Facts where
  bcast_S_S8x64 := by decide
  reducesTo_S8x64_S_d0_1 := by decide
  h_S_ := by decide
  bcast_S_S8 := by decide
  reducesTo_S8_S_d0 := by decide
  bcast_S_S8x1x8x64 := by decide
  reducesTo_S8x1x8x64_S_d0_1_2_3 := by decide
  bcast_S_S64x16x8x64 := by decide
  reducesTo_S64x16x8x64_S_d0_1_2_3 := by decide

/-- The shape relations of the precondition over the whole arrays. -/
theorem pre_facts_reference : Cert.Pre_defined_inputs_ReferenceIdeal.Facts where
  bcast_S_S8x64 := by decide
  reducesTo_S8x64_S_d0_1 := by decide
  h_S_ := by decide
  bcast_S_S8 := by decide
  reducesTo_S8_S_d0 := by decide
  bcast_S_S8x1x8x64 := by decide
  reducesTo_S8x1x8x64_S_d0_1_2_3 := by decide
  bcast_S_S256x16x8x64 := by decide
  reducesTo_S256x16x8x64_S_d0_1_2_3 := by decide

/-- Plus infinity, as the precondition spells it. -/
theorem pos_inf : Ideal.ofBits FTy.f32 2139095040#32 = (⊤ : EReal) := by
  simp [Ideal.ofBits, Ideal.ieee, Nat.shiftRight_eq_div_pow, BitVec.extractLsb', FTy.bits]

/-- A number whose absolute value is below plus infinity is real. -/
theorem real_of_abs_lt {x : EReal} (h : max x (-x) < ⊤) : ((x.toReal : ℝ) : EReal) = x := by
  refine EReal.coe_toReal (fun e => ?_) (fun e => ?_)
  · rw [e] at h; simp at h
  · rw [e] at h; simp at h

/-- A word that is not negative and below 256 is a number below 256. -/
theorem page_of_bounds {w : BitVec 32} (h0 : (0 : ℤ) ≤ w.toInt) (h1 : w.toInt < 256) : ∃ P : Fin 256, w = BitVec.ofNat 32 P.val := by
  have e : w.toInt = (w.toNat : ℤ) := by
    rw [BitVec.toInt_eq_toNat_cond] at h0 ⊢
    split
    · rfl
    · rename_i hn
      rw [if_neg hn] at h0
      have := w.isLt
      omega
  exact ⟨⟨w.toNat, by omega⟩, by simp⟩

section

variable [Cert.Pre_defined_inputs_KernelIdeal.Facts]
open Cert.Pre_defined_inputs_KernelIdeal Cert.Pre_defined_inputs_KernelIdeal.Facts

/-- The conjunction of two bits is one when both are. -/
theorem and_one {a b : BitVec 1} (h : IntOp.andi a b = 1#1) : a = 1#1 ∧ b = 1#1 := IntOp.andi_eq_one.1 h

/-- The precondition, read back. -/
theorem pre_read (q : FVec Ideal S8x1x8x64 .f32) (k v : FVec Ideal S64x16x8x64 .f32) (bt : IVec S8x64 32) (ln : IVec S8 32)
    (h : fn (F := Ideal) q k v bt ln = fun _ => 1#1) :
    (∀ b s, ∃ P : Fin 256, bt (ix2 b s) = BitVec.ofNat 32 P.val) ∧ (∀ b, 1 ≤ (ln (ix1 b)).toInt)
      ∧ (∀ i, (((q i).toReal : ℝ) : EReal) = q i) ∧ (∀ i, (((k i).toReal : ℝ) : EReal) = k i) := by
  have h0 := congrFun h ix0
  obtain ⟨h1, hk⟩ := and_one h0
  obtain ⟨h2, hq⟩ := and_one h1
  obtain ⟨hb, hl⟩ := and_one h2
  have : Subsingleton S_.Idx := ⟨fun a b => funext fun i => i.elim0⟩
  refine ⟨fun b s => ?_, fun b => ?_, fun i => ?_, fun i => ?_⟩
  · obtain ⟨a1, a2⟩ := and_one (Host.reduce_andi_all _ _ _ _ _ hb (ix2 b s))
    have e1 : IntOp.cmpi .sge (bt (ix2 b s)) 0#32 = 1#1 := a1
    have e2 : IntOp.cmpi .slt (bt (ix2 b s)) 256#32 = 1#1 := a2
    rw [cmpi_sge_eq, ofBool_decide_eq_one_iff] at e1
    rw [cmpi_slt_eq, ofBool_decide_eq_one_iff] at e2
    exact page_of_bounds (by simpa using e1) (by simpa using e2)
  · have a := Host.reduce_andi_all _ _ _ _ _ hl (ix1 b)
    have e : IntOp.cmpi .sge (ln (ix1 b)) 1#32 = 1#1 := a
    rw [cmpi_sge_eq, ofBool_decide_eq_one_iff] at e
    simpa using e
  · have a := Host.reduce_andi_all _ _ _ _ _ hq i
    have e : BitVec.ofBool (decide (max (q i) (-(q i)) < Ideal.ofBits FTy.f32 2139095040#32)) = 1#1 := a
    rw [ofBool_decide_eq_one_iff, pos_inf] at e
    exact real_of_abs_lt e
  · have a := Host.reduce_andi_all _ _ _ _ _ hk i
    have e : BitVec.ofBool (decide (max (k i) (-(k i)) < Ideal.ofBits FTy.f32 2139095040#32)) = 1#1 := a
    rw [ofBool_decide_eq_one_iff, pos_inf] at e
    exact real_of_abs_lt e

end

end Cert.PagedMerge

end
-- ==== Proof.Equation.lean ====
module

public import Idealize.ShloMosaic.PureOps.Ideal
public import Mathlib.Algebra.BigOperators.Fin
public import Mathlib.Data.EReal.Operations

@[expose] public section

/-!
# A softmax merged from four parts is the softmax

Extended reals only, no program. The pages of a table are cut into four ranges; each range sums the
exponentials of its keys, every key counted as often as the table names its page, each range about a shift of its
own; the four sums are brought to a common shift, added and divided. That is the softmax-weighted sum over the
table's slots, for any shifts, and whatever the values (infinite ones too).
-/

namespace Cert.PagedMerge

open Idealize.ShloMosaic

/-- The key at row `i` of a device's page `p`. -/
def keyOf (p : Fin 64) (i : Fin 16) : Fin 1024 := ⟨16 * p.val + i.val, by omega⟩

/-- The page of the whole store that is page `p` of range `z`. -/
def pageOf (z : Fin 4) (p : Fin 64) : Fin 256 := ⟨64 * z.val + p.val, by omega⟩

/-- A sum over keys is a sum over pages and rows. -/
theorem sum_keys {M : Type*} [AddCommMonoid M] (f : Fin 1024 → M) : ∑ k, f k = ∑ p, ∑ i, f (keyOf p i) := by
  rw [← (finProdFinEquiv (m := 64) (n := 16)).sum_comp (fun k : Fin (64 * 16) => f k), Fintype.sum_prod_type]
  refine Finset.sum_congr rfl fun p _ => Finset.sum_congr rfl fun i _ => congrArg f (Fin.ext ?_)
  show i.val + 16 * p.val = 16 * p.val + i.val
  omega

/-- A sum over the whole store is a sum over ranges and pages. -/
theorem sum_pages {M : Type*} [AddCommMonoid M] (f : Fin 256 → M) : ∑ k, f k = ∑ z, ∑ p, f (pageOf z p) := by
  rw [← (finProdFinEquiv (m := 4) (n := 64)).sum_comp (fun k : Fin (4 * 64) => f k), Fintype.sum_prod_type]
  refine Finset.sum_congr rfl fun p _ => Finset.sum_congr rfl fun i _ => congrArg f (Fin.ext ?_)
  show i.val + 64 * p.val = 64 * p.val + i.val
  omega

/-- A finite sum of reals is the same sum among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative goes inside a sum of extended reals. -/
theorem sum_mul_real {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
      rw [Finset.sum_insert ha, Finset.sum_insert ha,
        EReal.right_distrib_of_nonneg_of_ne_top (EReal.coe_nonneg.2 hr) (EReal.coe_ne_top r), ih]

/-- A sum of reals that are not negative times an extended real is the sum of the products. -/
theorem real_sum_mul {ι : Type*} (s : Finset ι) (f : ι → ℝ) (hf : ∀ i, 0 ≤ f i) (v : EReal) :
    ((∑ i ∈ s, f i : ℝ) : EReal) * v = ∑ i ∈ s, (f i : EReal) * v := by
  classical
  induction s using Finset.induction_on with
  | empty => simp
  | insert a s ha ih =>
      rw [Finset.sum_insert ha, Finset.sum_insert ha, EReal.coe_add,
        EReal.right_distrib_of_nonneg (EReal.coe_nonneg.2 (hf a)) (EReal.coe_nonneg.2 (Finset.sum_nonneg fun i _ => hf i)), ih]

/-- The largest of finitely many numbers, each real or minus infinity and one of them real, is real. -/
theorem fold_max_real {ι : Type*} (s : Finset ι) (f : ι → EReal) (hf : ∀ i, f i = ⊥ ∨ ∃ r : ℝ, f i = r)
    (hs : ∃ i ∈ s, ∃ r : ℝ, f i = r) : ∃ r : ℝ, s.fold max ⊥ f = r := by
  classical
  have h : (s.fold max ⊥ f = ⊥ ∧ ∀ i ∈ s, f i = ⊥) ∨ ∃ r : ℝ, s.fold max ⊥ f = r := by
    clear hs
    induction s using Finset.induction_on with
    | empty => exact Or.inl ⟨rfl, fun i hi => absurd hi (Finset.notMem_empty i)⟩
    | insert a s ha ih =>
        rw [Finset.fold_insert ha]
        rcases hf a with hx | ⟨x, hx⟩ <;> rcases ih with ⟨h, h'⟩ | ⟨r, h⟩
        · refine Or.inl ⟨by rw [hx, h]; exact max_self _, fun i hi => ?_⟩
          rcases Finset.mem_insert.1 hi with rfl | hi
          · exact hx
          · exact h' i hi
        · exact Or.inr ⟨r, by rw [hx, h]; simp⟩
        · exact Or.inr ⟨x, by rw [hx, h]; simp⟩
        · exact Or.inr ⟨max x r, by rw [hx, h]; rfl⟩
  rcases h with ⟨-, h⟩ | h
  · obtain ⟨i, hi, r, hr⟩ := hs
    rw [h i hi] at hr
    exact absurd hr (EReal.bot_ne_coe r)
  · exact h

/-- How often a table names page `P` among its used slots. -/
noncomputable def named (t : Fin 64 → Fin 256) (u : Fin 64 → Prop) [DecidablePred u] (P : Fin 256) : ℝ :=
  ∑ s, if t s = P ∧ u s then 1 else 0

/-- It is not negative. -/
theorem named_nonneg (t : Fin 64 → Fin 256) (u : Fin 64 → Prop) [DecidablePred u] (P : Fin 256) : 0 ≤ named t u P :=
  Finset.sum_nonneg fun s _ => by split <;> norm_num

/-- Summing over pages, each as often as it is named, is summing over the used slots. -/
theorem sum_named (t : Fin 64 → Fin 256) (u : Fin 64 → Prop) [DecidablePred u] (f : Fin 256 → ℝ) (hf : ∀ P, 0 ≤ f P) (v : Fin 256 → EReal) :
    ∑ P, ((f P * named t u P : ℝ) : EReal) * v P = ∑ s, if u s then ((f (t s) : ℝ) : EReal) * v (t s) else 0 := by
  have h : ∀ P, ((f P * named t u P : ℝ) : EReal) * v P = ∑ s, if t s = P then (if u s then ((f P : ℝ) : EReal) * v P else 0) else 0 := by
    intro P
    rw [named, Finset.mul_sum, real_sum_mul _ _ (fun s => mul_nonneg (hf P) (by split <;> norm_num))]
    refine Finset.sum_congr rfl fun s _ => ?_
    by_cases h1 : t s = P <;> by_cases h2 : u s <;> simp [h1, h2]
  rw [Finset.sum_congr rfl fun P _ => h P, Finset.sum_comm]
  refine Finset.sum_congr rfl fun s _ => ?_
  rw [Finset.sum_ite_eq]
  simp

/-- One key's weighted exponential about its range's shift: a key that is not named counts nothing, whatever stands
    for its score. -/
theorem masked_exp (σ m N w : ℝ) (hw : 0 ≤ w) :
    Ideal.exp ((if (0 : EReal) < (w : EReal) then (σ : EReal) else (N : EReal)) - (m : EReal)) * (w : EReal) = ((Real.exp (σ - m) * w : ℝ) : EReal) := by
  rcases hw.eq_or_lt with rfl | h
  · simp
  · rw [if_pos (EReal.coe_pos.2 h), ← EReal.coe_sub, Ideal.exp_coe, ← EReal.coe_mul]

section Merge

variable (σ : Fin 256 → Fin 16 → ℝ) (v : Fin 256 → Fin 16 → EReal) (t : Fin 64 → Fin 256) (u : Fin 64 → Prop) [DecidablePred u]
  (m : Fin 4 → ℝ) (mm : ℝ)

/-- A key's weighted exponential about the shift `c`. -/
noncomputable def term (c : ℝ) (P : Fin 256) (i : Fin 16) : ℝ := Real.exp (σ P i - c) * named t u P

/-- The exponential of a slot's row about the shift `c`, zero for a slot that is not used. -/
noncomputable def slotTerm (c : ℝ) (s : Fin 64) (i : Fin 16) : ℝ := if u s then Real.exp (σ (t s) i - c) else 0

omit [DecidablePred u] in
/-- It is not negative. -/
theorem slotTerm_nonneg [DecidablePred u] (c : ℝ) (s : Fin 64) (i : Fin 16) : 0 ≤ slotTerm σ t u c s i := by
  unfold slotTerm; split
  · exact (Real.exp_pos _).le
  · exact le_rfl

/-- The four ranges' sums, brought to one shift and added, are the sum over slots. -/
theorem merged_sum (z : Fin 4 → Fin 4) (hz : Function.Bijective z) :
    ∑ a, (∑ p, ∑ i, ((term σ t u (m a) (pageOf (z a) p) i : ℝ) : EReal) * v (pageOf (z a) p) i) * ((Real.exp (m a - mm) : ℝ) : EReal)
      = ∑ s, ∑ i, ((slotTerm σ t u mm s i : ℝ) : EReal) * v (t s) i := by
  have h1 : ∀ a, (∑ p, ∑ i, ((term σ t u (m a) (pageOf (z a) p) i : ℝ) : EReal) * v (pageOf (z a) p) i) * ((Real.exp (m a - mm) : ℝ) : EReal)
      = ∑ p, ∑ i, ((term σ t u mm (pageOf (z a) p) i : ℝ) : EReal) * v (pageOf (z a) p) i := by
    intro a
    rw [sum_mul_real _ _ (Real.exp_pos _).le]
    refine Finset.sum_congr rfl fun p _ => ?_
    rw [sum_mul_real _ _ (Real.exp_pos _).le]
    refine Finset.sum_congr rfl fun i _ => ?_
    rw [mul_right_comm, ← EReal.coe_mul]
    congr 2
    unfold term
    rw [mul_right_comm, ← Real.exp_add]
    congr 2; ring
  rw [Finset.sum_congr rfl fun a _ => h1 a,
    hz.sum_comp (fun a => ∑ p, ∑ i, ((term σ t u mm (pageOf a p) i : ℝ) : EReal) * v (pageOf a p) i),
    ← sum_pages (fun P => ∑ i, ((term σ t u mm P i : ℝ) : EReal) * v P i), Finset.sum_comm,
    Finset.sum_comm (s := (Finset.univ : Finset (Fin 64)))]
  refine Finset.sum_congr rfl fun i _ => ?_
  unfold term
  rw [sum_named t u (fun P => Real.exp (σ P i - mm)) (fun P => (Real.exp_pos _).le) (fun P => v P i)]
  refine Finset.sum_congr rfl fun s _ => ?_
  unfold slotTerm
  split <;> simp

/-- A slot's exponentials about two shifts differ by one factor. -/
theorem slotTerm_shift (c c' : ℝ) (s : Fin 64) (i : Fin 16) :
    slotTerm σ t u c' s i = slotTerm σ t u c s i * Real.exp (c - c') := by
  unfold slotTerm
  split
  · rw [← Real.exp_add]; congr 1; ring
  · simp

/-- Some slot is used: the sum of the exponentials is positive. -/
theorem slot_sum_pos (hu : ∃ s, u s) (c : ℝ) : 0 < ∑ s, ∑ i, slotTerm σ t u c s i := by
  obtain ⟨s, hs⟩ := hu
  refine Finset.sum_pos' (fun s _ => Finset.sum_nonneg fun i _ => slotTerm_nonneg σ t u c s i) ⟨s, Finset.mem_univ _, ?_⟩
  refine Finset.sum_pos (fun i _ => ?_) ⟨0, Finset.mem_univ _⟩
  unfold slotTerm
  rw [if_pos hs]
  exact Real.exp_pos _

/-- The quotient of the merged sums is the softmax-weighted sum over the slots, about any shift `M`. -/
theorem merge_eq (hu : ∃ s, u s) (z : Fin 4 → Fin 4) (hz : Function.Bijective z) (M : ℝ) :
    Ideal.div
        (∑ a, (∑ p, ∑ i, ((term σ t u (m a) (pageOf (z a) p) i : ℝ) : EReal) * v (pageOf (z a) p) i) * ((Real.exp (m a - mm) : ℝ) : EReal))
        (∑ a, (∑ p, ∑ i, ((term σ t u (m a) (pageOf (z a) p) i : ℝ) : EReal)) * ((Real.exp (m a - mm) : ℝ) : EReal))
      = ∑ s, ∑ i, v (t s) i * Ideal.div ((slotTerm σ t u M s i : ℝ) : EReal) (∑ s, ∑ i, ((slotTerm σ t u M s i : ℝ) : EReal)) := by
  have hL := merged_sum σ (fun _ _ => 1) t u m mm z hz
  simp only [mul_one] at hL
  have hD : ∀ c, (∑ s, ∑ i, ((slotTerm σ t u c s i : ℝ) : EReal)) = ((∑ s, ∑ i, slotTerm σ t u c s i : ℝ) : EReal) := by
    intro c
    rw [coe_sum]
    exact Finset.sum_congr rfl fun s _ => (coe_sum _ _).symm
  have hm : ∑ s, ∑ i, slotTerm σ t u mm s i = (∑ s, ∑ i, slotTerm σ t u M s i) * Real.exp (M - mm) := by
    rw [Finset.sum_mul]
    refine Finset.sum_congr rfl fun s _ => ?_
    rw [Finset.sum_mul]
    exact Finset.sum_congr rfl fun i _ => slotTerm_shift σ t u M mm s i
  have hpos := slot_sum_pos σ t u hu M
  have hpos' := slot_sum_pos σ t u hu mm
  rw [merged_sum σ v t u m mm z hz, hL, hD, hD, Ideal.div_coe hpos'.ne', sum_mul_real _ _ (by positivity)]
  refine Finset.sum_congr rfl fun s _ => ?_
  rw [sum_mul_real _ _ (by positivity)]
  refine Finset.sum_congr rfl fun i _ => ?_
  rw [Ideal.div_coe hpos.ne', mul_comm _ (v (t s) i), mul_assoc, ← EReal.coe_mul, ← EReal.coe_mul, slotTerm_shift σ t u M mm, hm]
  congr 2
  have := (Real.exp_pos (M - mm)).ne'
  field_simp

end Merge

end Cert.PagedMerge

end
-- ==== Proof.LocalValue.lean ====
module

public import proofs.«01_k».proof.Proof.Vals
public import proofs.«01_k».proof.Proof.Equation
public import Idealize.ShloMosaic.Lib.Pointwise

set_option maxRecDepth 16384

@[expose] public section

/-!
# One device's partial results, read at an index

Over the extended reals, for a device that holds range `z` of the store: its weights are the counts of its pages
in the table, its scores are the scaled products, and its three partial results are a shift, a sum of weighted exponentials about
that shift, and the same sum against the values.
-/

namespace Cert.PagedMerge

open Idealize.ShloMosaic Idealize.ShloMosaic.TcCoe
open Cert.KernelIdeal Cert.KernelIdeal.Gen

/-- The arrays the whole computation is about: real queries and keys, any values, a table of pages of the store, counts. -/
structure Whole where
  /-- queries, by row, head and feature -/
  Q : Fin 8 → Fin 8 → Fin 64 → ℝ
  /-- keys, by page, row of the page, head and feature -/
  K : Fin 256 → Fin 16 → Fin 8 → Fin 64 → ℝ
  /-- values, likewise -/
  W : Fin 256 → Fin 16 → Fin 8 → Fin 64 → EReal
  /-- the page each slot names -/
  t : Fin 8 → Fin 64 → Fin 256
  /-- how many slots of each row are used -/
  l : Fin 8 → BitVec 32

/-- Slot `s` of row `b` is used. -/
def Whole.used (g : Whole) (b : Fin 8) (s : Fin 64) : Prop := (BitVec.ofNat 32 s.val).slt (g.l b) = true

/-- Whether a slot is used can be decided. -/
instance (g : Whole) (b : Fin 8) : DecidablePred (g.used b) := fun _ => inferInstanceAs (Decidable (_ = true))

/-- The scaled score of a key of the store. -/
noncomputable def Whole.sc (g : Whole) (b h : Fin 8) (P : Fin 256) (i : Fin 16) : ℝ := (∑ d, g.Q b h d * g.K P i h d) * (1 / 8)

/-- What a device that holds range `z` reads, in terms of the whole arrays. -/
structure Reads (x : Ins Ideal) (z : Fin 4) (g : Whole) : Prop where
  q : ∀ b h d, x.q (ix4 b 0 h d) = (g.Q b h d : EReal)
  k : ∀ h p i d, x.k (ix3 h (keyOf p i) d) = (g.K (pageOf z p) i h d : EReal)
  v : ∀ h p i d, x.v (ix3 h (keyOf p i) d) = g.W (pageOf z p) i h d
  bt : ∀ b s, x.bt (ix2 b s) = BitVec.ofNat 32 (g.t b s).val
  ln : ∀ b, x.ln (ix1 b) = g.l b
  base : x.base = BitVec.ofNat 32 (64 * z.val)

/-! ## The boxes of a head -/

/-- A coordinate of an index moved into a box. -/
theorem unit_emb_val {s : Shape} (o sz : Fin s.rank → ℕ) (inb) (y : (Rect.unit (s := s) o sz inb).shape.Idx) (a : Fin s.rank) :
    ((Rect.unit (s := s) o sz inb).emb y a).val = o a + (y a).val := by
  show o a + 1 * (y a).val = o a + (y a).val
  rw [Nat.one_mul]

/-- The queries of a head are that head's queries. -/
theorem qh_at {F : FTy → Type} [FloatOps F] (x : Ins F) (h b : Fin 8) (d : Fin 64) : qh x h (ix4 b 0 0 d) = x.q (ix4 b 0 h d) := by
  refine congrArg x.q (funext fun a => Fin.ext ?_)
  refine (unit_emb_val (s := S8x1x8x64) _ _ _ _ a).trans ?_
  fin_cases a <;> simp [ix4]

/-- The keys of a head are that head's keys. -/
theorem kh_at {F : FTy → Type} [FloatOps F] (x : Ins F) (h : Fin 8) (k : Fin 1024) (d : Fin 64) : kh x h (ix3 0 k d) = x.k (ix3 h k d) := by
  refine congrArg x.k (funext fun a => Fin.ext ?_)
  refine (unit_emb_val (s := S8x1024x64) _ _ _ _ a).trans ?_
  fin_cases a <;> simp [ix3]

/-- The values of a head are that head's values. -/
theorem vh_at {F : FTy → Type} [FloatOps F] (x : Ins F) (h : Fin 8) (k : Fin 1024) (d : Fin 64) : vh x h (ix3 0 k d) = x.v (ix3 h k d) := by
  refine congrArg x.v (funext fun a => Fin.ext ?_)
  refine (unit_emb_val (s := S8x1024x64) _ _ _ _ a).trans ?_
  fin_cases a <;> simp [ix3]

/-! ## Constants -/

/-- The scale. -/
theorem scale_eq : Ideal.ofBits FTy.f32 1040187392#32 = ((1 / 8 : ℝ) : EReal) := by
  simp [Ideal.ofBits, Ideal.ieee, Nat.shiftRight_eq_div_pow, BitVec.extractLsb']
  norm_num

/-- What stands for the score of a key not counted is some real. -/
theorem low_real : ∃ r : ℝ, Ideal.ofBits FTy.f32 4048155338#32 = (r : EReal) := by
  simp [Ideal.ofBits, Ideal.ieee, Nat.shiftRight_eq_div_pow, BitVec.extractLsb']
  exact ⟨_, rfl⟩

/-- The initial value of a maximum. -/
theorem neg_inf : Ideal.ofBits FTy.f32 4286578688#32 = (⊥ : EReal) := by
  simp [Ideal.ofBits, Ideal.ieee, Nat.shiftRight_eq_div_pow, BitVec.extractLsb', FTy.bits]

/-! ## Whole-number division -/

/-- The page number of a key within its device, as the program divides. -/
theorem page_word (k : Fin 1024) :
    Scalar.select
        (IntOp.andi
          (IntOp.cmpi CmpIPredicate.ne
            (IntOp.subi (BitVec.setWidth 32 (IntOp.cmpi CmpIPredicate.sgt (BitVec.ofNat 32 k.val) 0#32))
              (BitVec.setWidth 32 (IntOp.cmpi CmpIPredicate.slt (BitVec.ofNat 32 k.val) 0#32)))
            (Scalar.subi (Scalar.extui (Scalar.cmpi CmpIPredicate.sgt 16#32 0#32)) (Scalar.extui (Scalar.cmpi CmpIPredicate.slt 16#32 0#32))))
          (IntOp.cmpi CmpIPredicate.ne (IntOp.remsi ArithUnit.vector (BitVec.ofNat 32 k.val) 16#32) 0#32))
        (IntOp.subi (IntOp.divsi ArithUnit.vector (BitVec.ofNat 32 k.val) 16#32) 1#32)
        (IntOp.divsi ArithUnit.vector (BitVec.ofNat 32 k.val) 16#32)
      = BitVec.ofNat 32 (k.val / 16) := by
  revert k
  decide +kernel

/-- A page number as a float is that number. -/
theorem word_float (n : ℕ) (hn : n < 256) : (FloatOps.sitofp FTy.f32 (BitVec.ofNat 32 n) : Ideal .f32) = ((n : ℝ) : EReal) := by
  show (((BitVec.ofNat 32 n).toInt : ℝ) : EReal) = _
  have h : (BitVec.ofNat 32 n).toInt = (n : ℤ) := by
    rw [BitVec.toInt_eq_toNat_of_lt (by simp; omega)]; simp; omega
  rw [h]; simp

variable {x : Ins Ideal} {z : Fin 4} {g : Whole}

/-- The page a key lies on. -/
theorem pages_at (H : Reads x z g) (s : Fin 64) (p : Fin 64) (i : Fin 16) :
    pages x (ix2 s (keyOf p i)) = (((pageOf z p).val : ℝ) : EReal) := by
  pointwise [pages, k0_pay2, k0_pay3, k0_pay4, k0_pay5]
  rw [page_word, H.base]
  have h : (keyOf p i).val / 16 = p.val := by show (16 * p.val + i.val) / 16 = p.val; omega
  have e : IntOp.addi (BitVec.ofNat 32 (64 * z.val)) (BitVec.ofNat 32 ((keyOf p i).val / 16)) = BitVec.ofNat 32 (pageOf z p).val := by
    rw [h]; exact (BitVec.ofNat_add _ _).symm
  rw [e, word_float _ (pageOf z p).isLt]

/-- The transposed table at a slot of a row is the page it names. -/
theorem table_at (H : Reads x z g) (s : Fin 64) (b : Fin 8) : k0_pay6 (F := Ideal) x.bt (ix2 s b) = (((g.t b s).val : ℝ) : EReal) := by
  pointwise [k0_pay6]
  have h : ∀ j : Fin 64, Scalar.select (IntOp.cmpi CmpIPredicate.eq (BitVec.ofNat 32 s.val) (BitVec.ofNat 32 j.val))
      (FloatOps.sitofp FTy.f32 (x.bt (ix2 b j)) : Ideal .f32) 0 = if s = j then (((g.t b j).val : ℝ) : EReal) else 0 := by
    intro j
    rw [H.bt, word_float _ (g.t b j).isLt]
    by_cases hj : s = j
    · subst hj; simp [Scalar.select, IntOp.cmpi]
    · have : ¬ BitVec.ofNat 32 s.val = BitVec.ofNat 32 j.val := by
        intro e
        have := congrArg BitVec.toNat e
        simp at this
        exact hj (Fin.ext (by omega))
      have hb : (BitVec.ofNat 32 s.val == BitVec.ofNat 32 j.val) = false := beq_eq_false_iff_ne.2 this
      simp [Scalar.select, IntOp.cmpi, hj, hb]
  rw [Finset.sum_congr rfl fun j _ => h j, Finset.sum_ite_eq]
  simp

/-- A key's weight is the number of used slots that name its page. -/
theorem wts_at (H : Reads x z g) (b : Fin 8) (p : Fin 64) (i : Fin 16) :
    wts x (ix2 b (keyOf p i)) = ((named (g.t b) (g.used b) (pageOf z p) : ℝ) : EReal) := by
  show rowOf (pages x) slots (k0_pay6 x.bt) b (x.ln (ix1 b)) (ix2 0 (keyOf p i)) = _
  rw [H.ln]
  have h : ∀ s : Fin 64, Scalar.select (IntOp.andi (BitVec.ofBool (decide (k0_pay6 (F := Ideal) x.bt (ix2 s b) = pages x (ix2 s (keyOf p i)))))
      (IntOp.cmpi .slt (slots (ix2 s (keyOf p i))) (g.l b))) (1 : EReal) 0
        = (((if g.t b s = pageOf z p ∧ g.used b s then 1 else 0 : ℝ)) : EReal) := by
    intro s
    rw [table_at H, pages_at H]
    have hs : slots (ix2 s (keyOf p i)) = BitVec.ofNat 32 s.val := by pointwise [slots]
    rw [hs]
    by_cases h1 : g.t b s = pageOf z p <;> by_cases h2 : g.used b s
    · have h2' : (BitVec.ofNat 32 s.val).slt (g.l b) = true := h2
      simp [h1, h2, h2', Scalar.select, IntOp.andi, IntOp.cmpi]
    · have h2' : (BitVec.ofNat 32 s.val).slt (g.l b) = false := by simpa [Whole.used] using h2
      simp [h1, h2, h2', Scalar.select, IntOp.andi, IntOp.cmpi]
    · have : ¬ (g.t b s).val = (pageOf z p).val := fun e => h1 (Fin.ext e)
      simp [h1, this, Scalar.select, IntOp.andi, IntOp.cmpi]
    · have : ¬ (g.t b s).val = (pageOf z p).val := fun e => h1 (Fin.ext e)
      simp [h1, this, Scalar.select, IntOp.andi, IntOp.cmpi]
  unfold named
  rw [coe_sum, ← Finset.sum_congr rfl fun s _ => h s]
  pointwise [rowOf]

/-- A head's scores. -/
theorem score_at (H : Reads x z g) (h b : Fin 8) (p : Fin 64) (i : Fin 16) :
    score x h (ix2 b (keyOf p i)) = ((g.sc b h (pageOf z p) i : ℝ) : EReal) := by
  have e : score x h (ix2 b (keyOf p i)) = (∑ d, qh x h (ix4 b 0 0 d) * kh x h (ix3 0 (keyOf p i) d)) * Ideal.ofBits FTy.f32 1040187392#32 := by
    pointwise [score, k0_pay19]
  rw [e, scale_eq]
  unfold Whole.sc
  rw [EReal.coe_mul, coe_sum]
  congr 1
  refine Finset.sum_congr rfl fun d _ => ?_
  rw [qh_at, kh_at, H.q, H.k, EReal.coe_mul]

/-- A head's largest score, as a device folds it. -/
noncomputable def top (x : Ins Ideal) (h b : Fin 8) : EReal :=
  Finset.fold max ⊥ (fun k => if 0 < wts x (ix2 b k) then score x h (ix2 b k) else Ideal.ofBits FTy.f32 4048155338#32) Finset.univ

/-- Every key is a row of a page. -/
theorem keyOf_surj (k : Fin 1024) : ∃ p i, keyOf p i = k :=
  ⟨⟨k.val / 16, by omega⟩, ⟨k.val % 16, by omega⟩, Fin.ext (Nat.div_add_mod k.val 16)⟩

/-- It is real. -/
theorem top_real (H : Reads x z g) (h b : Fin 8) : ∃ r : ℝ, top x h b = r := by
  have hr : ∀ k, ∃ r : ℝ, (if 0 < wts x (ix2 b k) then score x h (ix2 b k) else Ideal.ofBits FTy.f32 4048155338#32) = (r : EReal) := by
    intro k
    obtain ⟨p, i, rfl⟩ := keyOf_surj k
    split
    · exact ⟨_, score_at H h b p i⟩
    · exact low_real
  exact fold_max_real _ _ (fun k => Or.inr (hr k)) ⟨0, Finset.mem_univ _, hr 0⟩

/-- The first partial result. -/
theorem headM_at (x : Ins Ideal) (h b : Fin 8) : headM x h (ix4 0 0 b 0) = top x h b := by
  unfold top
  rw [← neg_inf]
  pointwise [headM, k0_pay25, k0_pay22, k0_pay21, k0_pay18, k0_pay20]

/-- One key's weighted exponential about the device's shift. -/
theorem exp_at (H : Reads x z g) (h b : Fin 8) (p : Fin 64) (i : Fin 16) {m : ℝ} (hm : top x h b = m) :
    Ideal.exp ((if 0 < wts x (ix2 b (keyOf p i)) then score x h (ix2 b (keyOf p i)) else Ideal.ofBits FTy.f32 4048155338#32) - top x h b)
        * wts x (ix2 b (keyOf p i))
      = ((term (g.sc b h) (g.t b) (g.used b) m (pageOf z p) i : ℝ) : EReal) := by
  obtain ⟨N, hN⟩ := low_real
  rw [hm, wts_at H, score_at H, hN]
  exact masked_exp _ _ _ _ (named_nonneg _ _ _)

/-- The second: the sum of the weighted exponentials. -/
theorem headL_at (H : Reads x z g) (h b : Fin 8) {m : ℝ} (hm : top x h b = m) :
    headL x h (ix4 0 0 b 0) = ∑ p, ∑ i, ((term (g.sc b h) (g.t b) (g.used b) m (pageOf z p) i : ℝ) : EReal) := by
  have e : headL x h (ix4 0 0 b 0) = ∑ k, Ideal.exp ((if 0 < wts x (ix2 b k) then score x h (ix2 b k) else Ideal.ofBits FTy.f32 4048155338#32) - top x h b)
        * wts x (ix2 b k) := by
    unfold top
    rw [← neg_inf]
    pointwise [headL, k0_pay26, k0_pay23, k0_pay22, k0_pay21, k0_pay18, k0_pay20]
  rw [e, sum_keys]
  exact Finset.sum_congr rfl fun p _ => Finset.sum_congr rfl fun i _ => exp_at H h b p i hm

/-- The third: the same sum against the values. -/
theorem headO_at (H : Reads x z g) (h b : Fin 8) (d : Fin 64) {m : ℝ} (hm : top x h b = m) :
    headO x h (ix4 0 b 0 d)
      = ∑ p, ∑ i, ((term (g.sc b h) (g.t b) (g.used b) m (pageOf z p) i : ℝ) : EReal) * g.W (pageOf z p) i h d := by
  have e : headO x h (ix4 0 b 0 d) = ∑ k, Ideal.exp ((if 0 < wts x (ix2 b k) then score x h (ix2 b k) else Ideal.ofBits FTy.f32 4048155338#32) - top x h b)
        * wts x (ix2 b k) * vh x h (ix3 0 k d) := by
    unfold top
    rw [← neg_inf]
    pointwise [headO, k0_pay24, k0_pay23, k0_pay22, k0_pay21, k0_pay18, k0_pay20]
  rw [e, sum_keys]
  refine Finset.sum_congr rfl fun p _ => Finset.sum_congr rfl fun i _ => ?_
  rw [exp_at H h b p i hm, vh_at, H.v]

end Cert.PagedMerge

end
-- ==== Proof.MergeValue.lean ====
module

public import proofs.«01_k».proof.Proof.LocalValue

set_option maxRecDepth 16384

@[expose] public section

/-!
# The merge of four devices, read at an index

Over the extended reals: four devices that hold the four ranges of the store, in any order, merge their partial
results into the softmax-weighted sum over the slots of the table.
-/

noncomputable section

namespace Cert.PagedMerge

open Idealize.ShloMosaic Idealize.ShloMosaic.TcCoe
open Cert.KernelIdeal Cert.KernelIdeal.Gen

/-- The maxima of a head on the four devices. -/
theorem stAt_zero {F : FTy → Type} [FloatOps F] (xs : Fin 4 → Ins F) (a : Fin 4) (h b : Fin 8) :
    stAt xs 0 h (ix4 a 0 b 0) = headM (xs a) h (ix4 0 0 b 0) := by
  have e : (Rect.unit (s := S4x2x8x8) ![0, (0 : Fin 2).val, 0, h.val] S4x1x8x1.size (st_inb 0 h)).emb (ix4 a 0 b 0) = ix4 a 0 b h := by
    refine funext fun d => Fin.ext ?_
    refine (unit_emb_val (s := S4x2x8x8) _ _ _ _ d).trans ?_
    fin_cases d <;> simp [ix4]
  unfold stAt
  rw [e]
  rfl

/-- The sums of weights of a head on the four devices. -/
theorem stAt_one {F : FTy → Type} [FloatOps F] (xs : Fin 4 → Ins F) (a : Fin 4) (h b : Fin 8) :
    stAt xs 1 h (ix4 a 0 b 0) = headL (xs a) h (ix4 0 0 b 0) := by
  have e : (Rect.unit (s := S4x2x8x8) ![0, (1 : Fin 2).val, 0, h.val] S4x1x8x1.size (st_inb 1 h)).emb (ix4 a 0 b 0) = ix4 a 1 b h := by
    refine funext fun d => Fin.ext ?_
    refine (unit_emb_val (s := S4x2x8x8) _ _ _ _ d).trans ?_
    fin_cases d <;> simp [ix4]
  unfold stAt
  rw [e]
  rfl

/-- The weighted values of a head on the four devices. -/
theorem ovAt_at {F : FTy → Type} [FloatOps F] (xs : Fin 4 → Ins F) (a : Fin 4) (h b : Fin 8) (d : Fin 64) :
    ovAt xs h (ix4 a b 0 d) = headO (xs a) h (ix4 0 b 0 d) := by
  have e : (Rect.unit (s := S4x8x8x64) ![0, 0, h.val, 0] S4x8x1x64.size (ov_inb h)).emb (ix4 a b 0 d) = ix4 a b h d := by
    refine funext fun c => Fin.ext ?_
    refine (unit_emb_val (s := S4x8x8x64) _ _ _ _ c).trans ?_
    fin_cases c <;> simp [ix4]
  unfold ovAt
  rw [e]
  rfl

/-- One merged number in terms of the three partial results of the four devices. -/
theorem headOut_at (xs : Fin 4 → Ins Ideal) (h b : Fin 8) (d : Fin 64) :
    headOut xs h (ix4 b 0 0 d)
      = Ideal.div
          (∑ a, headO (xs a) h (ix4 0 b 0 d) * Ideal.exp (top (xs a) h b - Finset.fold max ⊥ (fun a => top (xs a) h b) Finset.univ))
          (∑ a, headL (xs a) h (ix4 0 0 b 0) * Ideal.exp (top (xs a) h b - Finset.fold max ⊥ (fun a => top (xs a) h b) Finset.univ)) := by
  have e : ∀ (s0 s1 : Vec Ideal S4x1x8x1 .f32) (o : Vec Ideal S4x8x1x64 .f32), k0_pay86 s0 s1 o (ix4 b 0 0 d)
      = Ideal.div
          (∑ a, o (ix4 a b 0 d) * Ideal.exp (s0 (ix4 a 0 b 0) - Finset.fold max ⊥ (fun a => s0 (ix4 a 0 b 0)) Finset.univ))
          (∑ a, s1 (ix4 a 0 b 0) * Ideal.exp (s0 (ix4 a 0 b 0) - Finset.fold max ⊥ (fun a => s0 (ix4 a 0 b 0)) Finset.univ)) := by
    intro s0 s1 o
    rw [← neg_inf]
    pointwise [k0_pay86]
  unfold headOut
  rw [e]
  simp only [stAt_zero, stAt_one, ovAt_at, headM_at]

/-- The merged result: the softmax-weighted sum over the slots, about any shift `M`. -/
theorem outAll_at {xs : Fin 4 → Ins Ideal} {z : Fin 4 → Fin 4} (hz : Function.Bijective z) {g : Whole} (H : ∀ a, Reads (xs a) (z a) g)
    (b h : Fin 8) (d : Fin 64) (hu : ∃ s, g.used b s) (M : ℝ) :
    outAll xs (ix4 b 0 h d)
      = ∑ s, ∑ i, g.W (g.t b s) i h d * Ideal.div ((slotTerm (g.sc b h) (g.t b) (g.used b) M s i : ℝ) : EReal)
          (∑ s, ∑ i, ((slotTerm (g.sc b h) (g.t b) (g.used b) M s i : ℝ) : EReal)) := by
  show headOut xs h (ix4 b 0 0 d) = _
  choose m hm using fun a => top_real (H a) h b
  obtain ⟨mm, hmm⟩ := fold_max_real Finset.univ (fun a => top (xs a) h b) (fun a => Or.inr ⟨m a, hm a⟩) ⟨0, Finset.mem_univ _, m 0, hm 0⟩
  rw [headOut_at, hmm]
  have e : ∀ a, Ideal.exp (top (xs a) h b - (mm : EReal)) = ((Real.exp (m a - mm) : ℝ) : EReal) := by
    intro a
    rw [hm a, ← EReal.coe_sub, Ideal.exp_coe]
  rw [← merge_eq (g.sc b h) (fun P i => g.W P i h d) (g.t b) (g.used b) m mm hu z hz M]
  congr 1
  · exact Finset.sum_congr rfl fun a _ => by rw [e, headO_at (H a) h b d (hm a)]
  · exact Finset.sum_congr rfl fun a _ => by rw [e, headL_at (H a) h b (hm a)]

end Cert.PagedMerge

end
-- ==== Proof.InsValue.lean ====
module

public import proofs.«01_k».proof.Proof.Run
public import proofs.«01_k».proof.Proof.MergeValue
public import Idealize.ShloMosaic.Lib.StableHlo.ReadAt

set_option maxRecDepth 16384

@[expose] public section

/-!
# What a device reads, in terms of the arrays it is launched with

The blocks its body is given are its five arguments, the two stores laid out by head; the number of its
first page comes from its place in the mesh.
-/

noncomputable section

namespace Cert.PagedMerge

open Idealize.ShloMosaic Idealize.ShloMosaic.TcCoe
open Cert.KernelIdeal Cert.KernelIdeal.Gen

variable {F : FTy → Type} [FloatOps F] (m : (ℓ : Loc nD τ sig) → Buf (Elt F) ℓ) (c : Dev nD)

/-- The queries are the first argument. -/
theorem ins_q : (insOf m c).q = m ((c : Thread nD τ).loc main_arg0) := by
  have hz : (fun a => (win0_0.index t0_0) a * main_arg0.ty.shape.size a) = fun _ => 0 := funext fun a => by fin_cases a <;> decide
  exact (Memref.read_access_unit_zero (Elt F) main_arg0 hz (fun a => by fin_cases a <;> decide) _).trans (V_main_arg0 m c)

/-- The table is the fourth. -/
theorem ins_bt : (insOf m c).bt = m ((c : Thread nD τ).loc main_arg3) := by
  have hz : (fun a => (win0_3.index t0_0) a * main_arg3.ty.shape.size a) = fun _ => 0 := funext fun a => by fin_cases a <;> decide
  exact (Memref.read_access_unit_zero (Elt F) main_arg3 hz (fun a => by fin_cases a <;> decide) _).trans (V_main_arg3 m c)

/-- The counts are the fifth. -/
theorem ins_ln : (insOf m c).ln = m ((c : Thread nD τ).loc main_arg4) := by
  have hz : (fun a => (win0_4.index t0_0) a * main_arg4.ty.shape.size a) = fun _ => 0 := funext fun a => by fin_cases a <;> decide
  exact (Memref.read_access_unit_zero (Elt F) main_arg4 hz (fun a => by fin_cases a <;> decide) _).trans (V_main_arg4 m c)

/-- The block of the keys is the whole array. -/
theorem read_keys (f : (⟨S8x1024x64, .f32⟩ : BufTy).Contents (Elt F)) : ((cfg0.win 1).blk t0_0).view.read (Elt F) f = f := by
  have hz : (fun a => (win0_1.index t0_0) a * main_v2.ty.shape.size a) = fun _ => 0 := funext fun a => by fin_cases a <;> decide
  exact Memref.read_access_unit_zero (Elt F) main_v2 hz (fun a => by fin_cases a <;> decide) f

/-- The keys are the second argument laid out by head. -/
theorem ins_k (h : Fin 8) (p : Fin 64) (i : Fin 16) (d : Fin 64) :
    (insOf m c).k (ix3 h (keyOf p i) d) = (m ((c : Thread nD τ).loc main_arg1) : Vec F S64x16x8x64 .f32) (ix4 p i h d) := by
  have e : (insOf m c).k = V m c main_v2 := by
    show iblk m c 1 t0_0 = _
    unfold iblk
    exact read_keys (F := F) _
  have r : ∀ k : Fin 1024, (V m c main_v2 : Vec F S8x1024x64 .f32) (ix3 h k d)
      = (m ((c : Thread nD τ).loc main_arg1) : Vec F S64x16x8x64 .f32) (ix4 ⟨k.val / 16, by omega⟩ ⟨k.val % 16, by omega⟩ h d) := by
    intro k
    unfold V hostOps0
    after_reads_at
  rw [e, r]
  have h1 : (⟨(keyOf p i).val / 16, by omega⟩ : Fin 64) = p := Fin.ext (by show (16 * p.val + i.val) / 16 = p.val; omega)
  have h2 : (⟨(keyOf p i).val % 16, by omega⟩ : Fin 16) = i := Fin.ext (by show (16 * p.val + i.val) % 16 = i.val; omega)
  rw [h1, h2]

/-- The block of the values is the whole array. -/
theorem read_values (f : (⟨S8x1024x64, .f32⟩ : BufTy).Contents (Elt F)) : ((cfg0.win 2).blk t0_0).view.read (Elt F) f = f := by
  have hz : (fun a => (win0_2.index t0_0) a * main_v4.ty.shape.size a) = fun _ => 0 := funext fun a => by fin_cases a <;> decide
  exact Memref.read_access_unit_zero (Elt F) main_v4 hz (fun a => by fin_cases a <;> decide) f

/-- The values are the third argument laid out by head. -/
theorem ins_v (h : Fin 8) (p : Fin 64) (i : Fin 16) (d : Fin 64) :
    (insOf m c).v (ix3 h (keyOf p i) d) = (m ((c : Thread nD τ).loc main_arg2) : Vec F S64x16x8x64 .f32) (ix4 p i h d) := by
  have e : (insOf m c).v = V m c main_v4 := by
    show iblk m c 2 t0_0 = _
    unfold iblk
    exact read_values (F := F) _
  have r : ∀ k : Fin 1024, (V m c main_v4 : Vec F S8x1024x64 .f32) (ix3 h k d)
      = (m ((c : Thread nD τ).loc main_arg2) : Vec F S64x16x8x64 .f32) (ix4 ⟨k.val / 16, by omega⟩ ⟨k.val % 16, by omega⟩ h d) := by
    intro k
    unfold V hostOps0
    after_reads_at
  rw [e, r]
  have h1 : (⟨(keyOf p i).val / 16, by omega⟩ : Fin 64) = p := Fin.ext (by show (16 * p.val + i.val) / 16 = p.val; omega)
  have h2 : (⟨(keyOf p i).val % 16, by omega⟩ : Fin 16) = i := Fin.ext (by show (16 * p.val + i.val) % 16 = i.val; omega)
  rw [h1, h2]

/-- The range of the store that device `c` holds. -/
def rangeOf (c : Dev nD) : Fin 4 := ⟨c.val % 4, Nat.mod_lt _ (by decide)⟩

/-- The number of a device's first page. -/
theorem ins_base : (insOf m c).base = BitVec.ofNat 32 (64 * (rangeOf c).val) := by
  show Scalar.muli (zOf c) 64#32 = _
  revert c
  decide

/-- The four devices that exchange hold the four ranges. -/
theorem ranges_bij (c : Dev nD) : Function.Bijective fun a => rangeOf (srcD c a) := by
  revert c
  decide

end Cert.PagedMerge

end
-- ==== Proof.RefValue.lean ====
module

public import proofs.«01_k».proof.Proof.LocalValue
public import proofs.«01_k».proof.Proof.Gen.ReferenceIdeal.Run

set_option maxRecDepth 16384

@[expose] public section

/-!
# The reference's result, read at an index

The reference gathers every row's pages into one long sequence, scores it, drops the slots that are not used, takes
the softmax and sums the values. Here is its result at one index, over the extended reals.
-/

noncomputable section

namespace Cert.PagedMerge.Ref

open Idealize.ShloMosaic Idealize.ShloMosaic.TcCoe
open Cert.PagedMerge
open Cert.ReferenceIdeal Cert.ReferenceIdeal.Facts₀ Cert.ReferenceIdeal.Facts

/-- The page numbers the gather is given: a negative one counts from the end. -/
def starts (bt : IVec S8x64 32) : IVec S8x64x1 32 :=
  broadcastInDim S8x64x1 ![0, 1] bcast_S8x64_S8x64x1_0_1
    (select (cmpi .slt bt (broadcastInDim S8x64 ![] bcast_S_S8x64 (constantI S_ 32 0#32)))
      (addi bt (broadcastInDim S8x64 ![] bcast_S_S8x64 (constantI S_ 32 256#32))) bt)

/-- The pages of a store that the table names. -/
def named5 (x : FVec Ideal S256x16x8x64 .f32) (bt : IVec S8x64 32) : FVec Ideal S8x64x16x8x64 .f32 :=
  Host.gather gather_S256x16x8x64_S8x64x1_S8x64x16x8x64_234_0_n_n_0_2_116864 x (starts bt)

/-- The same, every row's pages one after another. -/
def laid (x : FVec Ideal S256x16x8x64 .f32) (bt : IVec S8x64 32) : FVec Ideal S8x1024x8x64 .f32 :=
  shapeCast _ (named5 x bt) shapeCasts_S8x64x16x8x64_S8x1024x8x64

/-- The slot of each key. -/
def slotOf : IVec S1x1024 32 :=
  select
    (andi
      (cmpi .ne (signi (broadcastInDim S1x1024 ![1] bcast_S1024_S1x1024_1 (iotaInDim S1024 32 0)))
        (broadcastInDim S1x1024 ![] bcast_S_S1x1024 (signi (id (constantI S_ 32 16#32)))))
      (cmpi .ne
        (Host.remsi (broadcastInDim S1x1024 ![1] bcast_S1024_S1x1024_1 (iotaInDim S1024 32 0))
          (broadcastInDim S1x1024 ![] bcast_S_S1x1024 (id (constantI S_ 32 16#32))))
        (broadcastInDim S1x1024 ![] bcast_S_S1x1024 (constantI S_ 32 0#32))))
    (subi
      (Host.divsi (broadcastInDim S1x1024 ![1] bcast_S1024_S1x1024_1 (iotaInDim S1024 32 0))
        (broadcastInDim S1x1024 ![] bcast_S_S1x1024 (id (constantI S_ 32 16#32))))
      (broadcastInDim S1x1024 ![] bcast_S_S1x1024 (constantI S_ 32 1#32)))
    (Host.divsi (broadcastInDim S1x1024 ![1] bcast_S1024_S1x1024_1 (iotaInDim S1024 32 0))
      (broadcastInDim S1x1024 ![] bcast_S_S1x1024 (id (constantI S_ 32 16#32))))

/-- Which keys are used. -/
def mask (ln : IVec S8 32) : IVec S8x8x1x1024 1 :=
  broadcastInDim S8x8x1x1024 ![0, 1, 2, 3] bcast_S8x1x1x1024_S8x8x1x1024_0_1_2_3
    (broadcastInDim S8x1x1x1024 ![0, 3] bcast_S8x1024_S8x1x1x1024_0_3
      (cmpi .slt (broadcastInDim S8x1024 ![0, 1] bcast_S1x1024_S8x1024_0_1 slotOf)
        (broadcastInDim S8x1024 ![0, 1] bcast_S8x1_S8x1024_0_1 (broadcastInDim S8x1 ![0] bcast_S8_S8x1_0 ln))))

/-- The scores, minus infinity where a key is not used. -/
def scores (q : FVec Ideal S8x1x8x64 .f32) (k : FVec Ideal S256x16x8x64 .f32) (bt : IVec S8x64 32) (ln : IVec S8 32) : FVec Ideal S8x8x1x1024 .f32 :=
  select (mask ln)
    (mulf (Host.dotGeneral dot_S8x1x8x64_S8x1024x8x64_S8x8x1x1024_3_3_1_1_02_02 none q (laid k bt))
      (broadcastInDim S8x8x1x1024 ![] bcast_S_S8x8x1x1024 (constant S_ .f32 0x3E000000#32)))
    (broadcastInDim S8x8x1x1024 ![] bcast_S_S8x8x1x1024 (id (constant S_ .f32 0xFF800000#32)))

/-- The exponentials of the scores about their largest. -/
def exps (s : FVec Ideal S8x8x1x1024 .f32) : FVec Ideal S8x8x1x1024 .f32 :=
  Host.exp (subf s
    (broadcastInDim S8x8x1x1024 ![0, 1, 2, 3] bcast_S8x8x1x1_S8x8x1x1024_0_1_2_3
      (broadcastInDim S8x8x1x1 ![0, 1, 2] bcast_S8x8x1_S8x8x1x1_0_1_2
        (Host.reduce FloatOps.maximumf s (constant S_ .f32 0xFF800000#32) reducesTo_S8x8x1x1024_S8x8x1_d3 h_S_))))

/-- The softmax. -/
def soft (e : FVec Ideal S8x8x1x1024 .f32) : FVec Ideal S8x8x1x1024 .f32 :=
  Host.divf e
    (broadcastInDim S8x8x1x1024 ![0, 1, 2, 3] bcast_S8x8x1x1_S8x8x1x1024_0_1_2_3
      (broadcastInDim S8x8x1x1 ![0, 1, 2] bcast_S8x8x1_S8x8x1x1_0_1_2
        (Host.reduceAdd e (constant S_ .f32 0x00000000#32) reducesTo_S8x8x1x1024_S8x8x1_d3 h_S_)))

/-- The whole. -/
def out (q : FVec Ideal S8x1x8x64 .f32) (k v : FVec Ideal S256x16x8x64 .f32) (bt : IVec S8x64 32) (ln : IVec S8 32) : FVec Ideal S8x1x8x64 .f32 :=
  transpose S8x1x8x64 [0, 3, 1, 2]
    (Host.dotGeneral dot_S8x1024x8x64_S8x8x1x1024_S8x8x64x1_1_3_3_2_02_01 none (laid v bt) (soft (exps (scores q k bt ln))))
    transposes_S8x8x64x1_S8x1x8x64_0_3_1_2

/-- It is what the reference's run leaves. -/
theorem out_eq (m : (ℓ : Loc nD τ sig) → Buf (Elt Ideal) ℓ) (c : Dev nD) :
    Value.res_main_v38 m c
      = out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

/-- A start is the table's entry when that is the number of a page. -/
theorem starts_at (bt : IVec S8x64 32) (b : Fin 8) (s : Fin 64) (n : ℕ) (hn : n < 256) (h : bt (ix2 b s) = BitVec.ofNat 32 n) :
    starts bt (ix3 b s 0) = BitVec.ofNat 32 n := by
  have e : (BitVec.ofNat 32 n).slt 0#32 = false := by
    have h : (BitVec.ofNat 32 n).toInt = (n : ℤ) := by
      rw [BitVec.toInt_eq_toNat_of_lt (by simp; omega)]; simp; omega
    rw [BitVec.slt, h]; simp
  have r : starts bt (ix3 b s 0) = Scalar.select (IntOp.cmpi .slt (bt (ix2 b s)) 0#32) (IntOp.addi (bt (ix2 b s)) 256#32) (bt (ix2 b s)) := by
    pointwise [starts]
  rw [r, h]
  simp [Scalar.select, IntOp.cmpi, e]

/-- A gathered page is the page named. -/
theorem named5_at (x : FVec Ideal S256x16x8x64 .f32) (bt : IVec S8x64 32) (b : Fin 8) (s : Fin 64) (P : Fin 256)
    (hP : bt (ix2 b s) = BitVec.ofNat 32 P.val) (i : Fin 16) (h : Fin 8) (d : Fin 64) :
    named5 x bt (ix5 b s i h d) = x (ix4 P i h d) := by
  unfold named5 Host.gather
  refine congrArg x (funext fun a => Fin.ext ?_)
  have hb : ∀ a, GatherDims.batchCoord gather_S256x16x8x64_S8x64x1_S8x64x16x8x64_234_0_n_n_0_2_116864 (ix5 b s i h d) a = 0 :=
    fun a => GatherDims.batchCoord_eq_zero _ _ _ List.not_mem_nil
  show GatherDims.start gather_S256x16x8x64_S8x64x1_S8x64x16x8x64_234_0_n_n_0_2_116864 (ix5 b s i h d) (starts bt) a
    + GatherDims.batchCoord gather_S256x16x8x64_S8x64x1_S8x64x16x8x64_234_0_n_n_0_2_116864 (ix5 b s i h d) a
    + GatherDims.offCoord gather_S256x16x8x64_S8x64x1_S8x64x16x8x64_234_0_n_n_0_2_116864 (ix5 b s i h d) a = _
  rw [hb, Nat.add_zero]
  match a with
  | ⟨0, _⟩ =>
    have hs : GatherDims.siIdx gather_S256x16x8x64_S8x64x1_S8x64x16x8x64_234_0_n_n_0_2_116864 (ix5 b s i h d) ⟨0, by decide⟩ = ix3 b s 0 := by
      funext c
      refine Fin.ext ?_
      match c with
      | ⟨0, _⟩ => rfl
      | ⟨1, _⟩ => rfl
      | ⟨2, _⟩ => rfl
    have e : min (starts bt (GatherDims.siIdx gather_S256x16x8x64_S8x64x1_S8x64x16x8x64_234_0_n_n_0_2_116864 (ix5 b s i h d) ⟨0, by decide⟩)).toInt.toNat 255
        = P.val := by
      rw [hs, starts_at bt b s P.val P.isLt hP]
      have : (BitVec.ofNat 32 P.val).toInt = (P.val : ℤ) := by
        have := P.isLt
        rw [BitVec.toInt_eq_toNat_of_lt (by simp; omega)]; simp; omega
      rw [this]; simp; omega
    exact e
  | ⟨1, _⟩ => exact Nat.zero_add _
  | ⟨2, _⟩ => exact Nat.zero_add _
  | ⟨3, _⟩ => exact Nat.zero_add _

/-- A key laid out is the row of the page its slot names. -/
theorem laid_at (x : FVec Ideal S256x16x8x64 .f32) (bt : IVec S8x64 32) (b : Fin 8) (s : Fin 64) (P : Fin 256)
    (hP : bt (ix2 b s) = BitVec.ofNat 32 P.val) (i : Fin 16) (h : Fin 8) (d : Fin 64) :
    laid x bt (ix4 b (keyOf s i) h d) = x (ix4 P i h d) := by
  have e : ∀ k : Fin 1024, laid x bt (ix4 b k h d) = named5 x bt (ix5 b ⟨k.val / 16, by omega⟩ ⟨k.val % 16, by omega⟩ h d) := by
    intro k
    unfold laid
    generalize named5 x bt = y
    pointwise
  rw [e]
  have h1 : (⟨(keyOf s i).val / 16, by omega⟩ : Fin 64) = s := Fin.ext (by show (16 * s.val + i.val) / 16 = s.val; omega)
  have h2 : (⟨(keyOf s i).val % 16, by omega⟩ : Fin 16) = i := Fin.ext (by show (16 * s.val + i.val) % 16 = i.val; omega)
  rw [h1, h2]
  exact named5_at x bt b s P hP i h d

/-- The slot of a key, as the reference divides. -/
theorem slotOf_at (s : Fin 64) (i : Fin 16) : slotOf (ix2 0 (keyOf s i)) = BitVec.ofNat 32 s.val := by
  have e : ∀ k : Fin 1024, slotOf (ix2 0 k) = BitVec.ofNat 32 (k.val / 16) := by
    intro k
    pointwise [slotOf]
    revert k
    decide +kernel
  rw [e]
  have h1 : (keyOf s i).val / 16 = s.val := by show (16 * s.val + i.val) / 16 = s.val; omega
  rw [h1]

/-- What the reference reads, in terms of the whole arrays. -/
structure Holds (q : FVec Ideal S8x1x8x64 .f32) (k v : FVec Ideal S256x16x8x64 .f32) (bt : IVec S8x64 32) (ln : IVec S8 32) (g : Whole) : Prop where
  q : ∀ b h d, q (ix4 b 0 h d) = (g.Q b h d : EReal)
  k : ∀ P i h d, k (ix4 P i h d) = (g.K P i h d : EReal)
  v : ∀ P i h d, v (ix4 P i h d) = g.W P i h d
  bt : ∀ b s, bt (ix2 b s) = BitVec.ofNat 32 (g.t b s).val
  ln : ∀ b, ln (ix1 b) = g.l b

variable {q : FVec Ideal S8x1x8x64 .f32} {k v : FVec Ideal S256x16x8x64 .f32} {bt : IVec S8x64 32} {ln : IVec S8 32} {g : Whole}

/-- A key is kept when its slot is used. -/
theorem mask_at (H : Holds q k v bt ln g) (b h : Fin 8) (s : Fin 64) (i : Fin 16) :
    mask ln (ix4 b h 0 (keyOf s i)) = BitVec.ofBool (decide (g.used b s)) := by
  have e : mask ln (ix4 b h 0 (keyOf s i)) = IntOp.cmpi .slt (slotOf (ix2 0 (keyOf s i))) (ln (ix1 b)) := by pointwise [mask]
  rw [e, slotOf_at, H.ln]
  exact congrArg BitVec.ofBool Bool.decide_eq_true.symm

/-- The scores: the scaled products where the slot is used, minus infinity elsewhere. -/
theorem scores_at (H : Holds q k v bt ln g) (b h : Fin 8) (s : Fin 64) (i : Fin 16) :
    scores q k bt ln (ix4 b h 0 (keyOf s i)) = if g.used b s then ((g.sc b h (g.t b s) i : ℝ) : EReal) else ⊥ := by
  have e : scores q k bt ln (ix4 b h 0 (keyOf s i)) = Scalar.select (mask ln (ix4 b h 0 (keyOf s i)))
      ((∑ d, q (ix4 b 0 h d) * laid k bt (ix4 b (keyOf s i) h d)) * Ideal.ofBits FTy.f32 1040187392#32) (Ideal.ofBits FTy.f32 4286578688#32) := by
    pointwise [scores]
    rfl
  have e2 : (∑ d, q (ix4 b 0 h d) * laid k bt (ix4 b (keyOf s i) h d)) * Ideal.ofBits FTy.f32 1040187392#32 = ((g.sc b h (g.t b s) i : ℝ) : EReal) := by
    rw [scale_eq]
    unfold Whole.sc
    rw [EReal.coe_mul, coe_sum]
    congr 1
    refine Finset.sum_congr rfl fun d _ => ?_
    rw [laid_at k bt b s (g.t b s) (H.bt b s), H.q, H.k, EReal.coe_mul]
  rw [e, e2, neg_inf, mask_at H]
  by_cases hu : g.used b s <;> simp [hu, Scalar.select]

/-- A row's largest score. -/
def rowTop (s : FVec Ideal S8x8x1x1024 .f32) (b h : Fin 8) : EReal := Finset.fold max ⊥ (fun k => s (ix4 b h 0 k)) Finset.univ

/-- It is real where some slot is used. -/
theorem rowTop_real (H : Holds q k v bt ln g) (b h : Fin 8) (hu : ∃ s, g.used b s) : ∃ r : ℝ, rowTop (scores q k bt ln) b h = r := by
  refine fold_max_real _ _ (fun k => ?_) ?_
  · obtain ⟨s, i, rfl⟩ := keyOf_surj k
    rw [scores_at H]
    split
    · exact Or.inr ⟨_, rfl⟩
    · exact Or.inl rfl
  · obtain ⟨s, hs⟩ := hu
    exact ⟨keyOf s 0, Finset.mem_univ _, _, by rw [scores_at H, if_pos hs]⟩

/-- The exponentials. -/
theorem exps_at (H : Holds q k v bt ln g) (b h : Fin 8) {M : ℝ} (hM : rowTop (scores q k bt ln) b h = M) (s : Fin 64) (i : Fin 16) :
    exps (scores q k bt ln) (ix4 b h 0 (keyOf s i)) = ((slotTerm (g.sc b h) (g.t b) (g.used b) M s i : ℝ) : EReal) := by
  have e : ∀ x : FVec Ideal S8x8x1x1024 .f32, exps x (ix4 b h 0 (keyOf s i)) = Ideal.exp (x (ix4 b h 0 (keyOf s i)) - rowTop x b h) := by
    intro x
    unfold rowTop
    rw [← neg_inf]
    pointwise [exps]
  rw [e, hM, scores_at H]
  unfold slotTerm
  split
  · rw [← EReal.coe_sub, Ideal.exp_coe]
  · rw [EReal.bot_sub, Ideal.exp_bot]; rfl

/-- The result: the values against the softmax, summed over slots and rows. -/
theorem out_at (H : Holds q k v bt ln g) (b h : Fin 8) (d : Fin 64) {M : ℝ} (hM : rowTop (scores q k bt ln) b h = M) :
    out q k v bt ln (ix4 b 0 h d)
      = ∑ s, ∑ i, g.W (g.t b s) i h d * Ideal.div ((slotTerm (g.sc b h) (g.t b) (g.used b) M s i : ℝ) : EReal)
          (∑ s, ∑ i, ((slotTerm (g.sc b h) (g.t b) (g.used b) M s i : ℝ) : EReal)) := by
  have e : ∀ x : FVec Ideal S8x8x1x1024 .f32, ∀ k, soft x (ix4 b h 0 k) = Ideal.div (x (ix4 b h 0 k)) (∑ k, x (ix4 b h 0 k)) := by
    intro x k
    pointwise [soft]
  have e2 : out q k v bt ln (ix4 b 0 h d) = ∑ k', laid v bt (ix4 b k' h d) * soft (exps (scores q k bt ln)) (ix4 b h 0 k') := by
    pointwise [out]
  have e3 : ∑ k', exps (scores q k bt ln) (ix4 b h 0 k') = ∑ s, ∑ i, ((slotTerm (g.sc b h) (g.t b) (g.used b) M s i : ℝ) : EReal) := by
    rw [sum_keys]
    exact Finset.sum_congr rfl fun s _ => Finset.sum_congr rfl fun i _ => exps_at H b h hM s i
  rw [e2, sum_keys]
  refine Finset.sum_congr rfl fun s _ => Finset.sum_congr rfl fun i _ => ?_
  rw [e, e3, exps_at H b h hM, laid_at v bt b s (g.t b s) (H.bt b s), H.v]

end Cert.PagedMerge.Ref

end
-- ==== Proof.Value.lean ====
module

public import proofs.«01_k».proof.Proof.Frames
public import proofs.«01_k».proof.Proof.InsValue
public import proofs.«01_k».proof.Proof.RefValue
public import proofs.«01_k».proof.Proof.PreRead

set_option maxRecDepth 16384

@[expose] public section

/-!
# The kernel on the mesh computes the reference

Over the extended reals and under the precondition, every device ends with the array the reference computes on one
device from the whole stores: both are the softmax-weighted sum over the slots of the table.
-/

noncomputable section

namespace Cert.PagedMerge

open Idealize.ShloMosaic Idealize.ShloMosaic.TcCoe Idealize.SL.Sem
open Cert.KernelIdeal Cert.KernelIdeal.Gen

attribute [local instance] pre_facts pre_facts_reference

/-- A device's block of a whole store, at an index. -/
theorem block_at {α : Type} (f : (⟨4, ![256, 16, 8, 64]⟩ : Shape).Idx → α) (c : Dev nD) (p : Fin 64) (i : Fin 16) (h : Fin 8) (d : Fin 64) :
    (Layout.blockN ⟨4, ![64, 16, 8, 64]⟩ ⟨4, ![256, 16, 8, 64]⟩ (Layout.meshBlock [2, 2, 4] ![[2], [], [], []] c) f) (ix4 p i h d)
      = f (ix4 (pageOf (rangeOf c) p) i h d) := by
  rw [Layout.blockN_apply]
  refine congrArg f (funext fun a => Fin.ext ?_)
  rw [Layout.TilesN.idx_val]
  have hc : Layout.meshLin [2, 2, 4] c.val [2] = c.val % 4 := by revert c; decide
  match a with
  | ⟨0, _⟩ =>
    show Layout.meshLin [2, 2, 4] c.val [2] * 64 + p.val = 64 * (c.val % 4) + p.val
    rw [hc, Nat.mul_comm]
  | ⟨1, _⟩ => show 0 * 16 + i.val = i.val; omega
  | ⟨2, _⟩ => show 0 * 8 + h.val = h.val; omega
  | ⟨3, _⟩ => show 0 * 64 + d.val = d.val; omega

section

variable (q : FVec Ideal S8x1x8x64 .f32) (k v : FVec Ideal ⟨4, ![256, 16, 8, 64]⟩ .f32) (bt : IVec S8x64 32) (ln : IVec S8 32)

/-- The whole arrays, as reals and page numbers where they are such. -/
def wholeOf : Whole where
  Q b h d := (q (ix4 b 0 h d)).toReal
  K P i h d := (k (ix4 P i h d)).toReal
  W P i h d := v (ix4 P i h d)
  t b s := ⟨(bt (ix2 b s)).toNat % 256, Nat.mod_lt _ (by decide)⟩
  l b := ln (ix1 b)

/-- An entry that is the number of a page is the number of the page read off it. -/
theorem entry_eq {w : BitVec 32} (h : ∃ P : Fin 256, w = BitVec.ofNat 32 P.val) : w = BitVec.ofNat 32 (w.toNat % 256) := by
  obtain ⟨P, rfl⟩ := h
  have := P.isLt
  congr 1
  simp
  omega

/-- The reference holds the whole arrays. -/
theorem holds_whole (hb : ∀ b s, ∃ P : Fin 256, bt (ix2 b s) = BitVec.ofNat 32 P.val)
    (hq : ∀ i, (((q i).toReal : ℝ) : EReal) = q i) (hk : ∀ P i h d, (((k (ix4 P i h d)).toReal : ℝ) : EReal) = k (ix4 P i h d)) :
    Ref.Holds q k v bt ln (wholeOf q k v bt ln) where
  q b h d := (hq _).symm
  k P i h d := (hk P i h d).symm
  v P i h d := rfl
  bt b s := entry_eq (hb b s)
  ln b := rfl

end

/-- Every page of the store is a page of a range, and a device holds that range. -/
theorem page_split (P : Fin 256) : ∃ (c : Dev nD) (p : Fin 64), pageOf (rangeOf c) p = P :=
  ⟨⟨P.val / 64, by have := P.isLt; show P.val / 64 < 16; omega⟩, ⟨P.val % 64, Nat.mod_lt _ (by decide)⟩, Fin.ext (by
    show 64 * (P.val / 64 % 4) + P.val % 64 = P.val
    have := P.isLt; omega)⟩

/-- Every device ends with the reference's result. -/
theorem res_eq (m : (ℓ : Loc nD τ sig) → Buf (Elt Ideal) ℓ)
    (q : FVec Ideal S8x1x8x64 .f32) (k v : FVec Ideal ⟨4, ![256, 16, 8, 64]⟩ .f32) (bt : IVec S8x64 32) (ln : IVec S8 32)
    (hpre : Cert.Pre_KernelIdeal_defined_inputs_KernelIdeal m)
    (hm : ∀ c : Dev nD, m ((c : Thread nD τ).loc main_arg0) = q
      ∧ m ((c : Thread nD τ).loc main_arg1) = Layout.blockN ⟨4, ![64, 16, 8, 64]⟩ ⟨4, ![256, 16, 8, 64]⟩ (Layout.meshBlock [2, 2, 4] ![[2], [], [], []] c) k
      ∧ m ((c : Thread nD τ).loc main_arg2) = Layout.blockN ⟨4, ![64, 16, 8, 64]⟩ ⟨4, ![256, 16, 8, 64]⟩ (Layout.meshBlock [2, 2, 4] ![[2], [], [], []] c) v
      ∧ m ((c : Thread nD τ).loc main_arg3) = bt
      ∧ m ((c : Thread nD τ).loc main_arg4) = ln) (c : Dev nD) :
    resOf m c = Ref.out q k v bt ln := by
  have P := fun c => pre_read _ _ _ _ _ (hpre c)
  have hb : ∀ b s, ∃ P : Fin 256, bt (ix2 b s) = BitVec.ofNat 32 P.val := by
    have := (P 0).1
    rw [(hm 0).2.2.2.1] at this
    exact this
  have hl : ∀ b, 1 ≤ (ln (ix1 b)).toInt := by
    have := (P 0).2.1
    rw [(hm 0).2.2.2.2] at this
    exact this
  have hq : ∀ i, (((q i).toReal : ℝ) : EReal) = q i := by
    have := (P 0).2.2.1
    rw [(hm 0).1] at this
    exact this
  have hk : ∀ P i h d, (((k (ix4 P i h d)).toReal : ℝ) : EReal) = k (ix4 P i h d) := by
    intro Q i h d
    obtain ⟨c, p, rfl⟩ := page_split Q
    have := (P c).2.2.2 (ix4 p i h d)
    rw [(hm c).2.1, block_at] at this
    exact this
  have H := holds_whole q k v bt ln hb hq hk
  have R : ∀ c, Reads (insOf m c) (rangeOf c) (wholeOf q k v bt ln) := fun c =>
    { q := fun b h d => by rw [ins_q, (hm c).1]; exact H.q b h d
      k := fun h p i d => by rw [ins_k, (hm c).2.1, block_at]; exact H.k _ i h d
      v := fun h p i d => by rw [ins_v, (hm c).2.2.1, block_at]; exact H.v _ i h d
      bt := fun b s => by rw [ins_bt, (hm c).2.2.2.1]; exact H.bt b s
      ln := fun b => by rw [ins_ln, (hm c).2.2.2.2]; exact H.ln b
      base := ins_base m c }
  have hu : ∀ b, ∃ s, (wholeOf q k v bt ln).used b s := by
    intro b
    refine ⟨0, ?_⟩
    show BitVec.slt 0#32 (ln (ix1 b)) = true
    have := hl b
    rw [BitVec.slt]
    simp
    omega
  funext j
  have hj : j = ix4 (j 0) 0 (j 2) (j 3) := by
    funext a
    match a with
    | ⟨0, _⟩ => rfl
    | ⟨1, _⟩ => exact Subsingleton.elim (α := Fin 1) _ _
    | ⟨2, _⟩ => rfl
    | ⟨3, _⟩ => rfl
  rw [hj]
  obtain ⟨M, hM⟩ := Ref.rowTop_real H (j 0) (j 2) (hu (j 0))
  exact (outAll_at (ranges_bij c) (fun a => R (srcD c a)) (j 0) (j 2) (j 3) (hu (j 0)) M).trans (Ref.out_at H (j 0) (j 2) (j 3) hM).symm

/-- The claim of values. -/
theorem value : Cert.algebraic_KernelIdeal_ReferenceIdeal_pre_defined_inputs_KernelIdeal := by
  intro m ρ m' ρ' hpre hm
  refine ⟨_, (θ_run Cert.KernelIdeal.defs _ _).mono (fun r h c => ⟨((h.1 c).2).trans ((res_eq m _ _ _ _ _ hpre hm c).trans
      (Ref.out_eq m' 0).symm), (h.1 c).1⟩) (run_main (F := Ideal) m ρ),
    (θ_run Cert.ReferenceIdeal.defs _ _).mono (fun r h => h 0) (Cert.ReferenceIdeal.Value.run (F := Ideal) m' ρ')⟩

/-- The kernel's frame, the precondition assumed. -/
theorem frame_ideal_pre : Cert.quiescent_KernelIdeal_pre_defined_inputs_KernelIdeal :=
  fun m ρ _ => (θ_run Cert.KernelIdeal.defs _ _).mono (fun _ h => ⟨fun c => (h.1 c).1, h.2⟩) (run_main (F := Ideal) m ρ)

/-- The reference's frame, the precondition assumed. -/
theorem frame_reference_pre : Cert.quiescent_ReferenceIdeal_pre_defined_inputs_ReferenceIdeal :=
  fun m ρ _ => frame_reference m ρ trivial

end Cert.PagedMerge

end
-- ==== Proof.lean ====
module

public import proofs.«01_k».proof.Defs
public import proofs.«01_k».proof.Proof.Frames
public import proofs.«01_k».proof.Proof.PreRead
public import proofs.«01_k».proof.Proof.Value
public import proofs.«01_k».proof.Proof.Gen.Kernel
public import proofs.«01_k».proof.Proof.Gen.KernelIdeal
public import proofs.«01_k».proof.Proof.Gen.ReferenceIdeal

@[expose] public section

noncomputable section

namespace Cert.Proof

open Cert.PagedMerge

/-- Everything claimed: the frames, that the ideal program is the kernel, and that it computes the reference. -/
theorem claim : Cert.Claim :=
  ⟨Cert.Kernel.Gen.facts, Cert.KernelIdeal.Gen.facts, Cert.ReferenceIdeal.Gen.facts, pre_facts, pre_facts_reference,
    frame_kernel, frame_ideal, frame_ideal_pre, frame_reference, frame_reference_pre, trivial, value⟩

end Cert.Proof

end
